-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.2.1 = (fun _ => 1#1)
    ∧ (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7))).2.2.2.2.2 = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.1 = (fun _ => 1#1)
    ∧ (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.1 = (fun _ => 1#1)
    ∧ (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v58) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S17408x5120 : Shape := ⟨2, ![17408, 5120]⟩
abbrev S64 : Shape := ⟨1, ![64]⟩
abbrev S17408x4608 : Shape := ⟨2, ![17408, 4608]⟩
abbrev S_ : Shape := ⟨0, ![]⟩

class Facts : Prop where
  slices_S17408x5120_S17408x4608_0_0 : S17408x5120.Slices ![0, 0] S17408x4608
  bcast_S_S17408x4608 : S_.BroadcastsInDim S17408x4608 (![] : Fin 0 → Fin S17408x4608.rank)
  bcast_S_S64 : S_.BroadcastsInDim S64 (![] : Fin 0 → Fin S64.rank)

variable [Facts]

def fn {F : FTy → Type} [FloatOps F] (main_arg0 : FVec F S17408x5120 .bf16) (main_arg1 : FVec F S64 .f32) : IVec S17408x4608 1 × IVec S64 1 :=
  let main_v0 : FVec F S17408x4608 .bf16 := (extractStridedSlice S17408x4608 ![0, 0] · slices_S17408x5120_S17408x4608_0_0) main_arg0
  let main_v1 : FVec F S17408x4608 .bf16 := Host.absf main_v0
  let main_cst : FVec F S_ .bf16 := constant S_ .bf16 0x7F80#16
  let main_v2 : FVec F S17408x4608 .bf16 := broadcastInDim S17408x4608 ![] bcast_S_S17408x4608 main_cst
  let main_v3 : IVec S17408x4608 1 := cmpf .olt main_v1 main_v2
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  (main_v3, main_v6)
-- ==== Pre_in_range.lean ====
abbrev S17408x4096 : Shape := ⟨2, ![17408, 4096]⟩
abbrev S152 : Shape := ⟨1, ![152]⟩
abbrev S38912 : Shape := ⟨1, ![38912]⟩
abbrev S38912x1 : Shape := ⟨2, ![38912, 1]⟩
abbrev S16x4096x768 : Shape := ⟨3, ![16, 4096, 768]⟩
abbrev S16x768x4096 : Shape := ⟨3, ![16, 768, 4096]⟩
abbrev S_ : Shape := ⟨0, ![]⟩

class Facts : Prop where
  bcast_S_S152 : S_.BroadcastsInDim S152 (![] : Fin 0 → Fin S152.rank)
  bcast_S_S38912 : S_.BroadcastsInDim S38912 (![] : Fin 0 → Fin S38912.rank)

variable [Facts]

def fn {F : FTy → Type} [FloatOps F] (main_arg0 : FVec F S17408x4096 .f32) (main_arg1 : IVec S152 32) (main_arg2 : IVec S152 32) (main_arg3 : IVec S38912 32) (main_arg4 : FVec F S38912x1 .f32) (main_arg5 : FVec F S16x4096x768 .bf16) (main_arg6 : FVec F S16x4096x768 .bf16) (main_arg7 : FVec F S16x768x4096 .bf16) : IVec S152 1 × IVec S152 1 × IVec S152 1 × IVec S152 1 × IVec S38912 1 × IVec S38912 1 :=
  let main_c : IVec S_ 32 := constantI S_ 32 0#32
  let main_v0 : IVec S152 32 := broadcastInDim S152 ![] bcast_S_S152 main_c
  let main_v1 : IVec S152 1 := cmpi .sge main_arg1 main_v0
  let main_c_0 : IVec S_ 32 := constantI S_ 32 16#32
  let main_v2 : IVec S152 32 := broadcastInDim S152 ![] bcast_S_S152 main_c_0
  let main_v3 : IVec S152 1 := cmpi .slt main_arg1 main_v2
  let main_c_1 : IVec S_ 32 := constantI S_ 32 0#32
  let main_v4 : IVec S152 32 := broadcastInDim S152 ![] bcast_S_S152 main_c_1
  let main_v5 : IVec S152 1 := cmpi .sge main_arg2 main_v4
  let main_c_2 : IVec S_ 32 := constantI S_ 32 1#32
  let main_v6 : IVec S152 32 := broadcastInDim S152 ![] bcast_S_S152 main_c_2
  let main_v7 : IVec S152 1 := cmpi .sle main_arg2 main_v6
  let main_c_3 : IVec S_ 32 := constantI S_ 32 0#32
  let main_v8 : IVec S38912 32 := broadcastInDim S38912 ![] bcast_S_S38912 main_c_3
  let main_v9 : IVec S38912 1 := cmpi .sge main_arg3 main_v8
  let main_c_4 : IVec S_ 32 := constantI S_ 32 17408#32
  let main_v10 : IVec S38912 32 := broadcastInDim S38912 ![] bcast_S_S38912 main_c_4
  let main_v11 : IVec S38912 1 := cmpi .slt main_arg3 main_v10
  (main_v1, main_v3, main_v5, main_v7, main_v9, main_v11)
-- ==== Kernel.lean ====
abbrev S17408x5120 : Shape := ⟨2, ![17408, 5120]⟩
abbrev S64 : Shape := ⟨1, ![64]⟩
abbrev S17408x4096 : Shape := ⟨2, ![17408, 4096]⟩
abbrev S128x1024 : Shape := ⟨2, ![128, 1024]⟩
abbrev S128x128 : Shape := ⟨2, ![128, 128]⟩
abbrev S256x128 : Shape := ⟨2, ![256, 128]⟩
abbrev S128x640 : Shape := ⟨2, ![128, 640]⟩
abbrev S128x64 : Shape := ⟨2, ![128, 64]⟩
abbrev S256x64 : Shape := ⟨2, ![256, 64]⟩
abbrev S640x64 : Shape := ⟨2, ![640, 64]⟩
abbrev S1 : Shape := ⟨1, ![1]⟩
abbrev S128 : Shape := ⟨1, ![128]⟩
abbrev S128x1 : Shape := ⟨2, ![128, 1]⟩

abbrev nBuf : Space → Nat
  | .hbm => 3
  | .vmem => 20
  | .smem => 1
  | _ => 0

abbrev bufTy : (tb : Table) → Fin (tcTables nBuf tb) → BufTy
  | .hbm, ⟨0, _⟩ => ⟨S17408x5120, .bf16⟩
  | .hbm, ⟨1, _⟩ => ⟨S64, .f32⟩
  | .hbm, ⟨2, _⟩ => ⟨S17408x4096, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .bf16⟩
  | .local _ .vmem, ⟨11, _⟩ => ⟨S128x128, .bf16⟩
  | .local _ .vmem, ⟨12, _⟩ => ⟨S128x128, .bf16⟩
  | .local _ .vmem, ⟨13, _⟩ => ⟨S128x128, .bf16⟩
  | .local _ .vmem, ⟨14, _⟩ => ⟨S256x128, .bf16⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S128x1024, .bf16⟩
  | .local _ .vmem, ⟨19, _⟩ => ⟨S128x1024, .bf16⟩
  | .local _ .smem, ⟨0, _⟩ => ⟨S64, .f32⟩
  | _, _ => ⟨S17408x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨3, ![4, 34, 4], ![false, false, false]⟩

def k0_off1 (i : grid0.Coords) (c0_i32_22 : BitVec 32) : Fin 1 → Nat :=
  let arg2 : BitVec 32 := BitVec.ofNat 32 (i 2).val
  let c2_i32_21 : BitVec 32 := 2#32
  let v36 : BitVec 32 := Scalar.muli arg2 c2_i32_21
  let c8_i32 : BitVec 32 := 8#32
  let v37 : BitVec 32 := Scalar.muli v36 c8_i32
  let v38 : BitVec 32 := Scalar.addi v37 c0_i32_22
  let v39 : Index := Scalar.indexCast v38
  ![v39.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c32_i32 : BitVec 32 := 32#32
  let v3 : BitVec 32 := Scalar.muli arg0 c32_i32
  let c8_i32 : BitVec 32 := 8#32
  let v4 : BitVec 32 := Scalar.addi c8_i32 v3
  let v5 : BitVec 32 := Scalar.addi v4 arg1
  let c2_i32_1 : BitVec 32 := 2#32
  let v6 : BitVec 32 := Scalar.subi v5 c2_i32_1
  let v7 : BitVec 32 := Scalar.select v0 v2 v6
  let c0_i32 : BitVec 32 := 0#32
  ![v7.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c8_i32 : BitVec 32 := 8#32
  let v1 : BitVec 32 := Scalar.addi c8_i32 v0
  let c2_i32 : BitVec 32 := 2#32
  let v2 : BitVec 32 := Scalar.subi arg1 c2_i32
  let c_m1_i32 : BitVec 32 := 4294967295#32
  let v3 : BitVec 32 := Scalar.addi v2 c_m1_i32
  let c0_i32 : BitVec 32 := 0#32
  let c31_i32 : BitVec 32 := 31#32
  let v4 : BitVec 32 := Scalar.maxsi c0_i32 v3
  let v5 : BitVec 32 := Scalar.minsi c31_i32 v4
  let v6 : BitVec 32 := Scalar.addi v1 v5
  let c32_i32_0 : BitVec 32 := 32#32
  let v7 : BitVec 32 := Scalar.addi c32_i32_0 arg2
  let c0_i32_1 : BitVec 32 := 0#32
  ![v6.toNat, v7.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c8_i32 : BitVec 32 := 8#32
  let v1 : BitVec 32 := Scalar.addi c8_i32 v0
  let c2_i32 : BitVec 32 := 2#32
  let v2 : BitVec 32 := Scalar.subi arg1 c2_i32
  let c0_i32 : BitVec 32 := 0#32
  let v3 : BitVec 32 := Scalar.addi v2 c0_i32
  let c0_i32_0 : BitVec 32 := 0#32
  let c31_i32 : BitVec 32 := 31#32
  let v4 : BitVec 32 := Scalar.maxsi c0_i32_0 v3
  let v5 : BitVec 32 := Scalar.minsi c31_i32 v4
  let v6 : BitVec 32 := Scalar.addi v1 v5
  let c32_i32_1 : BitVec 32 := 32#32
  let v7 : BitVec 32 := Scalar.addi c32_i32_1 arg2
  let c0_i32_2 : BitVec 32 := 0#32
  ![v6.toNat, v7.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c8_i32 : BitVec 32 := 8#32
  let v1 : BitVec 32 := Scalar.addi c8_i32 v0
  let c2_i32 : BitVec 32 := 2#32
  let v2 : BitVec 32 := Scalar.subi arg1 c2_i32
  let c1_i32 : BitVec 32 := 1#32
  let v3 : BitVec 32 := Scalar.addi v2 c1_i32
  let c0_i32 : BitVec 32 := 0#32
  let c31_i32 : BitVec 32 := 31#32
  let v4 : BitVec 32 := Scalar.maxsi c0_i32 v3
  let v5 : BitVec 32 := Scalar.minsi c31_i32 v4
  let v6 : BitVec 32 := Scalar.addi v1 v5
  let c32_i32_0 : BitVec 32 := 32#32
  let v7 : BitVec 32 := Scalar.addi c32_i32_0 arg2
  let c0_i32_1 : BitVec 32 := 0#32
  ![v6.toNat, v7.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c8_i32 : BitVec 32 := 8#32
  let v1 : BitVec 32 := Scalar.addi c8_i32 v0
  let c2_i32 : BitVec 32 := 2#32
  let v2 : BitVec 32 := Scalar.subi arg1 c2_i32
  let c_m1_i32 : BitVec 32 := 4294967295#32
  let v3 : BitVec 32 := Scalar.addi v2 c_m1_i32
  let c0_i32 : BitVec 32 := 0#32
  let c31_i32 : BitVec 32 := 31#32
  let v4 : BitVec 32 := Scalar.maxsi c0_i32 v3
  let v5 : BitVec 32 := Scalar.minsi c31_i32 v4
  let v6 : BitVec 32 := Scalar.addi v1 v5
  let c36_i32 : BitVec 32 := 36#32
  let v7 : BitVec 32 := Scalar.addi c36_i32 arg2
  let c0_i32_0 : BitVec 32 := 0#32
  ![v6.toNat, v7.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c8_i32 : BitVec 32 := 8#32
  let v1 : BitVec 32 := Scalar.addi c8_i32 v0
  let c2_i32 : BitVec 32 := 2#32
  let v2 : BitVec 32 := Scalar.subi arg1 c2_i32
  let c0_i32 : BitVec 32 := 0#32
  let v3 : BitVec 32 := Scalar.addi v2 c0_i32
  let c0_i32_0 : BitVec 32 := 0#32
  let c31_i32 : BitVec 32 := 31#32
  let v4 : BitVec 32 := Scalar.maxsi c0_i32_0 v3
  let v5 : BitVec 32 := Scalar.minsi c31_i32 v4
  let v6 : BitVec 32 := Scalar.addi v1 v5
  let c36_i32 : BitVec 32 := 36#32
  let v7 : BitVec 32 := Scalar.addi c36_i32 arg2
  let c0_i32_1 : BitVec 32 := 0#32
  ![v6.toNat, v7.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c8_i32 : BitVec 32 := 8#32
  let v1 : BitVec 32 := Scalar.addi c8_i32 v0
  let c2_i32 : BitVec 32 := 2#32
  let v2 : BitVec 32 := Scalar.subi arg1 c2_i32
  let c1_i32 : BitVec 32 := 1#32
  let v3 : BitVec 32 := Scalar.addi v2 c1_i32
  let c0_i32 : BitVec 32 := 0#32
  let c31_i32 : BitVec 32 := 31#32
  let v4 : BitVec 32 := Scalar.maxsi c0_i32 v3
  let v5 : BitVec 32 := Scalar.minsi c31_i32 v4
  let v6 : BitVec 32 := Scalar.addi v1 v5
  let c36_i32 : BitVec 32 := 36#32
  let v7 : BitVec 32 := Scalar.addi c36_i32 arg2
  let c0_i32_0 : BitVec 32 := 0#32
  ![v6.toNat, v7.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg2
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c36_i32 : BitVec 32 := 36#32
  let v0 : BitVec 32 := Scalar.addi c36_i32 arg2
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg1 c2_i32
  let c2_i32_0 : BitVec 32 := 2#32
  let v1 : BitVec 32 := Scalar.muli arg0 c2_i32_0
  let v2 : BitVec 32 := Scalar.addi v1 arg1
  let c32_i32 : BitVec 32 := 32#32
  let v3 : BitVec 32 := Scalar.muli arg0 c32_i32
  let c8_i32 : BitVec 32 := 8#32
  let v4 : BitVec 32 := Scalar.addi c8_i32 v3
  let v5 : BitVec 32 := Scalar.addi v4 arg1
  let c2_i32_1 : BitVec 32 := 2#32
  let v6 : BitVec 32 := Scalar.subi v5 c2_i32_1
  let v7 : BitVec 32 := Scalar.select v0 v2 v6
  let c0_i32 : BitVec 32 := 0#32
  ![v7.toNat, arg2.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S17408x5120 : Shape := ⟨2, ![17408, 5120]⟩
abbrev S64 : Shape := ⟨1, ![64]⟩
abbrev S8x8 : Shape := ⟨2, ![8, 8]⟩
abbrev S1024x5120 : Shape := ⟨2, ![1024, 5120]⟩
abbrev S1024x4096 : Shape := ⟨2, ![1024, 4096]⟩
abbrev S4x256x8x8x64 : Shape := ⟨5, ![4, 256, 8, 8, 64]⟩
abbrev S1024x512 : Shape := ⟨2, ![1024, 512]⟩
abbrev S4x256x8x64 : Shape := ⟨4, ![4, 256, 8, 64]⟩
abbrev S16384x5120 : Shape := ⟨2, ![16384, 5120]⟩
abbrev S16384x4096 : Shape := ⟨2, ![16384, 4096]⟩
abbrev S4x4096x8x8x64 : Shape := ⟨5, ![4, 4096, 8, 8, 64]⟩
abbrev S16384x512 : Shape := ⟨2, ![16384, 512]⟩
abbrev S4x4096x8x64 : Shape := ⟨4, ![4, 4096, 8, 64]⟩
abbrev S4x8x256x256x8 : Shape := ⟨5, ![4, 8, 256, 256, 8]⟩
abbrev S4x8x8x256x256 : Shape := ⟨5, ![4, 8, 8, 256, 256]⟩
abbrev S_ : Shape := ⟨0, ![]⟩
abbrev S1x8x8x1x1 : Shape := ⟨5, ![1, 8, 8, 1, 1]⟩
abbrev S4x8x8x256x1 : Shape := ⟨5, ![4, 8, 8, 256, 1]⟩
abbrev S4x8x8x256x257 : Shape := ⟨5, ![4, 8, 8, 256, 257]⟩
abbrev S4x8x8x256 : Shape := ⟨4, ![4, 8, 8, 256]⟩
abbrev S4x8x64x8x256 : Shape := ⟨5, ![4, 8, 64, 8, 256]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x4096x4096x8 : Shape := ⟨5, ![4, 8, 4096, 4096, 8]⟩
abbrev S4x8x8x4096x4096 : Shape := ⟨5, ![4, 8, 8, 4096, 4096]⟩
abbrev S4x8x256x4096x8 : Shape := ⟨5, ![4, 8, 256, 4096, 8]⟩
abbrev S4x8x8x4096x256 : Shape := ⟨5, ![4, 8, 8, 4096, 256]⟩
abbrev S4x8x8x4096x4352 : Shape := ⟨5, ![4, 8, 8, 4096, 4352]⟩
abbrev S4x8x8x4096x1 : Shape := ⟨5, ![4, 8, 8, 4096, 1]⟩
abbrev S4x8x8x4096x4353 : Shape := ⟨5, ![4, 8, 8, 4096, 4353]⟩
abbrev S4x8x8x4096 : Shape := ⟨4, ![4, 8, 8, 4096]⟩
abbrev S4x8x64x8x4096 : Shape := ⟨5, ![4, 8, 64, 8, 4096]⟩
abbrev S17408x4096 : Shape := ⟨2, ![17408, 4096]⟩

abbrev nBuf : Space → Nat
  | .hbm => 98
  | .vmem => 0
  | .smem => 0
  | _ => 0

abbrev bufTy : (tb : Table) → Fin (tcTables nBuf tb) → BufTy
  | .hbm, ⟨0, _⟩ => ⟨S17408x5120, .bf16⟩
  | .hbm, ⟨1, _⟩ => ⟨S64, .f32⟩
  | .hbm, ⟨2, _⟩ => ⟨S17408x5120, .f32⟩
  | .hbm, ⟨3, _⟩ => ⟨S8x8, .f32⟩
  | .hbm, ⟨4, _⟩ => ⟨S1024x5120, .f32⟩
  | .hbm, ⟨5, _⟩ => ⟨S1024x4096, .f32⟩
  | .hbm, ⟨6, _⟩ => ⟨S4x256x8x8x64, .f32⟩
  | .hbm, ⟨7, _⟩ => ⟨S1024x512, .f32⟩
  | .hbm, ⟨8, _⟩ => ⟨S4x256x8x64, .f32⟩
  | .hbm, ⟨9, _⟩ => ⟨S1024x512, .f32⟩
  | .hbm, ⟨10, _⟩ => ⟨S4x256x8x64, .f32⟩
  | .hbm, ⟨11, _⟩ => ⟨S16384x5120, .f32⟩
  | .hbm, ⟨12, _⟩ => ⟨S16384x4096, .f32⟩
  | .hbm, ⟨13, _⟩ => ⟨S4x4096x8x8x64, .f32⟩
  | .hbm, ⟨14, _⟩ => ⟨S16384x512, .f32⟩
  | .hbm, ⟨15, _⟩ => ⟨S4x4096x8x64, .f32⟩
  | .hbm, ⟨16, _⟩ => ⟨S16384x512, .f32⟩
  | .hbm, ⟨17, _⟩ => ⟨S4x4096x8x64, .f32⟩
  | .hbm, ⟨18, _⟩ => ⟨S4x8x256x256x8, .f32⟩
  | .hbm, ⟨19, _⟩ => ⟨S4x8x8x256x256, .f32⟩
  | .hbm, ⟨20, _⟩ => ⟨S_, .f32⟩
  | .hbm, ⟨21, _⟩ => ⟨S4x8x8x256x256, .f32⟩
  | .hbm, ⟨22, _⟩ => ⟨S4x8x8x256x256, .f32⟩
  | .hbm, ⟨23, _⟩ => ⟨S1x8x8x1x1, .f32⟩
  | .hbm, ⟨24, _⟩ => ⟨S4x8x8x256x1, .f32⟩
  | .hbm, ⟨25, _⟩ => ⟨S4x8x8x256x257, .f32⟩
  | .hbm, ⟨26, _⟩ => ⟨S_, .f32⟩
  | .hbm, ⟨27, _⟩ => ⟨S4x8x8x256, .f32⟩
  | .hbm, ⟨28, _⟩ => ⟨S_, .f32⟩
  | .hbm, ⟨29, _⟩ => ⟨S4x8x8x256, .f32⟩
  | .hbm, ⟨30, _⟩ => ⟨S4x8x8x256, .f32⟩
  | .hbm, ⟨31, _⟩ => ⟨S4x8x8x256x1, .f32⟩
  | .hbm, ⟨32, _⟩ => ⟨S4x8x8x256x257, .f32⟩
  | .hbm, ⟨33, _⟩ => ⟨S4x8x8x256x257, .f32⟩
  | .hbm, ⟨34, _⟩ => ⟨S4x8x8x256x257, .f32⟩
  | .hbm, ⟨35, _⟩ => ⟨S_, .f32⟩
  | .hbm, ⟨36, _⟩ => ⟨S4x8x8x256, .f32⟩
  | .hbm, ⟨37, _⟩ => ⟨S4x8x8x256x1, .f32⟩
  | .hbm, ⟨38, _⟩ => ⟨S4x8x8x256x257, .f32⟩
  | .hbm, ⟨39, _⟩ => ⟨S4x8x8x256x257, .f32⟩
  | .hbm, ⟨40, _⟩ => ⟨S4x8x8x256x256, .f32⟩
  | .hbm, ⟨41, _⟩ => ⟨S4x8x64x8x256, .f32⟩
  | .hbm, ⟨42, _⟩ => ⟨S4x256x8x8x64, .f32⟩
  | .hbm, ⟨43, _⟩ => ⟨S4096, .i32⟩
  | .hbm, ⟨44, _⟩ => ⟨S1x4096, .i32⟩
  | .hbm, ⟨45, _⟩ => ⟨S4096x1, .i32⟩
  | .hbm, ⟨46, _⟩ => ⟨S4096x4096, .i32⟩
  | .hbm, ⟨47, _⟩ => ⟨S4096x4096, .i32⟩
  | .hbm, ⟨48, _⟩ => ⟨S4096x4096, .i32⟩
  | .hbm, ⟨49, _⟩ => ⟨S4096x4096, .i32⟩
  | .hbm, ⟨50, _⟩ => ⟨S_, .i32⟩
  | .hbm, ⟨51, _⟩ => ⟨S4096x4096, .i32⟩
  | .hbm, ⟨52, _⟩ => ⟨S4096x4096, .i1⟩
  | .hbm, ⟨53, _⟩ => ⟨S4x8x4096x4096x8, .f32⟩
  | .hbm, ⟨54, _⟩ => ⟨S4x8x8x4096x4096, .f32⟩
  | .hbm, ⟨55, _⟩ => ⟨S_, .f32⟩
  | .hbm, ⟨56, _⟩ => ⟨S4x8x8x4096x4096, .f32⟩
  | .hbm, ⟨57, _⟩ => ⟨S4x8x8x4096x4096, .f32⟩
  | .hbm, ⟨58, _⟩ => ⟨S_, .f32⟩
  | .hbm, ⟨59, _⟩ => ⟨S_, .f32⟩
  | .hbm, ⟨60, _⟩ => ⟨S4x8x8x4096x4096, .i1⟩
  | .hbm, ⟨61, _⟩ => ⟨S4x8x8x4096x4096, .f32⟩
  | .hbm, ⟨62, _⟩ => ⟨S4x8x8x4096x4096, .f32⟩
  | .hbm, ⟨63, _⟩ => ⟨S4x8x256x4096x8, .f32⟩
  | .hbm, ⟨64, _⟩ => ⟨S4x8x8x4096x256, .f32⟩
  | .hbm, ⟨65, _⟩ => ⟨S_, .f32⟩
  | .hbm, ⟨66, _⟩ => ⟨S4x8x8x4096x256, .f32⟩
  | .hbm, ⟨67, _⟩ => ⟨S4x8x8x4096x256, .f32⟩
  | .hbm, ⟨68, _⟩ => ⟨S4x8x8x4096x4352, .f32⟩
  | .hbm, ⟨69, _⟩ => ⟨S1x8x8x1x1, .f32⟩
  | .hbm, ⟨70, _⟩ => ⟨S4x8x8x4096x1, .f32⟩
  | .hbm, ⟨71, _⟩ => ⟨S4x8x8x4096x4353, .f32⟩
  | .hbm, ⟨72, _⟩ => ⟨S_, .f32⟩
  | .hbm, ⟨73, _⟩ => ⟨S4x8x8x4096, .f32⟩
  | .hbm, ⟨74, _⟩ => ⟨S_, .f32⟩
  | .hbm, ⟨75, _⟩ => ⟨S4x8x8x4096, .f32⟩
  | .hbm, ⟨76, _⟩ => ⟨S4x8x8x4096, .f32⟩
  | .hbm, ⟨77, _⟩ => ⟨S4x8x8x4096x1, .f32⟩
  | .hbm, ⟨78, _⟩ => ⟨S4x8x8x4096x4353, .f32⟩
  | .hbm, ⟨79, _⟩ => ⟨S4x8x8x4096x4353, .f32⟩
  | .hbm, ⟨80, _⟩ => ⟨S4x8x8x4096x4353, .f32⟩
  | .hbm, ⟨81, _⟩ => ⟨S_, .f32⟩
  | .hbm, ⟨82, _⟩ => ⟨S4x8x8x4096, .f32⟩
  | .hbm, ⟨83, _⟩ => ⟨S4x8x8x4096x1, .f32⟩
  | .hbm, ⟨84, _⟩ => ⟨S4x8x8x4096x4353, .f32⟩
  | .hbm, ⟨85, _⟩ => ⟨S4x8x8x4096x4353, .f32⟩
  | .hbm, ⟨86, _⟩ => ⟨S4x8x8x4096x4352, .f32⟩
  | .hbm, ⟨87, _⟩ => ⟨S4x8x8x4096x4096, .f32⟩
  | .hbm, ⟨88, _⟩ => ⟨S4x8x64x8x4096, .f32⟩
  | .hbm, ⟨89, _⟩ => ⟨S4x4096x8x8x64, .f32⟩
  | .hbm, ⟨90, _⟩ => ⟨S4x8x8x4096x256, .f32⟩
  | .hbm, ⟨91, _⟩ => ⟨S4x8x64x8x4096, .f32⟩
  | .hbm, ⟨92, _⟩ => ⟨S4x4096x8x8x64, .f32⟩
  | .hbm, ⟨93, _⟩ => ⟨S4x4096x8x8x64, .f32⟩
  | .hbm, ⟨94, _⟩ => ⟨S1024x4096, .f32⟩
  | .hbm, ⟨95, _⟩ => ⟨S16384x4096, .f32⟩
  | .hbm, ⟨96, _⟩ => ⟨S17408x4096, .f32⟩
  | .hbm, ⟨97, _⟩ => ⟨S17408x4096, .bf16⟩
  | _, _ => ⟨S17408x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_c : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_6 : Ref sig .tc := ⟨.hbm, 72, rfl⟩
abbrev main_v59 : Ref sig .tc := ⟨.hbm, 73, rfl⟩
abbrev main_cst_7 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_8 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩

abbrev nD : Nat := 1
abbrev τ : Topo := Topo.v7x

variable {F : FTy → Type} [FloatOps F]
-- ==== Kernel2.lean ====
abbrev S17408x4096 : Shape := ⟨2, ![17408, 4096]⟩
abbrev S152 : Shape := ⟨1, ![152]⟩
abbrev S38912 : Shape := ⟨1, ![38912]⟩
abbrev S38912x1 : Shape := ⟨2, ![38912, 1]⟩
abbrev S16x4096x768 : Shape := ⟨3, ![16, 4096, 768]⟩
abbrev S16x768x4096 : Shape := ⟨3, ![16, 768, 4096]⟩
abbrev S38912x4096 : Shape := ⟨2, ![38912, 4096]⟩
abbrev S256x1 : Shape := ⟨2, ![256, 1]⟩
abbrev S1x4096x768 : Shape := ⟨3, ![1, 4096, 768]⟩
abbrev S1 : Shape := ⟨1, ![1]⟩
abbrev S1x768x4096 : Shape := ⟨3, ![1, 768, 4096]⟩
abbrev S256x4096 : Shape := ⟨2, ![256, 4096]⟩
abbrev S_ : Shape := ⟨0, ![]⟩
abbrev S1x4096 : Shape := ⟨2, ![1, 4096]⟩
abbrev S4096x768 : Shape := ⟨2, ![4096, 768]⟩
abbrev S256x768 : Shape := ⟨2, ![256, 768]⟩
abbrev S768x4096 : Shape := ⟨2, ![768, 4096]⟩

abbrev nBuf : Space → Nat
  | .hbm => 6
  | .vmem => 11
  | .smem => 3
  | _ => 0

abbrev bufTy : (tb : Table) → Fin (tcTables nBuf tb) → BufTy
  | .hbm, ⟨0, _⟩ => ⟨S17408x4096, .f32⟩
  | .hbm, ⟨1, _⟩ => ⟨S38912x1, .f32⟩
  | .hbm, ⟨2, _⟩ => ⟨S16x4096x768, .bf16⟩
  | .hbm, ⟨3, _⟩ => ⟨S16x4096x768, .bf16⟩
  | .hbm, ⟨4, _⟩ => ⟨S16x768x4096, .bf16⟩
  | .hbm, ⟨5, _⟩ => ⟨S38912x4096, .f32⟩
  | .local _ .vmem, ⟨0, _⟩ => ⟨S256x1, .f32⟩
  | .local _ .vmem, ⟨1, _⟩ => ⟨S256x1, .f32⟩
  | .local _ .vmem, ⟨2, _⟩ => ⟨S1x4096x768, .bf16⟩
  | .local _ .vmem, ⟨3, _⟩ => ⟨S1x4096x768, .bf16⟩
  | .local _ .vmem, ⟨4, _⟩ => ⟨S1x4096x768, .bf16⟩
  | .local _ .vmem, ⟨5, _⟩ => ⟨S1x4096x768, .bf16⟩
  | .local _ .vmem, ⟨6, _⟩ => ⟨S1x768x4096, .bf16⟩
  | .local _ .vmem, ⟨7, _⟩ => ⟨S1x768x4096, .bf16⟩
  | .local _ .vmem, ⟨8, _⟩ => ⟨S256x4096, .f32⟩
  | .local _ .vmem, ⟨9, _⟩ => ⟨S256x4096, .f32⟩
  | .local _ .vmem, ⟨10, _⟩ => ⟨S256x4096, .f32⟩
  | .local _ .smem, ⟨0, _⟩ => ⟨S152, .i32⟩
  | .local _ .smem, ⟨1, _⟩ => ⟨S152, .i32⟩
  | .local _ .smem, ⟨2, _⟩ => ⟨S38912, .i32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![152], ![false]⟩

abbrev pre0 : Pipeline.Prefetch sig := ⟨3, ![main_arg1.idx, main_arg2.idx, main_arg3.idx], fun | 0 => main_arg1.names | 1 => main_arg2.names | 2 => main_arg3.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32_2 : BitVec 32 := 0#32
  let c256_i32_3 : BitVec 32 := 256#32
  let v11 : BitVec 32 := Scalar.addi c0_i32_2 c256_i32_3
  let c1_i32_4 : BitVec 32 := 1#32
  ⟨c0_i32_2, v11, c1_i32_4⟩
def k0_off2 (i : grid0.Coords) (k0_t1 : Fin k0_t1_loop.trips) : Fin 1 → Nat :=
  let arg0 : BitVec 32 := BitVec.ofNat 32 (i 0).val
  let c256_i32 : BitVec 32 := 256#32
  let v10 : BitVec 32 := Scalar.muli arg0 c256_i32
  let c0_i32_2 : BitVec 32 := 0#32
  let c1_i32_4 : BitVec 32 := 1#32
  let arg12 : BitVec 32 := Scf.iv c0_i32_2 c1_i32_4 k0_t1
  let v38 : BitVec 32 := Scalar.addi v10 arg12
  let v39 : Index := Scalar.indexCast v38
  ![v39.toNat]
def k0_off3 (k0_t1 : Fin k0_t1_loop.trips) : Fin 2 → Nat :=
  let c0_i32_2 : BitVec 32 := 0#32
  let c1_i32_4 : BitVec 32 := 1#32
  let arg12 : BitVec 32 := Scf.iv c0_i32_2 c1_i32_4 k0_t1
  let c0_i32_29 : BitVec 32 := 0#32
  ![arg12.toNat, 0]
def k0_off4 (v40 : BitVec 32) : Fin 2 → Nat :=
  let c0_i32_30 : BitVec 32 := 0#32
  ![v40.toNat, 0]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_chk1 (v1 : BitVec 32) (v40 : BitVec 32) : Prop :=
  (∀ (k0_h1 : k0_cond1 v1 = 1#1), ∀ a, (k0_off4 v40) a + S1x4096.size a ≤ S17408x4096.size a)
theorem k0_off4_inb : ∀ (v1 : BitVec 32) (v40 : BitVec 32) (k0_hw1 : k0_chk1 v1 v40), ∀ (k0_h1 : k0_cond1 v1 = 1#1), ∀ a, (k0_off4 v40) a + S1x4096.size a ≤ S17408x4096.size a := fun v1 v40 k0_hw1 k0_h1 => k0_hw1 k0_h1

@[reducible] def k0_t2_loop : Scf.Loop 32 :=
  let c0_i32_6 : BitVec 32 := 0#32
  let c256_i32_7 : BitVec 32 := 256#32
  let v12 : BitVec 32 := Scalar.addi c0_i32_6 c256_i32_7
  let c1_i32_8 : BitVec 32 := 1#32
  ⟨c0_i32_6, v12, c1_i32_8⟩
def k0_off5 (i : grid0.Coords) (k0_t2 : Fin k0_t2_loop.trips) : Fin 1 → Nat :=
  let arg0 : BitVec 32 := BitVec.ofNat 32 (i 0).val
  let c256_i32 : BitVec 32 := 256#32
  let v10 : BitVec 32 := Scalar.muli arg0 c256_i32
  let c0_i32_6 : BitVec 32 := 0#32
  let c1_i32_8 : BitVec 32 := 1#32
  let arg12 : BitVec 32 := Scf.iv c0_i32_6 c1_i32_8 k0_t2
  let v38 : BitVec 32 := Scalar.addi v10 arg12
  let v39 : Index := Scalar.indexCast v38
  ![v39.toNat]
def k0_off6 (k0_t2 : Fin k0_t2_loop.trips) : Fin 2 → Nat :=
  let c0_i32_6 : BitVec 32 := 0#32
  let c1_i32_8 : BitVec 32 := 1#32
  let arg12 : BitVec 32 := Scf.iv c0_i32_6 c1_i32_8 k0_t2
  let c0_i32_29 : BitVec 32 := 0#32
  ![arg12.toNat, 0]
def k0_off7 (v40 : BitVec 32) : Fin 2 → Nat :=
  let c0_i32_30 : BitVec 32 := 0#32
  ![v40.toNat, 0]

def k0_chk2 (v1 : BitVec 32) (v40 : BitVec 32) : Prop :=
  (∀ (k0_h1 : k0_cond1 v1 = 1#1), ∀ a, (k0_off7 v40) a + S1x4096.size a ≤ S17408x4096.size a)
theorem k0_off7_inb : ∀ (v1 : BitVec 32) (v40 : BitVec 32) (k0_hw2 : k0_chk2 v1 v40), ∀ (k0_h1 : k0_cond1 v1 = 1#1), ∀ a, (k0_off7 v40) a + S1x4096.size a ≤ S17408x4096.size a := fun v1 v40 k0_hw2 k0_h1 => k0_hw2 k0_h1

def k0_off8 (i : grid0.Coords) : Fin 1 → Nat :=
  let arg0 : BitVec 32 := BitVec.ofNat 32 (i 0).val
  let v5 : Index := Scalar.indexCast arg0
  ![v5.toNat]
def k0_cond2 (v6 : BitVec 32) : BitVec 1 :=
  let c0_i32_0 : BitVec 32 := 0#32
  let v7 : BitVec 1 := Scalar.cmpi .eq v6 c0_i32_0
  let v8 : BitVec 32 := Scalar.extui v7
  let c0_i32_1 : BitVec 32 := 0#32
  let v9 : BitVec 1 := Scalar.cmpi .ne v8 c0_i32_1
  v9

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x768x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S17408x4096 : Shape := ⟨2, ![17408, 4096]⟩
abbrev S152 : Shape := ⟨1, ![152]⟩
abbrev S38912 : Shape := ⟨1, ![38912]⟩
abbrev S38912x1 : Shape := ⟨2, ![38912, 1]⟩
abbrev S16x4096x768 : Shape := ⟨3, ![16, 4096, 768]⟩
abbrev S16x768x4096 : Shape := ⟨3, ![16, 768, 4096]⟩
abbrev S152x256 : Shape := ⟨2, ![152, 256]⟩
abbrev S38912x4096 : Shape := ⟨2, ![38912, 4096]⟩
abbrev S38912x4096x768 : Shape := ⟨3, ![38912, 4096, 768]⟩
abbrev S38912x768x4096 : Shape := ⟨3, ![38912, 768, 4096]⟩
abbrev S38912x768 : Shape := ⟨2, ![38912, 768]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S152, .i32⟩
  | .hbm, ⟨2, _⟩ => ⟨S152, .i32⟩
  | .hbm, ⟨3, _⟩ => ⟨S38912, .i32⟩
  | .hbm, ⟨4, _⟩ => ⟨S38912x1, .f32⟩
  | .hbm, ⟨5, _⟩ => ⟨S16x4096x768, .bf16⟩
  | .hbm, ⟨6, _⟩ => ⟨S16x4096x768, .bf16⟩
  | .hbm, ⟨7, _⟩ => ⟨S16x768x4096, .bf16⟩
  | .hbm, ⟨8, _⟩ => ⟨S152x256, .i32⟩
  | .hbm, ⟨9, _⟩ => ⟨S38912, .i32⟩
  | .hbm, ⟨10, _⟩ => ⟨S152x256, .i32⟩
  | .hbm, ⟨11, _⟩ => ⟨S38912, .i32⟩
  | .hbm, ⟨12, _⟩ => ⟨S38912x1, .i32⟩
  | .hbm, ⟨13, _⟩ => ⟨S38912x4096, .f32⟩
  | .hbm, ⟨14, _⟩ => ⟨S38912x1, .i32⟩
  | .hbm, ⟨15, _⟩ => ⟨S38912x4096x768, .bf16⟩
  | .hbm, ⟨16, _⟩ => ⟨S38912x4096x768, .f32⟩
  | .hbm, ⟨17, _⟩ => ⟨S38912x1, .i32⟩
  | .hbm, ⟨18, _⟩ => ⟨S38912x4096x768, .bf16⟩
  | .hbm, ⟨19, _⟩ => ⟨S38912x4096x768, .f32⟩
  | .hbm, ⟨20, _⟩ => ⟨S38912x1, .i32⟩
  | .hbm, ⟨21, _⟩ => ⟨S38912x768x4096, .bf16⟩
  | .hbm, ⟨22, _⟩ => ⟨S38912x768x4096, .f32⟩
  | .hbm, ⟨23, _⟩ => ⟨S38912x768, .f32⟩
  | .hbm, ⟨24, _⟩ => ⟨S38912x768, .f32⟩
  | .hbm, ⟨25, _⟩ => ⟨S38912x768, .f32⟩
  | .hbm, ⟨26, _⟩ => ⟨S_, .f32⟩
  | .hbm, ⟨27, _⟩ => ⟨S38912x768, .f32⟩
  | .hbm, ⟨28, _⟩ => ⟨S38912x768, .f32⟩
  | .hbm, ⟨29, _⟩ => ⟨S_, .f32⟩
  | .hbm, ⟨30, _⟩ => ⟨S38912x768, .f32⟩
  | .hbm, ⟨31, _⟩ => ⟨S38912x768, .f32⟩
  | .hbm, ⟨32, _⟩ => ⟨S38912x768, .f32⟩
  | .hbm, ⟨33, _⟩ => ⟨S38912x768, .f32⟩
  | .hbm, ⟨34, _⟩ => ⟨S38912x768, .f32⟩
  | .hbm, ⟨35, _⟩ => ⟨S38912x4096, .f32⟩
  | .hbm, ⟨36, _⟩ => ⟨S38912x4096, .f32⟩
  | .hbm, ⟨37, _⟩ => ⟨S38912x4096, .f32⟩
  | .hbm, ⟨38, _⟩ => ⟨S38912x1, .i32⟩
  | .hbm, ⟨39, _⟩ => ⟨S_, .i32⟩
  | .hbm, ⟨40, _⟩ => ⟨S38912x1, .i32⟩
  | .hbm, ⟨41, _⟩ => ⟨S38912x1, .i1⟩
  | .hbm, ⟨42, _⟩ => ⟨S_, .f32⟩
  | .hbm, ⟨43, _⟩ => ⟨S_, .f32⟩
  | .hbm, ⟨44, _⟩ => ⟨S38912x4096, .i1⟩
  | .hbm, ⟨45, _⟩ => ⟨S38912x4096, .f32⟩
  | .hbm, ⟨46, _⟩ => ⟨S38912x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_v4 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_call2_v0 : Ref sig .tc := ⟨.hbm, 17, rfl⟩
abbrev main_v7 : Ref sig .tc := ⟨.hbm, 18, rfl⟩
abbrev main_v8 : Ref sig .tc := ⟨.hbm, 19, rfl⟩
abbrev main_call3_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call4_v0 : Ref sig .tc := ⟨.hbm, 24, rfl⟩
abbrev main_call4_v1 : Ref sig .tc := ⟨.hbm, 25, rfl⟩
abbrev main_call4_cst : Ref sig .tc := ⟨.hbm, 26, rfl⟩
abbrev main_call4_v2 : Ref sig .tc := ⟨.hbm, 27, rfl⟩
abbrev main_call4_v3 : Ref sig .tc := ⟨.hbm, 28, rfl⟩
abbrev main_call4_cst_0 : Ref sig .tc := ⟨.hbm, 29, rfl⟩
abbrev main_call4_v4 : Ref sig .tc := ⟨.hbm, 30, rfl⟩
abbrev main_call4_v5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c : Ref sig .tc := ⟨.hbm, 39, rfl⟩
abbrev main_v19 : Ref sig .tc := ⟨.hbm, 40, rfl⟩
abbrev main_v20 : Ref sig .tc := ⟨.hbm, 41, rfl⟩
abbrev main_cst : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_v21 : Ref sig .tc := ⟨.hbm, 46, rfl⟩

abbrev nD : Nat := 1
abbrev τ : Topo := Topo.v7x

variable {F : FTy → Type} [FloatOps F]
-- ==== Kernel3.lean ====
abbrev S17408x4096 : Shape := ⟨2, ![17408, 4096]⟩
abbrev S4096x4096 : Shape := ⟨2, ![4096, 4096]⟩
abbrev S4x6x8x4096 : Shape := ⟨4, ![4, 6, 8, 4096]⟩
abbrev S512x4096 : Shape := ⟨2, ![512, 4096]⟩
abbrev S4096x512 : Shape := ⟨2, ![4096, 512]⟩
abbrev S512x512 : Shape := ⟨2, ![512, 512]⟩
abbrev S1x1x8x512 : Shape := ⟨4, ![1, 1, 8, 512]⟩
abbrev S1x1x1x512 : Shape := ⟨4, ![1, 1, 1, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S17408x4096, .bf16⟩
  | .hbm, ⟨1, _⟩ => ⟨S4096x4096, .bf16⟩
  | .hbm, ⟨2, _⟩ => ⟨S17408x4096, .f32⟩
  | .hbm, ⟨3, _⟩ => ⟨S4x6x8x4096, .f32⟩
  | .hbm, ⟨4, _⟩ => ⟨S17408x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x1x8x512, .f32⟩
  | .local _ .vmem, ⟨7, _⟩ => ⟨S1x1x8x512, .f32⟩
  | .local _ .vmem, ⟨8, _⟩ => ⟨S512x512, .f32⟩
  | .local _ .vmem, ⟨9, _⟩ => ⟨S512x512, .f32⟩
  | _, _ => ⟨S17408x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![34, 8], ![false, false]⟩

def k0_off1 (i : grid0.Coords) : Fin 4 → Nat :=
  let c0_12 : Index := 0#32
  let c0_13 : Index := 0#32
  let arg0 : BitVec 32 := BitVec.ofNat 32 (i 0).val
  let c512_i32 : BitVec 32 := 512#32
  let v3 : BitVec 32 := Scalar.muli arg0 c512_i32
  let c1024_i32 : BitVec 32 := 1024#32
  let v4 : BitVec 1 := Scalar.cmpi .slt v3 c1024_i32
  let c0_i32_9 : BitVec 32 := 0#32
  let c1_i32_8 : BitVec 32 := 1#32
  let c1024_i32_3 : BitVec 32 := 1024#32
  let v5 : BitVec 32 := Scalar.subi v3 c1024_i32_3
  let c0_i32 : BitVec 32 := 0#32
  let v7 : BitVec 1 := Scalar.cmpi .sgt v5 c0_i32
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c4096_i32 : BitVec 32 := 4096#32
  let c0_i32_5 : BitVec 32 := 0#32
  let v12 : BitVec 1 := Scalar.cmpi .sgt c4096_i32 c0_i32_5
  let v13 : BitVec 32 := Scalar.extui v12
  let c0_i32_6 : BitVec 32 := 0#32
  let v14 : BitVec 1 := Scalar.cmpi .slt c4096_i32 c0_i32_6
  let v15 : BitVec 32 := Scalar.extui v14
  let v16 : BitVec 32 := Scalar.subi v13 v15
  let v17 : BitVec 1 := Scalar.cmpi .ne v11 v16
  let v18 : BitVec 32 := Scalar.remsi v5 c4096_i32
  let c0_i32_7 : BitVec 32 := 0#32
  let v19 : BitVec 1 := Scalar.cmpi .ne v18 c0_i32_7
  let v20 : BitVec 1 := Scalar.andi v17 v19
  let v6 : BitVec 32 := Scalar.divsi v5 c4096_i32
  let c1_i32 : BitVec 32 := 1#32
  let v21 : BitVec 32 := Scalar.subi v6 c1_i32
  let v22 : BitVec 32 := Scalar.select v20 v21 v6
  let v23 : BitVec 32 := Scalar.addi c1_i32_8 v22
  let v24 : BitVec 32 := Scalar.select v4 c0_i32_9 v23
  let v26 : Index := Scalar.indexCast v24
  let c0_14 : Index := 0#32
  ![0, 0, v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S17408x4096 : Shape := ⟨2, ![17408, 4096]⟩
abbrev S4096x4096 : Shape := ⟨2, ![4096, 4096]⟩
abbrev S4x6x8x4096 : Shape := ⟨4, ![4, 6, 8, 4096]⟩
abbrev S1x1x8x4096 : Shape := ⟨4, ![1, 1, 8, 4096]⟩
abbrev S8x4096 : Shape := ⟨2, ![8, 4096]⟩
abbrev S1024x4096 : Shape := ⟨2, ![1024, 4096]⟩
abbrev S1x4096 : Shape := ⟨2, ![1, 4096]⟩
abbrev S4096 : Shape := ⟨1, ![4096]⟩
abbrev S16384x4096 : Shape := ⟨2, ![16384, 4096]⟩
abbrev S4x4096x4096 : Shape := ⟨3, ![4, 4096, 4096]⟩
abbrev S4x4096 : Shape := ⟨2, ![4, 4096]⟩
abbrev S4x1x4096 : Shape := ⟨3, ![4, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S17408x4096, .bf16⟩
  | .hbm, ⟨1, _⟩ => ⟨S4096x4096, .bf16⟩
  | .hbm, ⟨2, _⟩ => ⟨S17408x4096, .f32⟩
  | .hbm, ⟨3, _⟩ => ⟨S4x6x8x4096, .f32⟩
  | .hbm, ⟨4, _⟩ => ⟨S17408x4096, .f32⟩
  | .hbm, ⟨5, _⟩ => ⟨S4096x4096, .f32⟩
  | .hbm, ⟨6, _⟩ => ⟨S17408x4096, .f32⟩
  | .hbm, ⟨7, _⟩ => ⟨S1x1x8x4096, .f32⟩
  | .hbm, ⟨8, _⟩ => ⟨S8x4096, .f32⟩
  | .hbm, ⟨9, _⟩ => ⟨S1024x4096, .f32⟩
  | .hbm, ⟨10, _⟩ => ⟨S1x4096, .f32⟩
  | .hbm, ⟨11, _⟩ => ⟨S4096, .f32⟩
  | .hbm, ⟨12, _⟩ => ⟨S1024x4096, .f32⟩
  | .hbm, ⟨13, _⟩ => ⟨S1x4096, .f32⟩
  | .hbm, ⟨14, _⟩ => ⟨S1024x4096, .f32⟩
  | .hbm, ⟨15, _⟩ => ⟨S1024x4096, .f32⟩
  | .hbm, ⟨16, _⟩ => ⟨S1024x4096, .f32⟩
  | .hbm, ⟨17, _⟩ => ⟨S16384x4096, .f32⟩
  | .hbm, ⟨18, _⟩ => ⟨S4x4096x4096, .f32⟩
  | .hbm, ⟨19, _⟩ => ⟨S4x4096, .f32⟩
  | .hbm, ⟨20, _⟩ => ⟨S4x1x4096, .f32⟩
  | .hbm, ⟨21, _⟩ => ⟨S16384x4096, .f32⟩
  | .hbm, ⟨22, _⟩ => ⟨S4x4096x4096, .f32⟩
  | .hbm, ⟨23, _⟩ => ⟨S4x4096x4096, .f32⟩
  | .hbm, ⟨24, _⟩ => ⟨S4x4096x4096, .f32⟩
  | .hbm, ⟨25, _⟩ => ⟨S4x4096x4096, .f32⟩
  | .hbm, ⟨26, _⟩ => ⟨S16384x4096, .f32⟩
  | .hbm, ⟨27, _⟩ => ⟨S17408x4096, .f32⟩
  | _, _ => ⟨S17408x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩

abbrev nD : Nat := 1
abbrev τ : Topo := Topo.v7x

variable {F : FTy → Type} [FloatOps F]
-- ==== Kernel4.lean ====
abbrev S17408x4096 : Shape := ⟨2, ![17408, 4096]⟩
abbrev S4096 : Shape := ⟨1, ![4096]⟩
abbrev S4x6x8x4096 : Shape := ⟨4, ![4, 6, 8, 4096]⟩
abbrev S4096x6144 : Shape := ⟨2, ![4096, 6144]⟩
abbrev S1x4096 : Shape := ⟨2, ![1, 4096]⟩
abbrev S17408x6144 : Shape := ⟨2, ![17408, 6144]⟩
abbrev S512x4096 : Shape := ⟨2, ![512, 4096]⟩
abbrev S1x1x8x4096 : Shape := ⟨4, ![1, 1, 8, 4096]⟩
abbrev S4096x512 : Shape := ⟨2, ![4096, 512]⟩
abbrev S512x512 : Shape := ⟨2, ![512, 512]⟩
abbrev S1x1x1x4096 : Shape := ⟨4, ![1, 1, 1, 4096]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S4x6x8x4096, .f32⟩
  | .hbm, ⟨3, _⟩ => ⟨S4096x6144, .bf16⟩
  | .hbm, ⟨4, _⟩ => ⟨S1x4096, .f32⟩
  | .hbm, ⟨5, _⟩ => ⟨S17408x6144, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x8x4096, .f32⟩
  | .local _ .vmem, ⟨4, _⟩ => ⟨S1x1x8x4096, .f32⟩
  | .local _ .vmem, ⟨5, _⟩ => ⟨S4096x512, .bf16⟩
  | .local _ .vmem, ⟨6, _⟩ => ⟨S4096x512, .bf16⟩
  | .local _ .vmem, ⟨7, _⟩ => ⟨S512x512, .f32⟩
  | .local _ .vmem, ⟨8, _⟩ => ⟨S512x512, .f32⟩
  | .local _ .vmem, ⟨9, _⟩ => ⟨S512x4096, .bf16⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![34, 12], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 4 → Nat :=
  let c0_18 : Index := 0#32
  let c0_19 : Index := 0#32
  let arg0 : BitVec 32 := BitVec.ofNat 32 (i 0).val
  let c512_i32 : BitVec 32 := 512#32
  let v0 : BitVec 32 := Scalar.muli arg0 c512_i32
  let c1024_i32 : BitVec 32 := 1024#32
  let v8 : BitVec 1 := Scalar.cmpi .slt v0 c1024_i32
  let c0_i32_13 : BitVec 32 := 0#32
  let c1_i32_12 : BitVec 32 := 1#32
  let c1024_i32_6 : BitVec 32 := 1024#32
  let v9 : BitVec 32 := Scalar.subi v0 c1024_i32_6
  let c0_i32_7 : BitVec 32 := 0#32
  let v11 : BitVec 1 := Scalar.cmpi .sgt v9 c0_i32_7
  let v12 : BitVec 32 := Scalar.extui v11
  let c0_i32_8 : BitVec 32 := 0#32
  let v13 : BitVec 1 := Scalar.cmpi .slt v9 c0_i32_8
  let v14 : BitVec 32 := Scalar.extui v13
  let v15 : BitVec 32 := Scalar.subi v12 v14
  let c4096_i32 : BitVec 32 := 4096#32
  let c0_i32_9 : BitVec 32 := 0#32
  let v16 : BitVec 1 := Scalar.cmpi .sgt c4096_i32 c0_i32_9
  let v17 : BitVec 32 := Scalar.extui v16
  let c0_i32_10 : BitVec 32 := 0#32
  let v18 : BitVec 1 := Scalar.cmpi .slt c4096_i32 c0_i32_10
  let v19 : BitVec 32 := Scalar.extui v18
  let v20 : BitVec 32 := Scalar.subi v17 v19
  let v21 : BitVec 1 := Scalar.cmpi .ne v15 v20
  let v22 : BitVec 32 := Scalar.remsi v9 c4096_i32
  let c0_i32_11 : BitVec 32 := 0#32
  let v23 : BitVec 1 := Scalar.cmpi .ne v22 c0_i32_11
  let v24 : BitVec 1 := Scalar.andi v21 v23
  let v10 : BitVec 32 := Scalar.divsi v9 c4096_i32
  let c1_i32 : BitVec 32 := 1#32
  let v25 : BitVec 32 := Scalar.subi v10 c1_i32
  let v26 : BitVec 32 := Scalar.select v24 v25 v10
  let v27 : BitVec 32 := Scalar.addi c1_i32_12 v26
  let v28 : BitVec 32 := Scalar.select v8 c0_i32_13 v27
  let v32 : Index := Scalar.indexCast v28
  let c0_20 : Index := 0#32
  ![0, 0, v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S17408x4096 : Shape := ⟨2, ![17408, 4096]⟩
abbrev S4096 : Shape := ⟨1, ![4096]⟩
abbrev S4x6x8x4096 : Shape := ⟨4, ![4, 6, 8, 4096]⟩
abbrev S4096x6144 : Shape := ⟨2, ![4096, 6144]⟩
abbrev S1x1x8x4096 : Shape := ⟨4, ![1, 1, 8, 4096]⟩
abbrev S8x4096 : Shape := ⟨2, ![8, 4096]⟩
abbrev S1024x4096 : Shape := ⟨2, ![1024, 4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩
abbrev S16384x4096 : Shape := ⟨2, ![16384, 4096]⟩
abbrev S4x4096x4096 : Shape := ⟨3, ![4, 4096, 4096]⟩
abbrev S4x4096 : Shape := ⟨2, ![4, 4096]⟩
abbrev S4x4096x1 : Shape := ⟨3, ![4, 4096, 1]⟩
abbrev S1x1x4096 : Shape := ⟨3, ![1, 1, 4096]⟩
abbrev S4x1x4096 : Shape := ⟨3, ![4, 1, 4096]⟩
abbrev S17408x6144 : Shape := ⟨2, ![17408, 6144]⟩

abbrev nBuf : Space → Nat
  | .hbm => 71
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S4x6x8x4096, .f32⟩
  | .hbm, ⟨3, _⟩ => ⟨S4096x6144, .bf16⟩
  | .hbm, ⟨4, _⟩ => ⟨S1x1x8x4096, .f32⟩
  | .hbm, ⟨5, _⟩ => ⟨S8x4096, .f32⟩
  | .hbm, ⟨6, _⟩ => ⟨S1x1x8x4096, .f32⟩
  | .hbm, ⟨7, _⟩ => ⟨S8x4096, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S_, .f32⟩
  | .hbm, ⟨14, _⟩ => ⟨S1024x1, .f32⟩
  | .hbm, ⟨15, _⟩ => ⟨S1024x1, .f32⟩
  | .hbm, ⟨16, _⟩ => ⟨S_, .f32⟩
  | .hbm, ⟨17, _⟩ => ⟨S1024x1, .f32⟩
  | .hbm, ⟨18, _⟩ => ⟨S1024x1, .f32⟩
  | .hbm, ⟨19, _⟩ => ⟨S1024x1, .f32⟩
  | .hbm, ⟨20, _⟩ => ⟨S1024x4096, .f32⟩
  | .hbm, ⟨21, _⟩ => ⟨S1024x4096, .f32⟩
  | .hbm, ⟨22, _⟩ => ⟨S1x4096, .f32⟩
  | .hbm, ⟨23, _⟩ => ⟨S1024x4096, .f32⟩
  | .hbm, ⟨24, _⟩ => ⟨S1024x4096, .f32⟩
  | .hbm, ⟨25, _⟩ => ⟨S1x4096, .f32⟩
  | .hbm, ⟨26, _⟩ => ⟨S4096, .f32⟩
  | .hbm, ⟨27, _⟩ => ⟨S1x4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S1x4096, .f32⟩
  | .hbm, ⟨33, _⟩ => ⟨S1024x4096, .f32⟩
  | .hbm, ⟨34, _⟩ => ⟨S1024x4096, .f32⟩
  | .hbm, ⟨35, _⟩ => ⟨S1x4096, .f32⟩
  | .hbm, ⟨36, _⟩ => ⟨S1024x4096, .f32⟩
  | .hbm, ⟨37, _⟩ => ⟨S1024x4096, .f32⟩
  | .hbm, ⟨38, _⟩ => ⟨S16384x4096, .f32⟩
  | .hbm, ⟨39, _⟩ => ⟨S4x4096x4096, .f32⟩
  | .hbm, ⟨40, _⟩ => ⟨S4x4096x4096, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x4096, .f32⟩
  | .hbm, ⟨52, _⟩ => ⟨S4x4096x4096, .f32⟩
  | .hbm, ⟨53, _⟩ => ⟨S1x1x4096, .f32⟩
  | .hbm, ⟨54, _⟩ => ⟨S4x4096x4096, .f32⟩
  | .hbm, ⟨55, _⟩ => ⟨S4x4096x4096, .f32⟩
  | .hbm, ⟨56, _⟩ => ⟨S4x4096, .f32⟩
  | .hbm, ⟨57, _⟩ => ⟨S4x1x4096, .f32⟩
  | .hbm, ⟨58, _⟩ => ⟨S4x4096, .f32⟩
  | .hbm, ⟨59, _⟩ => ⟨S4x1x4096, .f32⟩
  | .hbm, ⟨60, _⟩ => ⟨S_, .f32⟩
  | .hbm, ⟨61, _⟩ => ⟨S4x1x4096, .f32⟩
  | .hbm, ⟨62, _⟩ => ⟨S4x1x4096, .f32⟩
  | .hbm, ⟨63, _⟩ => ⟨S4x4096x4096, .f32⟩
  | .hbm, ⟨64, _⟩ => ⟨S4x4096x4096, .f32⟩
  | .hbm, ⟨65, _⟩ => ⟨S4x4096x4096, .f32⟩
  | .hbm, ⟨66, _⟩ => ⟨S4x4096x4096, .f32⟩
  | .hbm, ⟨67, _⟩ => ⟨S16384x4096, .f32⟩
  | .hbm, ⟨68, _⟩ => ⟨S17408x4096, .f32⟩
  | .hbm, ⟨69, _⟩ => ⟨S4096x6144, .f32⟩
  | .hbm, ⟨70, _⟩ => ⟨S17408x6144, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩

abbrev nD : Nat := 1
abbrev τ : Topo := Topo.v7x

variable {F : FTy → Type} [FloatOps F]
-- ==== Kernel5.lean ====
abbrev S17408x2048 : Shape := ⟨2, ![17408, 2048]⟩
abbrev S4096x4096 : Shape := ⟨2, ![4096, 4096]⟩
abbrev S17408x4096 : Shape := ⟨2, ![17408, 4096]⟩
abbrev S4x6x8x4096 : Shape := ⟨4, ![4, 6, 8, 4096]⟩
abbrev S2048x4096 : Shape := ⟨2, ![2048, 4096]⟩
abbrev S512x2048 : Shape := ⟨2, ![512, 2048]⟩
abbrev S2048x512 : Shape := ⟨2, ![2048, 512]⟩
abbrev S512x512 : Shape := ⟨2, ![512, 512]⟩
abbrev S1x1x8x512 : Shape := ⟨4, ![1, 1, 8, 512]⟩
abbrev S1x1x1x512 : Shape := ⟨4, ![1, 1, 1, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S4096x4096, .f32⟩
  | .hbm, ⟨3, _⟩ => ⟨S17408x4096, .f32⟩
  | .hbm, ⟨4, _⟩ => ⟨S4x6x8x4096, .f32⟩
  | .hbm, ⟨5, _⟩ => ⟨S4096x4096, .bf16⟩
  | .hbm, ⟨6, _⟩ => ⟨S2048x4096, .bf16⟩
  | .hbm, ⟨7, _⟩ => ⟨S2048x4096, .bf16⟩
  | .hbm, ⟨8, _⟩ => ⟨S17408x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S1x1x8x512, .f32⟩
  | .local _ .vmem, ⟨11, _⟩ => ⟨S1x1x8x512, .f32⟩
  | .local _ .vmem, ⟨12, _⟩ => ⟨S512x512, .f32⟩
  | .local _ .vmem, ⟨13, _⟩ => ⟨S512x512, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![34, 8], ![false, false]⟩

def k0_off1 (i : grid0.Coords) : Fin 4 → Nat :=
  let c0_17 : Index := 0#32
  let c0_18 : Index := 0#32
  let arg0 : BitVec 32 := BitVec.ofNat 32 (i 0).val
  let c512_i32 : BitVec 32 := 512#32
  let v9 : BitVec 32 := Scalar.muli arg0 c512_i32
  let c1024_i32 : BitVec 32 := 1024#32
  let v10 : BitVec 1 := Scalar.cmpi .slt v9 c1024_i32
  let c0_i32_14 : BitVec 32 := 0#32
  let c1_i32_13 : BitVec 32 := 1#32
  let c1024_i32_8 : BitVec 32 := 1024#32
  let v11 : BitVec 32 := Scalar.subi v9 c1024_i32_8
  let c0_i32 : BitVec 32 := 0#32
  let v13 : BitVec 1 := Scalar.cmpi .sgt v11 c0_i32
  let v14 : BitVec 32 := Scalar.extui v13
  let c0_i32_9 : BitVec 32 := 0#32
  let v15 : BitVec 1 := Scalar.cmpi .slt v11 c0_i32_9
  let v16 : BitVec 32 := Scalar.extui v15
  let v17 : BitVec 32 := Scalar.subi v14 v16
  let c4096_i32 : BitVec 32 := 4096#32
  let c0_i32_10 : BitVec 32 := 0#32
  let v18 : BitVec 1 := Scalar.cmpi .sgt c4096_i32 c0_i32_10
  let v19 : BitVec 32 := Scalar.extui v18
  let c0_i32_11 : BitVec 32 := 0#32
  let v20 : BitVec 1 := Scalar.cmpi .slt c4096_i32 c0_i32_11
  let v21 : BitVec 32 := Scalar.extui v20
  let v22 : BitVec 32 := Scalar.subi v19 v21
  let v23 : BitVec 1 := Scalar.cmpi .ne v17 v22
  let v24 : BitVec 32 := Scalar.remsi v11 c4096_i32
  let c0_i32_12 : BitVec 32 := 0#32
  let v25 : BitVec 1 := Scalar.cmpi .ne v24 c0_i32_12
  let v26 : BitVec 1 := Scalar.andi v23 v25
  let v12 : BitVec 32 := Scalar.divsi v11 c4096_i32
  let c1_i32 : BitVec 32 := 1#32
  let v27 : BitVec 32 := Scalar.subi v12 c1_i32
  let v28 : BitVec 32 := Scalar.select v26 v27 v12
  let v29 : BitVec 32 := Scalar.addi c1_i32_13 v28
  let v30 : BitVec 32 := Scalar.select v10 c0_i32_14 v29
  let v32 : Index := Scalar.indexCast v30
  let c0_19 : Index := 0#32
  ![0, 0, v32.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S17408x2048 : Shape := ⟨2, ![17408, 2048]⟩
abbrev S4096x4096 : Shape := ⟨2, ![4096, 4096]⟩
abbrev S17408x4096 : Shape := ⟨2, ![17408, 4096]⟩
abbrev S4x6x8x4096 : Shape := ⟨4, ![4, 6, 8, 4096]⟩
abbrev S1x1x8x4096 : Shape := ⟨4, ![1, 1, 8, 4096]⟩
abbrev S8x4096 : Shape := ⟨2, ![8, 4096]⟩
abbrev S1024x4096 : Shape := ⟨2, ![1024, 4096]⟩
abbrev S1x4096 : Shape := ⟨2, ![1, 4096]⟩
abbrev S4096 : Shape := ⟨1, ![4096]⟩
abbrev S16384x4096 : Shape := ⟨2, ![16384, 4096]⟩
abbrev S4x4096x4096 : Shape := ⟨3, ![4, 4096, 4096]⟩
abbrev S4x4096 : Shape := ⟨2, ![4, 4096]⟩
abbrev S4x1x4096 : Shape := ⟨3, ![4, 1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S4096x4096, .f32⟩
  | .hbm, ⟨3, _⟩ => ⟨S17408x4096, .f32⟩
  | .hbm, ⟨4, _⟩ => ⟨S4x6x8x4096, .f32⟩
  | .hbm, ⟨5, _⟩ => ⟨S17408x2048, .f32⟩
  | .hbm, ⟨6, _⟩ => ⟨S17408x2048, .f32⟩
  | .hbm, ⟨7, _⟩ => ⟨S17408x4096, .f32⟩
  | .hbm, ⟨8, _⟩ => ⟨S17408x4096, .f32⟩
  | .hbm, ⟨9, _⟩ => ⟨S1x1x8x4096, .f32⟩
  | .hbm, ⟨10, _⟩ => ⟨S8x4096, .f32⟩
  | .hbm, ⟨11, _⟩ => ⟨S1024x4096, .f32⟩
  | .hbm, ⟨12, _⟩ => ⟨S1x4096, .f32⟩
  | .hbm, ⟨13, _⟩ => ⟨S4096, .f32⟩
  | .hbm, ⟨14, _⟩ => ⟨S1024x4096, .f32⟩
  | .hbm, ⟨15, _⟩ => ⟨S1x4096, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S16384x4096, .f32⟩
  | .hbm, ⟨20, _⟩ => ⟨S4x4096x4096, .f32⟩
  | .hbm, ⟨21, _⟩ => ⟨S4x4096, .f32⟩
  | .hbm, ⟨22, _⟩ => ⟨S4x1x4096, .f32⟩
  | .hbm, ⟨23, _⟩ => ⟨S16384x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S16384x4096, .f32⟩
  | .hbm, ⟨29, _⟩ => ⟨S17408x4096, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel6.lean ====
abbrev S17408x4096 : Shape := ⟨2, ![17408, 4096]⟩
abbrev S4096 : Shape := ⟨1, ![4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S17408x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.addi arg0 c2_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S17408x4096 : Shape := ⟨2, ![17408, 4096]⟩
abbrev S4096 : Shape := ⟨1, ![4096]⟩
abbrev S16384x4096 : Shape := ⟨2, ![16384, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S17408x4096, .f32⟩
  | .hbm, ⟨1, _⟩ => ⟨S4096, .f32⟩
  | .hbm, ⟨2, _⟩ => ⟨S16384x4096, .f32⟩
  | .hbm, ⟨3, _⟩ => ⟨S4x4096x4096, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S16384x4096, .f32⟩
  | _, _ => ⟨S17408x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.Value
public import Idealize.ShloMosaic.Lib.ValueIdx
public import Idealize.ShloMosaic.PureOps.Ideal.Laws

/-! One point of the grid as sixteen heads of attention. -/

@[expose] public section
set_option maxRecDepth 16384
noncomputable section
namespace Cert.Att
open Cert.KernelIdeal Cert.KernelIdeal.Gen Idealize.ShloMosaic Idealize.ShloMosaic.TcCoe Idealize.SL Idealize.SL.Sem Idealize.ShloMosaic.ValueIdx

variable {F : FTy → Type} [FloatOps F]
/-- The columns of a key head lie in a band block. -/
theorem inb_kv (n : Fin 2) : ∀ a : Fin 2, (![0, 64 * n.val] : Fin 2 → Nat) a + (![128, 64] : Fin 2 → Nat) a ≤ S128x128.size a := by
  intro a; match a with
  | ⟨0, _⟩ => show 0 + 128 ≤ 128; omega
  | ⟨1, _⟩ => show 64 * n.val + 64 ≤ 128; omega
/-- The columns of a key head lie in the context block. -/
theorem inb_kvx (n : Fin 2) : ∀ a : Fin 2, (![0, 64 * n.val] : Fin 2 → Nat) a + (![256, 64] : Fin 2 → Nat) a ≤ S256x128.size a := by
  intro a; match a with
  | ⟨0, _⟩ => show 0 + 256 ≤ 256; omega
  | ⟨1, _⟩ => show 64 * n.val + 64 ≤ 128; omega
/-- The columns of a query head lie in the query block. -/
theorem inb_q (n : Fin 16) : ∀ a : Fin 2, (![0, 64 * n.val] : Fin 2 → Nat) a + (![128, 64] : Fin 2 → Nat) a ≤ S128x1024.size a := by
  intro a; match a with
  | ⟨0, _⟩ => show 0 + 128 ≤ 128; omega
  | ⟨1, _⟩ => show 64 * n.val + 64 ≤ 1024; omega
/-- The keys (or values) of the block's `n`-th key head: the band's three blocks and the context block, one under another. -/
def kv (x2 x3 x4 : Vec F S128x128 .bf16) (x8 : Vec F S256x128 .bf16) (n : Fin 2) : FVec F S640x64 .bf16 :=
  k0_pay4 (View.ld x2 (Rect.unit ![0, 64 * n.val] ![128, 64] (inb_kv n))) (View.ld x3 (Rect.unit ![0, 64 * n.val] ![128, 64] (inb_kv n)))
    (View.ld x4 (Rect.unit ![0, 64 * n.val] ![128, 64] (inb_kv n))) (View.ld x8 (Rect.unit ![0, 64 * n.val] ![256, 64] (inb_kvx n)))

/-- The output of the block's `n`-th query head. -/
def head (i : grid0.Coords) (x0 : Vec F S64 .f32) (x1 : Vec F S128x1024 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S256x128 .bf16) (x9 : Vec F S256x128 .bf16)
   (n : Fin 16) : FVec F S128x64 .f32 :=
  k0_pay10 (k0_pay3 i) (kv x2 x3 x4 x8 ⟨n.val / 8, by omega⟩) (kv x5 x6 x7 x9 ⟨n.val / 8, by omega⟩)
    (View.ld x1 (Rect.unit ![0, 64 * n.val] ![128, 64] (inb_q n)))
    (View.ld x0 (Rect.unit (s := S64) (k0_off1 i (BitVec.ofNat 32 n.val)) S1.size (k0_off1_inb i n)) (Shape.Idx.first (by show 0 < S1.numel; decide)))

/-- The block's output: its sixteen heads side by side, rounded to the array's format. -/
def blk (i : grid0.Coords) (x0 : Vec F S64 .f32) (x1 : Vec F S128x1024 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S256x128 .bf16) (x9 : Vec F S256x128 .bf16) : FVec F S128x1024 .bf16 :=
  k0_pay2 (head i x0 x1 x2 x3 x4 x5 x6 x7 x8 x9 0) (head i x0 x1 x2 x3 x4 x5 x6 x7 x8 x9 1) (head i x0 x1 x2 x3 x4 x5 x6 x7 x8 x9 2) (head i x0 x1 x2 x3 x4 x5 x6 x7 x8 x9 3) (head i x0 x1 x2 x3 x4 x5 x6 x7 x8 x9 4) (head i x0 x1 x2 x3 x4 x5 x6 x7 x8 x9 5) (head i x0 x1 x2 x3 x4 x5 x6 x7 x8 x9 6) (head i x0 x1 x2 x3 x4 x5 x6 x7 x8 x9 7) (head i x0 x1 x2 x3 x4 x5 x6 x7 x8 x9 8) (head i x0 x1 x2 x3 x4 x5 x6 x7 x8 x9 9) (head i x0 x1 x2 x3 x4 x5 x6 x7 x8 x9 10) (head i x0 x1 x2 x3 x4 x5 x6 x7 x8 x9 11) (head i x0 x1 x2 x3 x4 x5 x6 x7 x8 x9 12) (head i x0 x1 x2 x3 x4 x5 x6 x7 x8 x9 13) (head i x0 x1 x2 x3 x4 x5 x6 x7 x8 x9 14) (head i x0 x1 x2 x3 x4 x5 x6 x7 x8 x9 15)

set_option backward.isDefEq.respectTransparency false in
/-- What the body leaves in its output buffer is the sixteen heads side by side. -/
theorem out_eq_blk (c : Dev nD) (i : grid0.Coords) (arg3 : Memref sig .tc .smem S64 .f32) (harg3 : arg3.IsWhole) (arg4 : Memref sig .tc .vmem S128x1024 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x128 .bf16) (harg7 : arg7.IsWhole) (arg8 : Memref sig .tc .vmem S128x128 .bf16) (harg8 : arg8.IsWhole) (arg9 : Memref sig .tc .vmem S128x128 .bf16) (harg9 : arg9.IsWhole) (arg10 : Memref sig .tc .vmem S128x128 .bf16) (harg10 : arg10.IsWhole) (arg11 : Memref sig .tc .vmem S256x128 .bf16) (harg11 : arg11.IsWhole) (arg12 : Memref sig .tc .vmem S256x128 .bf16) (harg12 : arg12.IsWhole) (arg13 : Memref sig .tc .vmem S128x1024 .bf16) (harg13 : arg13.IsWhole)
    (x0 : Vec F S64 .f32) (x1 : Vec F S128x1024 .bf16) (x2 : Vec F S128x128 .bf16) (x3 : Vec F S128x128 .bf16) (x4 : Vec F S128x128 .bf16) (x5 : Vec F S128x128 .bf16) (x6 : Vec F S128x128 .bf16) (x7 : Vec F S128x128 .bf16) (x8 : Vec F S256x128 .bf16) (x9 : Vec F S256x128 .bf16) :
   out0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9 = blk i x0 x1 x2 x3 x4 x5 x6 x7 x8 x9 := by
  refine Eq.trans (b := blk i (arg3.view.read (Elt F) (harg3.unread x0)) (arg4.view.read (Elt F) (harg4.unread x1)) (arg5.view.read (Elt F) (harg5.unread x2)) (arg6.view.read (Elt F) (harg6.unread x3)) (arg7.view.read (Elt F) (harg7.unread x4)) (arg8.view.read (Elt F) (harg8.unread x5)) (arg9.view.read (Elt F) (harg9.unread x6)) (arg10.view.read (Elt F) (harg10.unread x7)) (arg11.view.read (Elt F) (harg11.unread x8)) (arg12.view.read (Elt F) (harg12.unread x9))) ?_
    (by simp only [harg3.read_unread, harg4.read_unread, harg5.read_unread, harg6.read_unread, harg7.read_unread, harg8.read_unread, harg9.read_unread, harg10.read_unread, harg11.read_unread, harg12.read_unread])
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 x0 x1 x2 x3 x4 x5 x6 x7 x8 x9)]
  unfold kernelRun0_A
  dsimp only
  sl_unfold_words
  rw [View.canon_unit_zero (by decide)]
  unfold blk
  congr 1
end Cert.Att
-- ==== Proof.Softmax.lean ====
/- The mathematics of one output of the attention: a softmax over a finite family of logits and one further logit, the
   sink, and the average of the values under it. Nothing here mentions a program. -/
module

public import Idealize.ShloMosaic.PureOps.Ideal
public import Mathlib.Data.EReal.Inv

@[expose] public section

noncomputable section

namespace Cert.Att

open Idealize.ShloMosaic

/-- The largest of the logits `s` and the sink `b`. -/
def top {ι : Type} [Fintype ι] (s : ι → EReal) (b : EReal) : EReal := max (Finset.univ.sup s) b

/-- The softmax's denominator: the exponentials of the logits and of the sink, each less the largest. -/
def denom {ι : Type} [Fintype ι] (s : ι → EReal) (b : EReal) : EReal :=
  ∑ i, Ideal.exp (s i - top s b) + Ideal.exp (b - top s b)

/-- The values `v` weighted by the exponentials of their logits, divided once by the denominator. -/
def attend {ι : Type} [Fintype ι] (s v : ι → EReal) (b : EReal) : EReal :=
  Ideal.div (∑ i, Ideal.exp (s i - top s b) * v i) (denom s b)

/-- Nothing is left of a logit that is `-∞`, whatever is subtracted from it. -/
theorem exp_bot_sub (x : EReal) : Ideal.exp (⊥ - x) = 0 := by
  rw [sub_eq_add_neg, EReal.bot_add, Ideal.exp_bot]

theorem exp_nonneg (x : EReal) : 0 ≤ Ideal.exp x := by
  induction x with
  | bot => simp
  | top => simp
  | coe r => rw [Ideal.exp_coe]; exact_mod_cast (Real.exp_pos r).le

theorem exp_pos {x : EReal} (h : x ≠ ⊥) : 0 < Ideal.exp x := by
  induction x with
  | bot => exact absurd rfl h
  | top => simp
  | coe r => rw [Ideal.exp_coe]; exact_mod_cast Real.exp_pos r

/-- A sum over a family that vanishes off the image of an injective map is the sum along the map. -/
theorem sum_along {ι κ : Type} [Fintype ι] [Fintype κ] (e : κ → ι) (he : Function.Injective e) (f : ι → EReal)
    (h : ∀ i, i ∉ Set.range e → f i = 0) : ∑ i, f i = ∑ k, f (e k) := by
  classical
  rw [← Finset.sum_image (s := Finset.univ) (g := e) (f := f) (fun a _ b _ hab => he hab)]
  symm
  refine Finset.sum_subset (Finset.subset_univ _) fun i _ hi => h i ?_
  rintro ⟨k, rfl⟩
  exact hi (Finset.mem_image_of_mem _ (Finset.mem_univ k))

/-- Logits that are `-∞` off the image of an injective map do not take part in the largest. -/
theorem top_along {ι κ : Type} [Fintype ι] [Fintype κ] (e : κ → ι) (s : ι → EReal) (b : EReal)
    (h : ∀ i, i ∉ Set.range e → s i = ⊥) : top s b = top (fun k => s (e k)) b := by
  unfold top
  congr 1
  refine le_antisymm (Finset.sup_le fun i _ => ?_) (Finset.sup_le fun k _ => Finset.le_sup (f := s) (Finset.mem_univ (e k)))
  by_cases hi : i ∈ Set.range e
  · obtain ⟨k, rfl⟩ := hi
    exact Finset.le_sup (f := fun k => s (e k)) (Finset.mem_univ k)
  · rw [h i hi]; exact bot_le

/-- Logits that are `-∞` off the image of an injective map can be left out. -/
theorem attend_along {ι κ : Type} [Fintype ι] [Fintype κ] (e : κ → ι) (he : Function.Injective e) (s v : ι → EReal) (b : EReal)
    (h : ∀ i, i ∉ Set.range e → s i = ⊥) : attend s v b = attend (fun k => s (e k)) (fun k => v (e k)) b := by
  unfold attend denom
  rw [top_along e s b h]
  rw [sum_along e he (fun i => Ideal.exp (s i - top (fun k => s (e k)) b)) fun i hi => by rw [h i hi, exp_bot_sub],
    sum_along e he (fun i => Ideal.exp (s i - top (fun k => s (e k)) b) * v i) fun i hi => by
      rw [h i hi, exp_bot_sub, zero_mul]]

/-- A number that is neither negative nor `+∞` moves into a sum of extended reals. -/
theorem sum_mul_of_nonneg {ι : Type} (t : Finset ι) (f : ι → EReal) {c : EReal} (h : 0 ≤ c) (h' : c ≠ ⊤) :
    (∑ i ∈ t, f i) * c = ∑ i ∈ t, f i * c := by
  classical
  induction t using Finset.induction_on with
  | empty => simp
  | insert a t ha ih => rw [Finset.sum_insert ha, Finset.sum_insert ha, EReal.right_distrib_of_nonneg_of_ne_top h h', ih]

theorem inv_ne_top (x : EReal) : x⁻¹ ≠ ⊤ := by
  induction x with
  | bot => simp
  | top => simp
  | coe r => rw [← EReal.coe_inv]; exact EReal.coe_ne_top _

/-- With a sink that is a number and no logit `+∞`, the denominator is positive. -/
theorem denom_pos {ι : Type} [Fintype ι] (s : ι → EReal) (b : EReal) (hs : ∀ i, s i ≠ ⊤) (hb : b ≠ ⊤) (hb' : b ≠ ⊥) :
    0 < denom s b := by
  have hm : top s b ≠ ⊤ := by
    unfold top
    refine ne_of_lt (max_lt ?_ hb.lt_top)
    exact (Finset.sup_lt_iff bot_lt_top).2 fun i _ => (hs i).lt_top
  have hx : b - top s b ≠ ⊥ := by
    rw [sub_eq_add_neg, Ne, EReal.add_eq_bot_iff, not_or]
    exact ⟨hb', by rw [EReal.neg_eq_bot_iff]; exact hm⟩
  exact lt_of_lt_of_le (exp_pos hx) (le_add_of_nonneg_left (Finset.sum_nonneg fun i _ => exp_nonneg _))

/-- Dividing each weight before the values are averaged gives the same as dividing the average. -/
theorem sum_div_eq_attend {ι : Type} [Fintype ι] (s v : ι → EReal) (b : EReal) (hs : ∀ i, s i ≠ ⊤) (hb : b ≠ ⊤) (hb' : b ≠ ⊥) :
    ∑ i, v i * Ideal.div (Ideal.exp (s i - top s b)) (denom s b) = attend s v b := by
  have hd := denom_pos s b hs hb hb'
  unfold attend Ideal.div
  rw [if_neg hd.ne', sum_mul_of_nonneg _ _ (EReal.inv_nonneg_of_nonneg hd.le) (inv_ne_top _)]
  refine Finset.sum_congr rfl fun i _ => ?_
  rw [if_neg hd.ne', ← mul_assoc, mul_comm (v i)]

/-- The largest of a family with one more logit at its end is the largest of the rest and that one. -/
theorem sup_snoc {n : Nat} (t : Fin (n + 1) → EReal) :
    Finset.univ.sup t = top (fun i : Fin n => t i.castSucc) (t (Fin.last n)) := by
  unfold top
  refine le_antisymm (Finset.sup_le fun i _ => ?_) (max_le (Finset.sup_le fun i _ => Finset.le_sup (Finset.mem_univ _)) (Finset.le_sup (Finset.mem_univ _)))
  refine Fin.lastCases (le_max_right _ _) (fun j => ?_) i
  exact le_max_of_le_left (Finset.le_sup (f := fun i : Fin n => t i.castSucc) (Finset.mem_univ j))

/-- A family with the sink at its end: its exponentials add up to the denominator. -/
theorem sum_snoc {n : Nat} (t : Fin (n + 1) → EReal) :
    ∑ i, Ideal.exp (t i - Finset.univ.sup t) = denom (fun i : Fin n => t i.castSucc) (t (Fin.last n)) := by
  rw [sup_snoc, Fin.sum_univ_castSucc]; rfl

end Cert.Att

end
-- ==== Proof.Mask.lean ====
module

public import proofs.«01_k».proof.Proof.Gen.KernelIdeal.Value
public import Idealize.ShloMosaic.Lib.ValueIdx

/-! Which of its 640 keys a query row of a block may read: the mask's words as a statement about whole numbers. -/

@[expose] public section
set_option maxRecDepth 16384
noncomputable section
namespace Cert.Att
open Cert.KernelIdeal Cert.KernelIdeal.Gen Idealize.ShloMosaic Idealize.ShloMosaic.ValueIdx

/-- A small number's word read signed is the number. -/
theorem small_toInt (n : Nat) (h : n < 2 ^ 31) : (BitVec.ofNat 32 n).toInt = n := by
  rw [BitVec.toInt_ofNat']
  exact Int.bmod_eq_of_le (by omega) (by omega)

/-- A difference of words that stays within the signed range. -/
theorem sub_toInt {x y : BitVec 32} {a b : Int} (hx : x.toInt = a) (hy : y.toInt = b) (h : -2 ^ 31 ≤ a - b ∧ a - b < 2 ^ 31) :
    (IntOp.subi x y).toInt = a - b := by
  rw [IntOp.subi, BitVec.toInt_sub, hx, hy]
  exact Int.bmod_eq_of_le (by omega) (by omega)

/-- A sum of words that stays within the signed range. -/
theorem add_toInt {x y : BitVec 32} {a b : Int} (hx : x.toInt = a) (hy : y.toInt = b) (h : -2 ^ 31 ≤ a + b ∧ a + b < 2 ^ 31) :
    (IntOp.addi x y).toInt = a + b := by
  rw [IntOp.addi, BitVec.toInt_add, hx, hy]
  exact Int.bmod_eq_of_le (by omega) (by omega)

/-- A product of words that stays within the signed range. -/
theorem mul_toInt {x y : BitVec 32} {a b : Int} (hx : x.toInt = a) (hy : y.toInt = b) (h : -2 ^ 31 ≤ a * b ∧ a * b < 2 ^ 31) :
    (IntOp.muli x y).toInt = a * b := by
  rw [IntOp.muli, BitVec.toInt_mul, hx, hy]
  exact Int.bmod_eq_of_le (by omega) (by omega)

/-- The absolute value of a word that is not the least one. -/
theorem abs_toInt {x : BitVec 32} {a : Int} (hx : x.toInt = a) (h : -2 ^ 31 < a) : (IntOp.absi x).toInt = |a| := by
  unfold IntOp.absi
  by_cases hm : x.msb
  · rw [if_pos hm, BitVec.toInt_neg_of_ne_intMin (by rintro rfl; have : (BitVec.intMin 32).toInt = -2 ^ 31 := by decide
                                                     omega), hx]
    rw [BitVec.msb_eq_toInt, decide_eq_true_eq] at hm
    rw [abs_of_neg (by omega)]
  · rw [if_neg hm, hx]
    rw [BitVec.msb_eq_toInt, decide_eq_true_eq] at hm
    rw [abs_of_nonneg (by omega)]

/-- Row `r` of a block at block row `i` may read its key `c`: a context key, or, in a latent block, a latent key of
    the sequence within 128 positions. -/
def Reads (i r c : Nat) : Prop :=
  384 ≤ c ∨ (2 ≤ i ∧ r ≤ c ∧ c ≤ r + 256 ∧ 384 ≤ 128 * i + c ∧ 128 * i + c < 4480)

instance (i r c : Nat) : Decidable (Reads i r c) := by unfold Reads; infer_instance

/-- The mask's bit is `Reads`. -/
theorem mask_apply (i : grid0.Coords) (r : Fin 128) (c : Fin 640) :
    k0_pay3 i (ix2 r c) = BitVec.ofBool (decide (Reads (i 1).val r.val c.val)) := by
  have hi : (i 1).val < 34 := (i 1).isLt
  have hr := r.isLt
  have hc := c.isLt
  have ei := small_toInt (i 1).val (by omega)
  have er := small_toInt r.val (by omega)
  have ec := small_toInt c.val (by omega)
  have e128 : (128#32 : BitVec 32).toInt = 128 := by decide
  have e0 : (0#32 : BitVec 32).toInt = 0 := by decide
  have eI := sub_toInt ei (show (2#32 : BitVec 32).toInt = 2 by decide) (by omega)
  have eP := add_toInt (sub_toInt (mul_toInt eI e128 (by omega)) e128 (by omega)) ec (by omega)
  have eW := abs_toInt (sub_toInt (sub_toInt ec e128 (by omega)) er (by omega)) (by omega)
  show IntOp.ori (BitVec.ofBool (decide ((384#32 : BitVec 32).toInt ≤ (BitVec.ofNat 32 (0 * 640 + c.val)).toInt)))
    (IntOp.andi (IntOp.andi (IntOp.andi
      (BitVec.ofBool (decide ((IntOp.absi (IntOp.subi (IntOp.subi (BitVec.ofNat 32 (0 * 640 + c.val)) 128#32) (BitVec.ofNat 32 (0 * 128 + r.val)))).toInt ≤ (128#32 : BitVec 32).toInt)))
      (BitVec.ofBool (decide ((0#32 : BitVec 32).toInt ≤ (IntOp.addi (IntOp.subi (IntOp.muli (IntOp.subi (BitVec.ofNat 32 (i 1).val) 2#32) 128#32) 128#32) (BitVec.ofNat 32 (0 * 640 + c.val))).toInt))))
      (BitVec.ofBool (decide ((IntOp.addi (IntOp.subi (IntOp.muli (IntOp.subi (BitVec.ofNat 32 (i 1).val) 2#32) 128#32) 128#32) (BitVec.ofNat 32 (0 * 640 + c.val))).toInt < (4096#32 : BitVec 32).toInt))))
      (BitVec.ofBool (decide ((0#32 : BitVec 32).toInt ≤ (IntOp.subi (BitVec.ofNat 32 (i 1).val) 2#32).toInt)))) = _
  rw [Nat.zero_mul, Nat.zero_add, Nat.zero_add]
  rw [eW, eP, eI, ec, e128, e0, show (384#32 : BitVec 32).toInt = 384 by decide, show (4096#32 : BitVec 32).toInt = 4096 by decide]
  unfold IntOp.ori IntOp.andi
  simp only [BitVec.ofBool_and_ofBool, BitVec.ofBool_or_ofBool, ← Bool.decide_and, ← Bool.decide_or]
  congr 1
  rw [decide_eq_decide]
  unfold Reads
  rw [abs_le]
  omega

/-- A choice by the mask's bit is a choice by `Reads`. -/
theorem select_mask {α : Type} (i : grid0.Coords) (r : Fin 128) (c : Fin 640) (x y : α) :
    Scalar.select (k0_pay3 i (ix2 r c)) x y = if Reads (i 1).val r.val c.val then x else y := by
  rw [mask_apply]
  by_cases h : Reads (i 1).val r.val c.val
  · rw [if_pos h, decide_eq_true h]; rfl
  · rw [if_neg h, decide_eq_false h]; rfl

end Cert.Att
-- ==== Proof.Head.lean ====
module

public import proofs.«01_k».proof.Proof.Gen.KernelIdeal.Value
public import proofs.«01_k».proof.Proof.Softmax
public import proofs.«01_k».proof.Proof.Mask
public import Idealize.ShloMosaic.Lib.Pipeline.Value
public import Idealize.ShloMosaic.Lib.ValueIdx
public import Idealize.ShloMosaic.PureOps.Ideal.Laws

/-! One head of one block, entry by entry: it is `attend` of the masked, scaled scores. -/

@[expose] public section
set_option maxRecDepth 16384
noncomputable section
namespace Cert.Att
open Cert.KernelIdeal Cert.KernelIdeal.Gen Idealize.ShloMosaic Idealize.ShloMosaic.TcCoe Idealize.SL Idealize.SL.Sem Idealize.ShloMosaic.ValueIdx

/-- The word the mask writes is `-∞`. -/
theorem ofBits_neg_inf : Ideal.ofBits .f32 0xFF800000#32 = ⊥ := by
  simp [Ideal.ofBits, Ideal.ieee]
/-- The single-precision word of `∞`. -/
theorem ofBits_inf : Ideal.ofBits .f32 0x7F800000#32 = ⊤ := by
  simp [Ideal.ofBits, Ideal.ieee]
/-- The half-width word of `∞`. -/
theorem ofBits_inf16 : Ideal.ofBits .bf16 0x7F80#16 = ⊤ := by
  simp [Ideal.ofBits, Ideal.ieee]
/-- The scale's word is one eighth. -/
theorem ofBits_eighth : Ideal.ofBits .f32 0x3E000000#32 = ((1 / 8 : ℝ) : EReal) := by
  simp [Ideal.ofBits, Ideal.ieee]
  rw [← EReal.coe_mul]
  norm_num

/-- The masked, scaled scores. -/
def scores (valid : IVec S128x640 1) (k : FVec Ideal S640x64 .bf16) (q : FVec Ideal S128x64 .bf16) : FVec Ideal S128x640 .f32 :=
  select valid (mulf (matmul dot_S128x64_S640x64_S128x640_1_1_0_0_n_n none q k (constant S128x640 .f32 0x00000000#32))
    (broadcast S128x640 (Scalar.ofBits .f32 0x3E000000#32))) (broadcast S128x640 (Scalar.ofBits .f32 0xFF800000#32))

/-- The masked, scaled scores, entry by entry. -/
theorem scores_apply (valid : IVec S128x640 1) (k : FVec Ideal S640x64 .bf16) (q : FVec Ideal S128x64 .bf16) (r : Fin 128) (c : Fin 640) :
    scores valid k q (ix2 r c) = Scalar.select (valid (ix2 r c)) ((∑ j : Fin 64, (q (ix2 r j) : EReal) * k (ix2 c j)) * ((1 / 8 : ℝ) : EReal)) ⊥ := by
  unfold scores
  rw [select_apply, mulf_apply, broadcast_apply, broadcast_apply]
  show Scalar.select _ (FloatOps.matmul _ _ _ _ _ _ * Ideal.ofBits .f32 0x3E000000#32) (Ideal.ofBits .f32 0xFF800000#32) = _
  rw [Ideal.matmul_constant_zero_apply, ofBits_neg_inf, ofBits_eighth,
    ← Equiv.sum_comp (contrEquiv1 dot_S128x64_S640x64_S128x640_1_1_0_0_n_n 64 rfl rfl).symm]
  congr 2
  refine Finset.sum_congr rfl fun j _ => ?_
  have hk := contrEquiv1_symm_val dot_S128x64_S640x64_S128x640_1_1_0_0_n_n 64 rfl rfl j
  generalize (contrEquiv1 dot_S128x64_S640x64_S128x640_1_1_0_0_n_n 64 rfl rfl).symm j = J at hk
  have e1 : dot_S128x64_S640x64_S128x640_1_1_0_0_n_n.lhsIdx (ix2 r c) J = ix2 r j := by
    funext a; apply Fin.ext
    match a with
    | ⟨0, _⟩ => rfl
    | ⟨1, _⟩ => exact hk
  have e2 : dot_S128x64_S640x64_S128x640_1_1_0_0_n_n.rhsIdx (ix2 r c) J = ix2 c j := by
    funext a; apply Fin.ext
    match a with
    | ⟨0, _⟩ => rfl
    | ⟨1, _⟩ => exact hk
  rw [e1, e2]

/-- The product of weights and values, entry by entry. -/
theorem pv_apply (p : FVec Ideal S128x640 .bf16) (v : FVec Ideal S640x64 .bf16) (r : Fin 128) (d : Fin 64) :
    matmul dot_S128x640_S640x64_S128x64_1_0_0_1_n_n none p v (constant S128x64 .f32 0x00000000#32) (ix2 r d)
      = ∑ c : Fin 640, (p (ix2 r c) : EReal) * v (ix2 c d) := by
  show FloatOps.matmul _ _ _ _ _ _ = _
  rw [Ideal.matmul_constant_zero_apply,
    ← Equiv.sum_comp (contrEquiv1 dot_S128x640_S640x64_S128x64_1_0_0_1_n_n 640 rfl rfl).symm]
  refine Finset.sum_congr rfl fun j _ => ?_
  have hk := contrEquiv1_symm_val dot_S128x640_S640x64_S128x64_1_0_0_1_n_n 640 rfl rfl j
  generalize (contrEquiv1 dot_S128x640_S640x64_S128x64_1_0_0_1_n_n 640 rfl rfl).symm j = J at hk
  have e1 : dot_S128x640_S640x64_S128x64_1_0_0_1_n_n.lhsIdx (ix2 r d) J = ix2 r j := by
    funext a; apply Fin.ext
    match a with
    | ⟨0, _⟩ => rfl
    | ⟨1, _⟩ => exact hk
  have e2 : dot_S128x640_S640x64_S128x64_1_0_0_1_n_n.rhsIdx (ix2 r d) J = ix2 j d := by
    funext a; apply Fin.ext
    match a with
    | ⟨0, _⟩ => exact hk
    | ⟨1, _⟩ => rfl
  rw [e1, e2]

/-- A maximum along a row of 640. -/
theorem max_apply (s : FVec Ideal S128x640 .f32) (h) (h1) (h2) (r : Fin 128) :
    multiReduction .maximumf [1] S128 s 0xFF800000#32 h h1 h2 (ix1 r) = Finset.univ.sup (fun c : Fin 640 => (s (ix2 r c) : EReal)) := by
  rw [Ideal.multiReduction_maximumf_single]
  rw [Ideal.ofBits_def, ofBits_neg_inf]
  show Finset.fold max ⊥ _ _ = Finset.fold max ⊥ _ _
  congr 1
  funext c
  show s _ = s _
  congr 1
  funext a; apply Fin.ext
  match a with
  | ⟨0, _⟩ => rfl
  | ⟨1, _⟩ => rfl

/-- A sum along a row of 640. -/
theorem sum_apply (s : FVec Ideal S128x640 .f32) (h) (h1) (h2) (r : Fin 128) :
    multiReduction .add [1] S128 s 0x00000000#32 h h1 h2 (ix1 r) = ∑ c : Fin 640, (s (ix2 r c) : EReal) := by
  rw [Ideal.multiReduction_add_single]
  refine Finset.sum_congr rfl fun c _ => ?_
  congr 1
  funext a; apply Fin.ext
  match a with
  | ⟨0, _⟩ => rfl
  | ⟨1, _⟩ => rfl

/-- The largest score of a row, or the sink. -/
def rowTop (s : FVec Ideal S128x640 .f32) (b : Ideal .f32) : FVec Ideal S128x1 .f32 :=
  maximumf (shapeCast S128x1 (multiReduction .maximumf [1] S128 s 0xFF800000#32 reduces_S128x640_S128 (.inl rfl) rfl) shapeCasts_S128_S128x1)
    (broadcast S128x1 b)

/-- A column of row results, entry by entry. -/
theorem col_apply (x : FVec Ideal S128 .f32) (r : Fin 128) : shapeCast S128x1 x shapeCasts_S128_S128x1 (ix2 r 0) = x (ix1 r) :=
  shapeCast_apply x _ _ _ (by
    rw [Shape.rowMajor_val_one, Shape.rowMajor_val_two]; show r.val = r.val * 1 + 0; omega)

/-- A column spread over 640 columns. -/
theorem across640_apply (x : FVec Ideal S128x1 .f32) (r : Fin 128) (c : Fin 640) :
    broadcastTo S128x640 x broadcasts_S128x1_S128x640 (ix2 r c) = x (ix2 r 0) :=
  broadcastTo_apply x _ _ _ (fun a => match a with | ⟨0, _⟩ => rfl | ⟨1, _⟩ => rfl)

/-- A column spread over 64 columns. -/
theorem across64_apply (x : FVec Ideal S128x1 .f32) (r : Fin 128) (c : Fin 64) :
    broadcastTo S128x64 x broadcasts_S128x1_S128x64 (ix2 r c) = x (ix2 r 0) :=
  broadcastTo_apply x _ _ _ (fun a => match a with | ⟨0, _⟩ => rfl | ⟨1, _⟩ => rfl)

set_option backward.isDefEq.respectTransparency false in
/-- A row's largest score, or the sink. -/
theorem rowTop_apply (s : FVec Ideal S128x640 .f32) (b : Ideal .f32) (r : Fin 128) :
    rowTop s b (ix2 r 0) = top (fun c : Fin 640 => (s (ix2 r c) : EReal)) b := by
  unfold rowTop
  rw [maximumf_apply, col_apply, max_apply]
  rfl

/-- The exponentials of the scores, each less the row's largest. -/
def weights (s : FVec Ideal S128x640 .f32) (b : Ideal .f32) : FVec Ideal S128x640 .f32 :=
  exp (subf s (broadcastTo S128x640 (rowTop s b) broadcasts_S128x1_S128x640))

/-- The weights, entry by entry. -/
theorem weights_apply (s : FVec Ideal S128x640 .f32) (b : Ideal .f32) (r : Fin 128) (c : Fin 640) :
    weights s b (ix2 r c) = Ideal.exp (s (ix2 r c) - top (fun c : Fin 640 => (s (ix2 r c) : EReal)) b) := by
  unfold weights
  show Ideal.exp (s (ix2 r c) - broadcastTo S128x640 (rowTop s b) broadcasts_S128x1_S128x640 (ix2 r c)) = _
  rw [across640_apply, rowTop_apply]

/-- One head's output from its scores. -/
def soft (s : FVec Ideal S128x640 .f32) (v : FVec Ideal S640x64 .bf16) (b : Ideal .f32) : FVec Ideal S128x64 .f32 :=
  divf (matmul dot_S128x640_S640x64_S128x64_1_0_0_1_n_n none (truncf .bf16 (weights s b) bitsLt_bf16_f32) v (constant S128x64 .f32 0x00000000#32))
    (broadcastTo S128x64 (addf (shapeCast S128x1 (multiReduction .add [1] S128 (weights s b) 0x00000000#32 reduces_S128x640_S128 (.inl rfl) rfl)
      shapeCasts_S128_S128x1) (exp (subf (broadcast S128x1 b) (rowTop s b)))) broadcasts_S128x1_S128x64)

set_option backward.isDefEq.respectTransparency false in
/-- One head's output, entry by entry. -/
theorem soft_apply (s : FVec Ideal S128x640 .f32) (v : FVec Ideal S640x64 .bf16) (b : Ideal .f32) (r : Fin 128) (d : Fin 64) :
    soft s v b (ix2 r d) = attend (fun c : Fin 640 => (s (ix2 r c) : EReal)) (fun c => v (ix2 c d)) b := by
  unfold soft
  rw [divf_apply, pv_apply, across64_apply, addf_apply, col_apply, sum_apply]
  simp only [truncf_apply, weights_apply]
  show Ideal.div _ (_ + Ideal.exp (b - rowTop s b (ix2 r 0))) = _
  rw [rowTop_apply]
  rfl

/-- The kernel's head is `soft` of its scores. -/
theorem head_eq (valid : IVec S128x640 1) (k v : FVec Ideal S640x64 .bf16) (q : Vec Ideal S128x64 .bf16) (b : Ideal .f32) :
    k0_pay10 (F := Ideal) valid k v q b = soft (scores valid k q) v b := rfl
/-- One head of a block at row `r` and coordinate `d`. -/
theorem head_apply (i : grid0.Coords) (k v : FVec Ideal S640x64 .bf16) (q : Vec Ideal S128x64 .bf16) (b : Ideal .f32) (r : Fin 128) (d : Fin 64) :
    k0_pay10 (F := Ideal) (k0_pay3 i) k v q b (ix2 r d)
      = attend (fun c : Fin 640 => if Reads (i 1).val r.val c.val then
          (∑ j : Fin 64, (q (ix2 r j) : EReal) * k (ix2 c j)) * ((1 / 8 : ℝ) : EReal) else ⊥) (fun c => v (ix2 c d)) b := by
  rw [head_eq, soft_apply]
  congr 1
  funext c
  rw [scores_apply, select_mask]

end Cert.Att
-- ==== Proof.Spec.lean ====
module

public import proofs.«01_k».proof.Proof.Softmax
public import Idealize.ShloMosaic.Lib.ValueIdx

/-! The attention as one formula over the rows of the array that holds queries, keys and values side by side.

Row `R` of the array is a context position (the first 1024 rows, 256 to a batch entry) or a latent position (4096 to
a batch entry). Columns `0–4095` are the 64 query heads, `4096–4607` the 8 key heads, `4608–5119` the 8 value heads. -/

@[expose] public section
set_option maxRecDepth 16384
noncomputable section
namespace Cert.Att
open Idealize.ShloMosaic Idealize.ShloMosaic.ValueIdx

/-- The array's entry at a row and a column given as numbers. -/
def cell (x : (⟨2, ![17408, 5120]⟩ : Shape).Idx → EReal) (R C : Nat) : EReal :=
  if h : R < 17408 ∧ C < 5120 then x (ix2 ⟨R, h.1⟩ ⟨C, h.2⟩) else 0

/-- An entry is the entry at its row and column numbers. -/
theorem cell_eq (x : (⟨2, ![17408, 5120]⟩ : Shape).Idx → EReal) (i : (⟨2, ![17408, 5120]⟩ : Shape).Idx) {R C : Nat}
    (hR : (i 0).val = R) (hC : (i 1).val = C) : x i = cell x R C := by
  have h0 : R < 17408 := hR ▸ (i 0).isLt
  have h1 : C < 5120 := hC ▸ (i 1).isLt
  unfold cell
  rw [dif_pos ⟨h0, h1⟩]
  congr 1
  funext a
  apply Fin.ext
  match a with
  | ⟨0, _⟩ => exact hR
  | ⟨1, _⟩ => exact hC

/-- The sink logit of a head given as a number. -/
def sinkAt (s : (⟨1, ![64]⟩ : Shape).Idx → EReal) (h : Nat) : EReal := if p : h < 64 then s (ix1 ⟨h, p⟩) else 0

/-- A sink logit is the one of its head's number. -/
theorem sinkAt_eq (s : (⟨1, ![64]⟩ : Shape).Idx → EReal) (i : (⟨1, ![64]⟩ : Shape).Idx) {h : Nat} (hh : (i 0).val = h) :
    s i = sinkAt s h := by
  have h0 : h < 64 := hh ▸ (i 0).isLt
  unfold sinkAt
  rw [dif_pos h0]
  congr 1
  funext a
  apply Fin.ext
  match a with
  | ⟨0, _⟩ => exact hh

/-- The batch entry of a row. -/
def batchOf (R : Nat) : Nat := if R < 1024 then R / 256 else (R - 1024) / 4096

/-- The query of row `R` attends to the key of row `k`: a context key of its own batch entry, or, for a latent query,
    a latent key of its own batch entry within 128 positions. -/
def Sees (R k : Nat) : Prop :=
  (k < 1024 ∧ batchOf k = batchOf R) ∨ (1024 ≤ R ∧ 1024 ≤ k ∧ batchOf k = batchOf R ∧ R ≤ k + 128 ∧ k ≤ R + 128)

instance (R k : Nat) : Decidable (Sees R k) := by unfold Sees; infer_instance

/-- The scaled product of row `R`'s query of head `h` with row `k`'s key of the head's group. -/
def logit (x : (⟨2, ![17408, 5120]⟩ : Shape).Idx → EReal) (R h k : Nat) : EReal :=
  (∑ j : Fin 64, cell x R (64 * h + j.val) * cell x k (4096 + 64 * (h / 8) + j.val)) * ((1 / 8 : ℝ) : EReal)

/-- The attention's result in row `R`, head `h`, coordinate `d`. -/
def spec (x : (⟨2, ![17408, 5120]⟩ : Shape).Idx → EReal) (s : (⟨1, ![64]⟩ : Shape).Idx → EReal) (R h d : Nat) : EReal :=
  attend (fun k : Fin 17408 => if Sees R k.val then logit x R h k.val else ⊥)
    (fun k : Fin 17408 => cell x k.val (4608 + 64 * (h / 8) + d)) (sinkAt s h)

/-- The attention over the keys listed by `e`, when those are, once each, the keys the row sees. -/
theorem spec_along (x : (⟨2, ![17408, 5120]⟩ : Shape).Idx → EReal) (s : (⟨1, ![64]⟩ : Shape).Idx → EReal) (R h d : Nat)
    {κ : Type} [Fintype κ] (e : κ → Nat) (he : Function.Injective e) (hlt : ∀ k, e k < 17408) (hsee : ∀ k, Sees R (e k))
    (hall : ∀ k, k < 17408 → Sees R k → ∃ i, e i = k) :
    spec x s R h d = attend (fun k => logit x R h (e k)) (fun k => cell x (e k) (4608 + 64 * (h / 8) + d)) (sinkAt s h) := by
  unfold spec
  rw [attend_along (fun k => (⟨e k, hlt k⟩ : Fin 17408)) (fun a b hab => he (congrArg Fin.val hab))]
  · congr 1
    funext k
    exact if_pos (hsee k)
  · intro i hi
    refine if_neg fun hs => hi ?_
    obtain ⟨k, hk⟩ := hall i.val i.isLt hs
    exact ⟨k, Fin.ext hk⟩

/-- The same when only the keys `c` with `P c` of a longer list are seen, and the others' logits are `-∞`. -/
theorem spec_masked (x : (⟨2, ![17408, 5120]⟩ : Shape).Idx → EReal) (s : (⟨1, ![64]⟩ : Shape).Idx → EReal) (R h d : Nat)
    {κ : Type} [Fintype κ] (P : κ → Prop) [DecidablePred P] (e : κ → Nat) (he : ∀ a b, P a → P b → e a = e b → a = b)
    (hlt : ∀ k, P k → e k < 17408) (hsee : ∀ k, P k → Sees R (e k)) (hall : ∀ k, k < 17408 → Sees R k → ∃ i, P i ∧ e i = k) :
    attend (fun k => if P k then logit x R h (e k) else ⊥) (fun k => cell x (e k) (4608 + 64 * (h / 8) + d)) (sinkAt s h)
      = spec x s R h d := by
  rw [spec_along x s R h d (κ := {k // P k}) (fun k => e k.1) (fun a b hab => Subtype.ext (he _ _ a.2 b.2 hab))
    (fun k => hlt _ k.2) (fun k => hsee _ k.2) (fun k hk hs => let ⟨i, hi, e⟩ := hall k hk hs; ⟨⟨i, hi⟩, e⟩),
    attend_along (Subtype.val : {k // P k} → κ) Subtype.val_injective]
  · congr 1
    funext k
    exact if_pos k.2
  · intro i hi
    exact if_neg fun hp => hi ⟨⟨i, hp⟩, rfl⟩

end Cert.Att
-- ==== Proof.BlockValue.lean ====
module

public import proofs.«01_k».proof.Proof.Block
public import proofs.«01_k».proof.Proof.Head
public import proofs.«01_k».proof.Proof.Spec

/-! One point of the grid, entry by entry: the attention's formula at the row and head the entry stands for. -/

@[expose] public section
set_option maxRecDepth 16384
noncomputable section
namespace Cert.Att
open Cert.KernelIdeal Cert.KernelIdeal.Gen Idealize.ShloMosaic Idealize.ShloMosaic.TcCoe Idealize.SL Idealize.SL.Sem Idealize.ShloMosaic.ValueIdx

/-- The row of the array that a block at batch entry `b` and block row `i` holds as its key `c`. -/
def keyRow (b i c : Nat) : Nat :=
  if c < 128 then 128 * (8 + 32 * b + min 31 (i - 3)) + c
  else if c < 256 then 128 * (8 + 32 * b + min 31 (i - 2)) + (c - 128)
  else if c < 384 then 128 * (8 + 32 * b + min 31 (i - 1)) + (c - 256)
  else 256 * b + (c - 384)

/-- The row of the array that a block at batch entry `b` and block row `i` holds as its query `r`. -/
def queryRow (b i r : Nat) : Nat := 128 * (if i < 2 then b * 2 + i else 8 + b * 32 + i - 2) + r

/-- A key head's 640 rows, entry by entry, from what the four blocks hold. -/
theorem kv_apply (x : S17408x5120.Idx → EReal) (b i C : Nat) (x2 x3 x4 : Vec Ideal S128x128 .bf16) (x8 : Vec Ideal S256x128 .bf16)
    (h2 : ∀ y : S128x128.Idx, x2 y = cell x (128 * (8 + 32 * b + min 31 (i - 3)) + (y 0).val) (C + (y 1).val))
    (h3 : ∀ y : S128x128.Idx, x3 y = cell x (128 * (8 + 32 * b + min 31 (i - 2)) + (y 0).val) (C + (y 1).val))
    (h4 : ∀ y : S128x128.Idx, x4 y = cell x (128 * (8 + 32 * b + min 31 (i - 1)) + (y 0).val) (C + (y 1).val))
    (h8 : ∀ y : S256x128.Idx, x8 y = cell x (256 * b + (y 0).val) (C + (y 1).val))
    (n : Fin 2) (c : Fin 640) (j : Fin 64) :
    kv x2 x3 x4 x8 n (ix2 c j) = cell x (keyRow b i c.val) (C + 64 * n.val + j.val) := by
  have hc := c.isLt
  unfold kv k0_pay4 keyRow
  by_cases c1 : c.val < 128
  · rw [if_pos c1]
    rw [concatenate_apply_piece 0 _ _ (ix2 c j) 0 (by show 0 < 4; omega) S128x64 _ rfl rfl 0 rfl (ix2 ⟨c.val, c1⟩ j)
      (fun a ha => match a with | ⟨0, _⟩ => absurd rfl ha | ⟨1, _⟩ => rfl) (by show 0 + c.val = c.val; omega)]
    rw [View.ld, h2]
    congr 1
    · show _ + (0 + 1 * c.val) = _; omega
    · show C + (64 * n.val + 1 * j.val) = _; omega
  rw [if_neg c1]
  by_cases c2 : c.val < 256
  · rw [if_pos c2]
    rw [concatenate_apply_piece 0 _ _ (ix2 c j) 1 (by show 1 < 4; omega) S128x64 _ rfl rfl 128 rfl (ix2 ⟨c.val - 128, by omega⟩ j)
      (fun a ha => match a with | ⟨0, _⟩ => absurd rfl ha | ⟨1, _⟩ => rfl) (by show 128 + (c.val - 128) = c.val; omega)]
    rw [View.ld, h3]
    congr 1
    · show _ + (0 + 1 * (c.val - 128)) = _; omega
    · show C + (64 * n.val + 1 * j.val) = _; omega
  rw [if_neg c2]
  by_cases c3 : c.val < 384
  · rw [if_pos c3]
    rw [concatenate_apply_piece 0 _ _ (ix2 c j) 2 (by show 2 < 4; omega) S128x64 _ rfl rfl 256 rfl (ix2 ⟨c.val - 256, by omega⟩ j)
      (fun a ha => match a with | ⟨0, _⟩ => absurd rfl ha | ⟨1, _⟩ => rfl) (by show 256 + (c.val - 256) = c.val; omega)]
    rw [View.ld, h4]
    congr 1
    · show _ + (0 + 1 * (c.val - 256)) = _; omega
    · show C + (64 * n.val + 1 * j.val) = _; omega
  rw [if_neg c3]
  rw [concatenate_apply_piece 0 _ _ (ix2 c j) 3 (by show 3 < 4; omega) S256x64 _ rfl rfl 384 rfl (ix2 ⟨c.val - 384, by omega⟩ j)
    (fun a ha => match a with | ⟨0, _⟩ => absurd rfl ha | ⟨1, _⟩ => rfl) (by show 384 + (c.val - 384) = c.val; omega)]
  rw [View.ld, h8]
  congr 1
  · show _ + (0 + 1 * (c.val - 384)) = _; omega
  · show C + (64 * n.val + 1 * j.val) = _; omega

/-- The sink's place: head `n` of pair `p` is head `16 p + n`. -/
theorem sink_off : ∀ (t : Fin grid0.N) (n : Fin 16), k0_off1 (grid0.coords t) (BitVec.ofNat 32 n.val) 0 = 16 * (grid0.coords t 2).val + n.val := by
  decide +kernel

/-- The block's output at row `r`, head `n`, coordinate `d`. -/
theorem blk_apply (i : grid0.Coords) (x0 : Vec Ideal S64 .f32) (x1 : Vec Ideal S128x1024 .bf16) (x2 x3 x4 x5 x6 x7 : Vec Ideal S128x128 .bf16)
    (x8 x9 : Vec Ideal S256x128 .bf16) (y : S128x1024.Idx) (r : Fin 128) (n : Fin 16) (d : Fin 64) (hr : (y 0).val = r.val)
    (hy : (y 1).val = 64 * n.val + d.val) :
    blk i x0 x1 x2 x3 x4 x5 x6 x7 x8 x9 y = head i x0 x1 x2 x3 x4 x5 x6 x7 x8 x9 n (ix2 r d) := by
  have hd := d.isLt
  refine (concatenate_ofFn_apply (t := S128x1024) (s₁ := S128x64) (1 : Fin 2) (fun n : Fin 16 => head i x0 x1 x2 x3 x4 x5 x6 x7 x8 x9 n)
    concatenates_S128x64_S128x64_S128x64_S128x64_S128x64_S128x64_S128x64_S128x64_S128x64_S128x64_S128x64_S128x64_S128x64_S128x64_S128x64_S128x64_S128x1024_d1 rfl 64 rfl y n (by omega) (ix2 r d) ?_ ?_ :)
  · show d.val = (y 1).val % 64
    omega
  · intro a ha
    match a with
    | ⟨0, _⟩ => exact hr.symm
    | ⟨1, _⟩ => exact absurd rfl ha

/-- The rows a query's 640 keys come from are those it sees, each once. -/
theorem spec_block (x : S17408x5120.Idx → EReal) (s : S64.Idx → EReal) (b i r h d : Nat) (hb : b < 4) (hi : i < 34) (hr : r < 128) :
    attend (fun c : Fin 640 => if Reads i r c.val then logit x (queryRow b i r) h (keyRow b i c.val) else ⊥)
      (fun c : Fin 640 => cell x (keyRow b i c.val) (4608 + 64 * (h / 8) + d)) (sinkAt s h) = spec x s (queryRow b i r) h d := by
  have hk : ∀ c, Reads i r c → keyRow b i c = if c < 384 then 1024 + 4096 * b + 128 * i + c - 384 else 256 * b + (c - 384) := by
    intro c hc
    unfold Reads at hc
    unfold keyRow
    split_ifs <;> omega
  have hq : queryRow b i r = if i < 2 then 256 * b + 128 * i + r else 1024 + 4096 * b + 128 * (i - 2) + r := by
    unfold queryRow
    split_ifs <;> omega
  refine spec_masked x s (queryRow b i r) h d (fun c : Fin 640 => Reads i r c.val) (fun c => keyRow b i c.val) ?_ ?_ ?_ ?_
  · intro a c ha hc hac
    apply Fin.ext
    replace hac : keyRow b i a.val = keyRow b i c.val := hac
    rw [hk _ ha, hk _ hc] at hac
    have := a.isLt
    have := c.isLt
    unfold Reads at ha hc
    split_ifs at hac <;> omega
  · intro c hc
    rw [hk _ hc]
    have := c.isLt
    unfold Reads at hc
    split_ifs <;> omega
  · intro c hc
    rw [hk _ hc, hq]
    have := c.isLt
    unfold Reads at hc
    unfold Sees batchOf
    split_ifs <;> omega
  · intro k hk' hs
    rw [hq] at hs
    unfold Sees batchOf at hs
    by_cases h1 : k < 1024
    · refine ⟨⟨384 + (k - 256 * b), ?_⟩, Or.inl (Nat.le_add_right _ _), ?_⟩
      · split_ifs at hs <;> omega
      · show keyRow b i (384 + (k - 256 * b)) = k
        rw [hk _ (Or.inl (Nat.le_add_right _ _)), if_neg (by omega)]
        split_ifs at hs <;> omega
    · have hR : Reads i r (k + 384 - 1024 - 4096 * b - 128 * i) := by
        unfold Reads
        split_ifs at hs <;> omega
      refine ⟨⟨k + 384 - 1024 - 4096 * b - 128 * i, ?_⟩, hR, ?_⟩
      · split_ifs at hs <;> omega
      · show keyRow b i (k + 384 - 1024 - 4096 * b - 128 * i) = k
        rw [hk _ hR]
        split_ifs at hs ⊢ <;> omega

/-- The block's output at an entry, from blocks that are the array's: the attention at the row and column the entry stands for. -/
theorem blk_spec (t : Fin grid0.N) (x : S17408x5120.Idx → EReal) (s : S64.Idx → EReal) (b i p : Nat)
    (hb : (grid0.coords t 0).val = b) (hi : (grid0.coords t 1).val = i) (hp : (grid0.coords t 2).val = p)
    (x0 : Vec Ideal S64 .f32) (x1 : Vec Ideal S128x1024 .bf16) (x2 x3 x4 x5 x6 x7 : Vec Ideal S128x128 .bf16) (x8 x9 : Vec Ideal S256x128 .bf16)
    (h0 : ∀ y : S64.Idx, x0 y = sinkAt s (y 0).val)
    (h1 : ∀ y : S128x1024.Idx, x1 y = cell x (queryRow b i (y 0).val) (1024 * p + (y 1).val))
    (h2 : ∀ y : S128x128.Idx, x2 y = cell x (128 * (8 + 32 * b + min 31 (i - 3)) + (y 0).val) (4096 + 128 * p + (y 1).val))
    (h3 : ∀ y : S128x128.Idx, x3 y = cell x (128 * (8 + 32 * b + min 31 (i - 2)) + (y 0).val) (4096 + 128 * p + (y 1).val))
    (h4 : ∀ y : S128x128.Idx, x4 y = cell x (128 * (8 + 32 * b + min 31 (i - 1)) + (y 0).val) (4096 + 128 * p + (y 1).val))
    (h5 : ∀ y : S128x128.Idx, x5 y = cell x (128 * (8 + 32 * b + min 31 (i - 3)) + (y 0).val) (4608 + 128 * p + (y 1).val))
    (h6 : ∀ y : S128x128.Idx, x6 y = cell x (128 * (8 + 32 * b + min 31 (i - 2)) + (y 0).val) (4608 + 128 * p + (y 1).val))
    (h7 : ∀ y : S128x128.Idx, x7 y = cell x (128 * (8 + 32 * b + min 31 (i - 1)) + (y 0).val) (4608 + 128 * p + (y 1).val))
    (h8 : ∀ y : S256x128.Idx, x8 y = cell x (256 * b + (y 0).val) (4096 + 128 * p + (y 1).val))
    (h9 : ∀ y : S256x128.Idx, x9 y = cell x (256 * b + (y 0).val) (4608 + 128 * p + (y 1).val))
    (y : S128x1024.Idx) :
    blk (grid0.coords t) x0 x1 x2 x3 x4 x5 x6 x7 x8 x9 y
      = spec x s (queryRow b i (y 0).val) ((1024 * p + (y 1).val) / 64) ((1024 * p + (y 1).val) % 64) := by
  have hy1 : (y 1).val < 1024 := (y 1).isLt
  have hy0 : (y 0).val < 128 := (y 0).isLt
  rw [blk_apply _ _ _ _ _ _ _ _ _ _ _ y ⟨(y 0).val, hy0⟩ ⟨(y 1).val / 64, by omega⟩ ⟨(y 1).val % 64, by omega⟩ rfl (by show _ = 64 * ((y 1).val / 64) + (y 1).val % 64; omega)]
  unfold head
  rw [head_apply, hi]
  rw [show (1024 * p + (y 1).val) / 64 = 16 * p + (y 1).val / 64 by omega, show (1024 * p + (y 1).val) % 64 = (y 1).val % 64 by omega,
    ← spec_block x s b i (y 0).val _ _ (hb ▸ (grid0.coords t 0).isLt) (hi ▸ (grid0.coords t 1).isLt) hy0]
  have e0 : (View.ld x0 (Rect.unit (s := S64) (k0_off1 (grid0.coords t) (BitVec.ofNat 32 ((y 1).val / 64))) S1.size (k0_off1_inb (grid0.coords t) ⟨(y 1).val / 64, by omega⟩))
      (Shape.Idx.first (by show 0 < S1.numel; decide)) : EReal) = sinkAt s (16 * p + (y 1).val / 64) := by
    rw [View.ld, h0]
    congr 1
    show k0_off1 (grid0.coords t) (BitVec.ofNat 32 ((y 1).val / 64)) 0 + 1 * 0 = _
    rw [sink_off t ⟨(y 1).val / 64, by omega⟩, hp]
    rfl
  rw [e0]
  congr 1
  · funext c
    congr 1
    unfold logit
    congr 1
    refine Finset.sum_congr rfl fun j _ => ?_
    rw [kv_apply x b i (4096 + 128 * p) x2 x3 x4 x8 h2 h3 h4 h8, View.ld, h1]
    congr 2
    · show queryRow b i (0 + 1 * (y 0).val) = _
      rw [Nat.zero_add, Nat.one_mul]
    · show 1024 * p + (64 * ((y 1).val / 64) + 1 * j.val) = _
      omega
    · show 4096 + 128 * p + 64 * ((y 1).val / 64 / 8) + j.val = _
      omega
  · funext c
    rw [kv_apply x b i (4608 + 128 * p) x5 x6 x7 x9 h5 h6 h7 h9]
    congr 1
    show 4608 + 128 * p + 64 * ((y 1).val / 64 / 8) + (y 1).val % 64 = _
    omega

end Cert.Att
-- ==== Proof.Array.lean ====
module

public import proofs.«01_k».proof.Proof.BlockValue
public import proofs.«01_k».proof.Proof.Gen.KernelIdeal.Frame

/-! What the kernel's output array holds: each point's block is the attention's formula, and the blocks cover the array. -/

@[expose] public section
set_option maxRecDepth 16384
noncomputable section
namespace Cert.Att
open Cert.KernelIdeal Cert.KernelIdeal.Gen Idealize.ShloMosaic Idealize.ShloMosaic.TcCoe Idealize.SL Idealize.SL.Sem Idealize.ShloMosaic.ValueIdx
open Idealize.ShloMosaic.Pipeline (Dat)

/-- The block of queries, and of results, of each point. -/
theorem map_q : ∀ t : Fin grid0.N, cc0_transform_1 (grid0.coords t) 0 = (if (grid0.coords t 1).val < 2 then (grid0.coords t 0).val * 2 + (grid0.coords t 1).val
      else 8 + (grid0.coords t 0).val * 32 + (grid0.coords t 1).val - 2)
    ∧ cc0_transform_1 (grid0.coords t) 1 = (grid0.coords t 2).val := by
  decide +kernel

/-- The block of results is at the place of the block of queries. -/
theorem map_o : cc0_transform_10 = cc0_transform_1 := rfl

/-- The band's three blocks of keys. -/
theorem map_k : ∀ t : Fin grid0.N,
    cc0_transform_2 (grid0.coords t) 0 = 8 + 32 * (grid0.coords t 0).val + min 31 ((grid0.coords t 1).val - 3)
    ∧ cc0_transform_3 (grid0.coords t) 0 = 8 + 32 * (grid0.coords t 0).val + min 31 ((grid0.coords t 1).val - 2)
    ∧ cc0_transform_4 (grid0.coords t) 0 = 8 + 32 * (grid0.coords t 0).val + min 31 ((grid0.coords t 1).val - 1)
    ∧ cc0_transform_2 (grid0.coords t) 1 = 32 + (grid0.coords t 2).val
    ∧ cc0_transform_3 (grid0.coords t) 1 = 32 + (grid0.coords t 2).val
    ∧ cc0_transform_4 (grid0.coords t) 1 = 32 + (grid0.coords t 2).val := by
  decide +kernel

/-- The band's three blocks of values. -/
theorem map_v : ∀ t : Fin grid0.N,
    cc0_transform_5 (grid0.coords t) 0 = 8 + 32 * (grid0.coords t 0).val + min 31 ((grid0.coords t 1).val - 3)
    ∧ cc0_transform_6 (grid0.coords t) 0 = 8 + 32 * (grid0.coords t 0).val + min 31 ((grid0.coords t 1).val - 2)
    ∧ cc0_transform_7 (grid0.coords t) 0 = 8 + 32 * (grid0.coords t 0).val + min 31 ((grid0.coords t 1).val - 1)
    ∧ cc0_transform_5 (grid0.coords t) 1 = 36 + (grid0.coords t 2).val
    ∧ cc0_transform_6 (grid0.coords t) 1 = 36 + (grid0.coords t 2).val
    ∧ cc0_transform_7 (grid0.coords t) 1 = 36 + (grid0.coords t 2).val := by
  decide +kernel

/-- The context block of keys and of values. -/
theorem map_x : ∀ t : Fin grid0.N,
    cc0_transform_8 (grid0.coords t) 0 = (grid0.coords t 0).val ∧ cc0_transform_8 (grid0.coords t) 1 = 32 + (grid0.coords t 2).val
    ∧ cc0_transform_9 (grid0.coords t) 0 = (grid0.coords t 0).val ∧ cc0_transform_9 (grid0.coords t) 1 = 36 + (grid0.coords t 2).val := by
  decide +kernel

/-- The point at three coordinates, and its coordinates. -/
theorem coords_at : ∀ (b : Fin 4) (i : Fin 34) (p : Fin 4), ∃ t : Fin grid0.N,
    (grid0.coords t 0).val = b.val ∧ (grid0.coords t 1).val = i.val ∧ (grid0.coords t 2).val = p.val := by
  have key : ∀ t : Fin grid0.N, (grid0.coords t 0).val = t.val / 136 ∧ (grid0.coords t 1).val = t.val / 4 % 34
      ∧ (grid0.coords t 2).val = t.val % 4 := by decide +kernel
  intro b i p
  refine ⟨⟨136 * b.val + 4 * i.val + p.val, by show _ < grid0.N; rw [Gen.N_0]; omega⟩, ?_⟩
  obtain ⟨h0, h1, h2⟩ := key ⟨136 * b.val + 4 * i.val + p.val, by show _ < grid0.N; rw [Gen.N_0]; omega⟩
  rw [h0, h1, h2]
  dsimp only
  omega

variable (m : (ℓ : Loc nD τ sig) → Buf (Elt Ideal) ℓ)

/-- The sink's window holds the sinks. -/
theorem iblk0 (c : Dev nD) (t : Fin cfg0.N) (y : S64.Idx) :
    (iblk m c 0 t : S64.Idx → EReal) y = sinkAt (m ((c : Thread nD τ).loc main_arg1)) (y 0).val := by
  show (V m c (Pipeline.arrRef spec0 0) : S64.Idx → EReal) (((cfg0.win 0).blk t).view.emb y) = _
  rw [show V m c (Pipeline.arrRef spec0 0) = m ((c : Thread nD τ).loc main_arg1) from V_main_arg1 m c]
  refine sinkAt_eq _ _ ?_
  show 0 * 64 + 1 * (y 0).val = _
  omega

/-- The query window holds the block of queries. -/
theorem iblk1 (c : Dev nD) (t : Fin cfg0.N) (y : S128x1024.Idx) :
    (iblk m c 1 t : S128x1024.Idx → EReal) y = cell (m ((c : Thread nD τ).loc main_arg0))
      (queryRow (grid0.coords t 0).val (grid0.coords t 1).val (y 0).val) (1024 * (grid0.coords t 2).val + (y 1).val) := by
  show (V m c (Pipeline.arrRef spec0 1) : S17408x5120.Idx → EReal) (((cfg0.win 1).blk t).view.emb y) = _
  rw [show V m c (Pipeline.arrRef spec0 1) = m ((c : Thread nD τ).loc main_arg0) from V_main_arg0 m c]
  obtain ⟨h0, h1⟩ := map_q t
  refine cell_eq _ _ ?_ ?_
  · show cc0_transform_1 (grid0.coords t) 0 * 128 + 1 * (y 0).val = _
    rw [h0]
    unfold queryRow
    omega
  · show cc0_transform_1 (grid0.coords t) 1 * 1024 + 1 * (y 1).val = _
    rw [h1]
    omega

/-- An entry of the array at its row and column numbers. -/
theorem arr_cell (c : Dev nD) (e : S17408x5120.Idx) {R C : Nat} (h0 : (e 0).val = R) (h1 : (e 1).val = C) :
    (V m c main_arg0 : S17408x5120.Idx → EReal) e = cell (m ((c : Thread nD τ).loc main_arg0)) R C := by
  rw [V_main_arg0 m c]
  exact cell_eq _ _ h0 h1

/-- What the point `t` computes, entry by entry. -/
theorem point_apply (c : Dev nD) (t : Fin cfg0.N) (y : S128x1024.Idx) :
    blk (grid0.coords t) (iblk m c 0 t) (iblk m c 1 t) (iblk m c 2 t) (iblk m c 3 t) (iblk m c 4 t) (iblk m c 5 t) (iblk m c 6 t) (iblk m c 7 t)
      (iblk m c 8 t) (iblk m c 9 t) y
      = spec (m ((c : Thread nD τ).loc main_arg0)) (m ((c : Thread nD τ).loc main_arg1))
        (queryRow (grid0.coords t 0).val (grid0.coords t 1).val (y 0).val)
        ((1024 * (grid0.coords t 2).val + (y 1).val) / 64) ((1024 * (grid0.coords t 2).val + (y 1).val) % 64) := by
  obtain ⟨k0, k1, k2, k3, k4, k5⟩ := map_k t
  obtain ⟨v0, v1, v2, v3, v4, v5⟩ := map_v t
  obtain ⟨x0, x1, x2, x3⟩ := map_x t
  exact blk_spec t _ _ _ _ _ rfl rfl rfl _ _ _ _ _ _ _ _ _ _ (iblk0 m c t) (iblk1 m c t)
    (fun y => arr_cell m c (((cfg0.win 2).blk t).view.emb y)
      (by show cc0_transform_2 (grid0.coords t) 0 * 128 + 1 * (y 0).val = _; rw [k0]; omega)
      (by show cc0_transform_2 (grid0.coords t) 1 * 128 + 1 * (y 1).val = _; rw [k3]; omega))
    (fun y => arr_cell m c (((cfg0.win 3).blk t).view.emb y)
      (by show cc0_transform_3 (grid0.coords t) 0 * 128 + 1 * (y 0).val = _; rw [k1]; omega)
      (by show cc0_transform_3 (grid0.coords t) 1 * 128 + 1 * (y 1).val = _; rw [k4]; omega))
    (fun y => arr_cell m c (((cfg0.win 4).blk t).view.emb y)
      (by show cc0_transform_4 (grid0.coords t) 0 * 128 + 1 * (y 0).val = _; rw [k2]; omega)
      (by show cc0_transform_4 (grid0.coords t) 1 * 128 + 1 * (y 1).val = _; rw [k5]; omega))
    (fun y => arr_cell m c (((cfg0.win 5).blk t).view.emb y)
      (by show cc0_transform_5 (grid0.coords t) 0 * 128 + 1 * (y 0).val = _; rw [v0]; omega)
      (by show cc0_transform_5 (grid0.coords t) 1 * 128 + 1 * (y 1).val = _; rw [v3]; omega))
    (fun y => arr_cell m c (((cfg0.win 6).blk t).view.emb y)
      (by show cc0_transform_6 (grid0.coords t) 0 * 128 + 1 * (y 0).val = _; rw [v1]; omega)
      (by show cc0_transform_6 (grid0.coords t) 1 * 128 + 1 * (y 1).val = _; rw [v4]; omega))
    (fun y => arr_cell m c (((cfg0.win 7).blk t).view.emb y)
      (by show cc0_transform_7 (grid0.coords t) 0 * 128 + 1 * (y 0).val = _; rw [v2]; omega)
      (by show cc0_transform_7 (grid0.coords t) 1 * 128 + 1 * (y 1).val = _; rw [v5]; omega))
    (fun y => arr_cell m c (((cfg0.win 8).blk t).view.emb y)
      (by show cc0_transform_8 (grid0.coords t) 0 * 256 + 1 * (y 0).val = _; rw [x0]; omega)
      (by show cc0_transform_8 (grid0.coords t) 1 * 128 + 1 * (y 1).val = _; rw [x1]; omega))
    (fun y => arr_cell m c (((cfg0.win 9).blk t).view.emb y)
      (by show cc0_transform_9 (grid0.coords t) 0 * 256 + 1 * (y 0).val = _; rw [x2]; omega)
      (by show cc0_transform_9 (grid0.coords t) 1 * 128 + 1 * (y 1).val = _; rw [x3]; omega)) y

/-- The attention of a whole array: every row, head and coordinate. -/
def attention (x : S17408x5120.Idx → EReal) (s : S64.Idx → EReal) : S17408x4096.Idx → EReal :=
  fun y => spec x s (y 0).val ((y 1).val / 64) ((y 1).val % 64)

/-- A point's block of results: 128 rows and 1024 columns. -/
theorem mem_blk (t : Fin cfg0.N) (y : S17408x4096.Idx) : y ∈ ((cfg0.win 10).blk t).view.set ↔
    ∀ a, cc0_transform_10 (grid0.coords t) a * S128x1024.size a ≤ (y a).val
      ∧ (y a).val < cc0_transform_10 (grid0.coords t) a * S128x1024.size a + S128x1024.size a := by
  show y ∈ ((View.whole main_v0).slice (win0_10.rect t)).set ↔ _
  rw [View.set_slice_whole, Rect.mem_set_unit]
  rfl

/-- Every entry of the result array is in some point's block. -/
theorem covered (y : S17408x4096.Idx) : ∃ t : Fin cfg0.N, (cfg0.win 10).flush t = true ∧ y ∈ ((cfg0.win 10).blk t).view.set := by
  have h0 : (y 0).val < 17408 := (y 0).isLt
  have h1 : (y 1).val < 4096 := (y 1).isLt
  obtain ⟨t, hb, hi, hp⟩ := coords_at
    ⟨if (y 0).val < 1024 then (y 0).val / 256 else ((y 0).val - 1024) / 4096, by split_ifs <;> omega⟩
    ⟨if (y 0).val < 1024 then (y 0).val / 128 % 2 else 2 + ((y 0).val - 1024) / 128 % 32, by split_ifs <;> omega⟩
    ⟨(y 1).val / 1024, by omega⟩
  obtain ⟨e0, e1⟩ := map_q t
  refine ⟨t, flush0_10 t, (mem_blk t y).2 fun a => ?_⟩
  rw [map_o]
  dsimp only at hb hi hp
  match a with
  | ⟨0, _⟩ =>
    show cc0_transform_1 (grid0.coords t) 0 * 128 ≤ (y 0).val ∧ (y 0).val < cc0_transform_1 (grid0.coords t) 0 * 128 + 128
    rw [e0, hb, hi]
    split_ifs <;> omega
  | ⟨1, _⟩ =>
    show cc0_transform_1 (grid0.coords t) 1 * 1024 ≤ (y 1).val ∧ (y 1).val < cc0_transform_1 (grid0.coords t) 1 * 1024 + 1024
    rw [e1, hp]
    omega

/-- After the run the output array is the attention of the two arguments. -/
theorem array_eq (c : Dev nD) : (dats m 0 c).arrAt 10 cfg0.N
    = attention (m ((c : Thread nD τ).loc main_arg0)) (m ((c : Thread nD τ).loc main_arg1)) := by
  refine (dats m 0 c).arrAt_eq_of_cover 10 (attention (m ((c : Thread nD τ).loc main_arg0)) (m ((c : Thread nD τ).loc main_arg1))) ?_ covered
  intro t _
  rw [Value.flushed10_A, out_eq_blk]
  have hX := point_apply m c t
  generalize blk (grid0.coords t) (iblk m c 0 t) (iblk m c 1 t) (iblk m c 2 t) (iblk m c 3 t) (iblk m c 4 t) (iblk m c 5 t) (iblk m c 6 t)
    (iblk m c 7 t) (iblk m c 8 t) (iblk m c 9 t) = X at hX ⊢
  funext y
  obtain ⟨e0, e1⟩ := map_q t
  have hy : (y 1).val < 1024 := (y 1).isLt
  have q0 : ((((cfg0.win 10).blk t).view.emb y : S17408x4096.Idx) 0).val = queryRow (grid0.coords t 0).val (grid0.coords t 1).val (y 0).val := by
    show cc0_transform_1 (grid0.coords t) 0 * 128 + 1 * (y 0).val = _
    rw [e0]
    unfold queryRow
    omega
  have q1 : ((((cfg0.win 10).blk t).view.emb y : S17408x4096.Idx) 1).val = 1024 * (grid0.coords t 2).val + (y 1).val := by
    show cc0_transform_1 (grid0.coords t) 1 * 1024 + 1 * (y 1).val = _
    rw [e1]
    omega
  have hG : attention (m (c.tc.loc main_arg0)) (m (c.tc.loc main_arg1))
      (((cfg0.win 10).blk t).view.emb y) = X y := by
    rw [hX y, ← q0, ← q1, attention]
  rw [View.read_apply]
  exact hG.symm.trans (cast_eq _ _).symm

end Cert.Att
-- ==== Proof.RefCells.lean ====
module

public import proofs.«01_k».proof.Proof.Gen.ReferenceIdeal.Read
public import proofs.«01_k».proof.Proof.Head
public import proofs.«01_k».proof.Proof.Spec

/-! The reference's queries, keys, values and sinks, and its scores, read from the argument arrays. -/

@[expose] public section
set_option maxRecDepth 16384
noncomputable section
namespace Cert.Att
open Cert.ReferenceIdeal Cert.ReferenceIdeal.Gen Cert.ReferenceIdeal.Read Idealize.ShloMosaic Idealize.ShloMosaic.ValueIdx

/-- The array of queries, keys and values, as extended reals. -/
abbrev Rows : Type := (⟨2, ![17408, 5120]⟩ : Shape).Idx → EReal
/-- The sink logits, as extended reals. -/
abbrev Sinks : Type := (⟨1, ![64]⟩ : Shape).Idx → EReal

/-- A context query. -/
theorem ctx_query (x : Rows) (i : S4x256x8x8x64.Idx) :
    val_main_v4 (F := Ideal) x i = cell x (256 * (i 0).val + (i 1).val) (64 * (8 * (i 2).val + (i 3).val) + (i 4).val) := by
  rw [val_main_v4_apply, val_main_v3_apply, val_main_v2_apply, val_main_v0_apply]
  have h2 : (i 2).val < 8 := (i 2).isLt
  have h3 : (i 3).val < 8 := (i 3).isLt
  have h4 : (i 4).val < 64 := (i 4).isLt
  refine cell_eq x _ ?_ ?_
  · show ((((((i 0).val * 256 + (i 1).val) * 8 + (i 2).val) * 8 + (i 3).val) * 64 + (i 4).val) / 4096) = _
    omega
  · show ((((((i 0).val * 256 + (i 1).val) * 8 + (i 2).val) * 8 + (i 3).val) * 64 + (i 4).val) % 4096) = _
    omega

/-- A context key. -/
theorem ctx_key (x : Rows) (i : S4x256x8x64.Idx) :
    val_main_v6 (F := Ideal) x i = cell x (256 * (i 0).val + (i 1).val) (4096 + 64 * (i 2).val + (i 3).val) := by
  rw [val_main_v6_apply, val_main_v5_apply, val_main_v2_apply, val_main_v0_apply]
  have h2 : (i 2).val < 8 := (i 2).isLt
  have h3 : (i 3).val < 64 := (i 3).isLt
  refine cell_eq x _ ?_ ?_
  · show (((((i 0).val * 256 + (i 1).val) * 8 + (i 2).val) * 64 + (i 3).val) / 512) = _
    omega
  · show 4096 + (((((i 0).val * 256 + (i 1).val) * 8 + (i 2).val) * 64 + (i 3).val) % 512) = _
    omega

/-- A context value. -/
theorem ctx_value (x : Rows) (i : S4x256x8x64.Idx) :
    val_main_v8 (F := Ideal) x i = cell x (256 * (i 0).val + (i 1).val) (4608 + 64 * (i 2).val + (i 3).val) := by
  rw [val_main_v8_apply, val_main_v7_apply, val_main_v2_apply, val_main_v0_apply]
  have h2 : (i 2).val < 8 := (i 2).isLt
  have h3 : (i 3).val < 64 := (i 3).isLt
  refine cell_eq x _ ?_ ?_
  · show (((((i 0).val * 256 + (i 1).val) * 8 + (i 2).val) * 64 + (i 3).val) / 512) = _
    omega
  · show 4608 + (((((i 0).val * 256 + (i 1).val) * 8 + (i 2).val) * 64 + (i 3).val) % 512) = _
    omega

/-- A latent query. -/
theorem lat_query (x : Rows) (i : S4x4096x8x8x64.Idx) :
    val_main_v11 (F := Ideal) x i = cell x (1024 + 4096 * (i 0).val + (i 1).val) (64 * (8 * (i 2).val + (i 3).val) + (i 4).val) := by
  rw [val_main_v11_apply, val_main_v10_apply, val_main_v9_apply, val_main_v0_apply]
  have h2 : (i 2).val < 8 := (i 2).isLt
  have h3 : (i 3).val < 8 := (i 3).isLt
  have h4 : (i 4).val < 64 := (i 4).isLt
  refine cell_eq x _ ?_ ?_
  · show 1024 + ((((((i 0).val * 4096 + (i 1).val) * 8 + (i 2).val) * 8 + (i 3).val) * 64 + (i 4).val) / 4096) = _
    omega
  · show ((((((i 0).val * 4096 + (i 1).val) * 8 + (i 2).val) * 8 + (i 3).val) * 64 + (i 4).val) % 4096) = _
    omega

/-- A latent key. -/
theorem lat_key (x : Rows) (i : S4x4096x8x64.Idx) :
    val_main_v13 (F := Ideal) x i = cell x (1024 + 4096 * (i 0).val + (i 1).val) (4096 + 64 * (i 2).val + (i 3).val) := by
  rw [val_main_v13_apply, val_main_v12_apply, val_main_v9_apply, val_main_v0_apply]
  have h2 : (i 2).val < 8 := (i 2).isLt
  have h3 : (i 3).val < 64 := (i 3).isLt
  refine cell_eq x _ ?_ ?_
  · show 1024 + (((((i 0).val * 4096 + (i 1).val) * 8 + (i 2).val) * 64 + (i 3).val) / 512) = _
    omega
  · show 4096 + (((((i 0).val * 4096 + (i 1).val) * 8 + (i 2).val) * 64 + (i 3).val) % 512) = _
    omega

/-- A latent value. -/
theorem lat_value (x : Rows) (i : S4x4096x8x64.Idx) :
    val_main_v15 (F := Ideal) x i = cell x (1024 + 4096 * (i 0).val + (i 1).val) (4608 + 64 * (i 2).val + (i 3).val) := by
  rw [val_main_v15_apply, val_main_v14_apply, val_main_v9_apply, val_main_v0_apply]
  have h2 : (i 2).val < 8 := (i 2).isLt
  have h3 : (i 3).val < 64 := (i 3).isLt
  refine cell_eq x _ ?_ ?_
  · show 1024 + (((((i 0).val * 4096 + (i 1).val) * 8 + (i 2).val) * 64 + (i 3).val) / 512) = _
    omega
  · show 4608 + (((((i 0).val * 4096 + (i 1).val) * 8 + (i 2).val) * 64 + (i 3).val) % 512) = _
    omega

/-- A scaled product of a key and a query, the key's factor first, is the logit of that query and that key. -/
theorem logit_of (x : Rows) (R k : Nat) (kv g : Fin 8) :
    (∑ j : Fin 64, cell x k (4096 + 64 * kv.val + j.val) * cell x R (64 * (8 * kv.val + g.val) + j.val)) * ((1 / 8 : ℝ) : EReal)
      = logit x R (8 * kv.val + g.val) k := by
  unfold logit
  congr 1
  refine Finset.sum_congr rfl fun j _ => ?_
  have hg := g.isLt
  rw [mul_comm, show (8 * kv.val + g.val) / 8 = kv.val by omega]

/-- The scaled scores of the context queries. -/
theorem ctx_score (x : Rows) (b : Fin 4) (kv g : Fin 8) (q t : Fin 256) :
    val_main_v19 (F := Ideal) x (ix5 b kv g q t) = logit x (256 * b.val + q.val) (8 * kv.val + g.val) (256 * b.val + t.val) := by
  rw [val_main_v19_apply, val_main_v17_apply, val_main_v16_apply, val_main_v18_apply, val_main_cst_apply, ← logit_of]
  simp only [ctx_query, ctx_key, Ideal.mulf_def, Ideal.ofBits_def, ofBits_eighth]

/-- The scaled scores of the latent queries and the latent keys. -/
theorem lat_score (x : Rows) (b : Fin 4) (kv g : Fin 8) (q t : Fin 4096) :
    val_main_v49 (F := Ideal) x (ix5 b kv g q t) = logit x (1024 + 4096 * b.val + q.val) (8 * kv.val + g.val) (1024 + 4096 * b.val + t.val) := by
  rw [val_main_v49_apply, val_main_v47_apply, val_main_v46_apply, val_main_v48_apply, val_main_cst_3_apply, ← logit_of]
  simp only [lat_query, lat_key, Ideal.mulf_def, Ideal.ofBits_def, ofBits_eighth]

/-- The scaled scores of the latent queries and the context keys. -/
theorem cross_score (x : Rows) (b : Fin 4) (kv g : Fin 8) (q : Fin 4096) (t : Fin 256) :
    val_main_v54 (F := Ideal) x (ix5 b kv g q t) = logit x (1024 + 4096 * b.val + q.val) (8 * kv.val + g.val) (256 * b.val + t.val) := by
  rw [val_main_v54_apply, val_main_v52_apply, val_main_v51_apply, val_main_v53_apply, val_main_cst_5_apply, ← logit_of]
  simp only [lat_query, ctx_key, Ideal.mulf_def, Ideal.ofBits_def, ofBits_eighth]

/-- The band of a latent query: whether two positions lie within 128 of each other. -/
theorem band_apply (q t : Fin 4096) :
    val_main_v45 (F := Ideal) (ix2 q t) = BitVec.ofBool (decide (q.val ≤ t.val + 128 ∧ t.val ≤ q.val + 128)) := by
  have hq := q.isLt
  have ht := t.isLt
  have eq := small_toInt q.val (by omega)
  have et := small_toInt t.val (by omega)
  have eW := abs_toInt (sub_toInt et eq (by omega)) (by omega)
  rw [val_main_v45_apply, val_main_v43_apply, val_main_v42_apply, val_main_v40_apply, val_main_v41_apply, val_main_v38_apply,
    val_main_v39_apply, val_main_v37_apply, val_main_v37_apply, val_main_v44_apply, val_main_c_apply]
  show BitVec.ofBool (decide ((IntOp.absi (IntOp.subi (BitVec.ofNat 32 t.val) (BitVec.ofNat 32 q.val))).toInt ≤ (128#32 : BitVec 32).toInt)) = _
  rw [eW, show (128#32 : BitVec 32).toInt = 128 by decide]
  congr 1
  rw [decide_eq_decide, abs_le]
  omega

/-- The scores of the latent queries and the latent keys with those outside the band at `-∞`. -/
theorem band_score (x : Rows) (b : Fin 4) (kv g : Fin 8) (q t : Fin 4096) :
    val_main_v50 (F := Ideal) x (ix5 b kv g q t)
      = if q.val ≤ t.val + 128 ∧ t.val ≤ q.val + 128 then
          logit x (1024 + 4096 * b.val + q.val) (8 * kv.val + g.val) (1024 + 4096 * b.val + t.val) else ⊥ := by
  rw [val_main_v50_apply, lat_score, val_main_call0_v1_apply, val_main_call0_v2_apply, val_main_call0_v0_apply, val_main_cst_4_apply,
    show idx_main_call0_v1 (ix5 b kv g q t) = ix2 q t from eq_ix2 _, band_apply, Ideal.ofBits_def, ofBits_neg_inf]
  by_cases h : q.val ≤ t.val + 128 ∧ t.val ≤ q.val + 128
  · rw [if_pos h, decide_eq_true h]; rfl
  · rw [if_neg h, decide_eq_false h]; rfl

/-- The sink logit beside the context scores. -/
theorem ctx_sink (s : Sinks) (b : Fin 4) (kv g : Fin 8) (q : Fin 256) :
    val_main_v21 (F := Ideal) s (ix5 b kv g q 0) = sinkAt s (8 * kv.val + g.val) := by
  rw [val_main_v21_apply, val_main_v20_apply, val_main_v1_apply]
  refine sinkAt_eq s _ ?_
  show kv.val * 8 + g.val = _
  omega

/-- The sink logit beside the latent scores. -/
theorem lat_sink (s : Sinks) (b : Fin 4) (kv g : Fin 8) (q : Fin 4096) :
    val_main_v57 (F := Ideal) s (ix5 b kv g q 0) = sinkAt s (8 * kv.val + g.val) := by
  rw [val_main_v57_apply, val_main_v56_apply, val_main_v1_apply]
  refine sinkAt_eq s _ ?_
  show kv.val * 8 + g.val = _
  omega

end Cert.Att
-- ==== Proof.RefContext.lean ====
module

public import proofs.«01_k».proof.Proof.RefCells
public import Idealize.ShloMosaic.Lib.KernelVsHost

/-! The reference's context rows: each is the attention over the context keys of its batch entry. -/

@[expose] public section
set_option maxRecDepth 16384
noncomputable section
namespace Cert.Att
open Cert.ReferenceIdeal Cert.ReferenceIdeal.Gen Cert.ReferenceIdeal.Read Idealize.ShloMosaic Idealize.ShloMosaic.ValueIdx

/-- A softmax taken over a row of logits with the sink's at its end, its last weight dropped, is the attention with
    that sink. -/
theorem snoc_softmax {n : Nat} (t : Fin (n + 1) → EReal) (v : Fin n → EReal) (hs : ∀ i : Fin n, t i.castSucc ≠ ⊤)
    (hb : t (Fin.last n) ≠ ⊤) (hb' : t (Fin.last n) ≠ ⊥) :
    ∑ i : Fin n, v i * Ideal.div (Ideal.exp (t i.castSucc - Finset.univ.sup t)) (∑ j, Ideal.exp (t j - Finset.univ.sup t))
      = attend (fun i : Fin n => t i.castSucc) v (t (Fin.last n)) := by
  rw [sum_snoc, sup_snoc]
  exact sum_div_eq_attend _ v _ hs hb hb'

/-- The context logits with the sink's at the end. -/
abbrev ctxRow (x : Rows) (s : Sinks) (b : Fin 4) (kv g : Fin 8) (q : Fin 256) (t : Fin 257) : EReal :=
  val_main_v22 (F := Ideal) x s (ix5 b kv g q t)

/-- All but the last of them are the logits. -/
theorem ctxRow_castSucc (x : Rows) (s : Sinks) (b : Fin 4) (kv g : Fin 8) (q t : Fin 256) :
    ctxRow x s b kv g q t.castSucc = logit x (256 * b.val + q.val) (8 * kv.val + g.val) (256 * b.val + t.val) := by
  rw [← ctx_score, ctxRow, val_main_v22]
  generalize val_main_v19 (F := Ideal) x = y
  exact concatenate_pair_apply_left (t := S4x8x8x256x257) (s₁ := S4x8x8x256x256) (s₂ := S4x8x8x256x1) 4 y _ _
    (ix5 b kv g q t.castSucc) rfl (ix5 b kv g q t) (fun a => match a with
    | ⟨0, _⟩ => rfl
    | ⟨1, _⟩ => rfl
    | ⟨2, _⟩ => rfl
    | ⟨3, _⟩ => rfl
    | ⟨4, _⟩ => rfl)

/-- The last is the sink's. -/
theorem ctxRow_last (x : Rows) (s : Sinks) (b : Fin 4) (kv g : Fin 8) (q : Fin 256) :
    ctxRow x s b kv g q (Fin.last 256) = sinkAt s (8 * kv.val + g.val) := by
  rw [← ctx_sink s b kv g q, ctxRow, val_main_v22]
  generalize val_main_v21 (F := Ideal) s = y
  exact concatenate_pair_apply_right (t := S4x8x8x256x257) (s₁ := S4x8x8x256x256) (s₂ := S4x8x8x256x1) 4 _ y _
    (ix5 b kv g q (Fin.last 256)) rfl rfl (ix5 b kv g q 0) (fun a => match a with
    | ⟨0, _⟩ => fun _ => rfl
    | ⟨1, _⟩ => fun _ => rfl
    | ⟨2, _⟩ => fun _ => rfl
    | ⟨3, _⟩ => fun _ => rfl
    | ⟨4, _⟩ => fun h => absurd rfl h) rfl

set_option backward.isDefEq.respectTransparency false in
/-- Their largest. -/
theorem ctx_max (x : Rows) (s : Sinks) (b : Fin 4) (kv g : Fin 8) (q : Fin 256) :
    val_main_v25 (F := Ideal) x s (ix4 b kv g q) = Finset.univ.sup (ctxRow x s b kv g q) := by
  rw [val_main_v25_apply, val_main_v24_apply, val_main_cst_1_apply]
  unfold val_main_v23 val_main_cst_0
  rw [hostReduce_maximumf_eq_multiReduction (F := Ideal) (φ := .f32) (val_main_v22 (F := Ideal) x s) 0xFF800000#32
    reducesTo_S4x8x8x256x257_S4x8x8x256_d4 h_S_ (by decide) (.inl rfl) rfl, Ideal.multiReduction_maximumf_single]
  rw [Ideal.ofBits_def, ofBits_neg_inf, Ideal.maximumf_def, max_eq_right bot_le]
  show Finset.fold max ⊥ _ _ = Finset.fold max ⊥ _ _
  congr 1
  funext t
  show val_main_v22 (F := Ideal) x s _ = val_main_v22 (F := Ideal) x s _
  congr 1
  exact eq_ix5 _

/-- The weights. -/
theorem ctx_weight (x : Rows) (s : Sinks) (b : Fin 4) (kv g : Fin 8) (q : Fin 256) (t : Fin 257) :
    val_main_v33 (F := Ideal) x s (ix5 b kv g q t)
      = Ideal.div (Ideal.exp (ctxRow x s b kv g q t - Finset.univ.sup (ctxRow x s b kv g q)))
          (∑ j, Ideal.exp (ctxRow x s b kv g q j - Finset.univ.sup (ctxRow x s b kv g q))) := by
  have he : ∀ u : Fin 257, val_main_v29 (F := Ideal) x s (ix5 b kv g q u)
      = Ideal.exp (ctxRow x s b kv g q u - Finset.univ.sup (ctxRow x s b kv g q)) := fun u => by
    rw [val_main_v29_apply, val_main_v28_apply, val_main_v27_apply, val_main_v26_apply,
      show idx_main_v26 (idx_main_v27 (ix5 b kv g q u)) = ix4 b kv g q from eq_ix4 _, ctx_max]
    rfl
  rw [val_main_v33_apply, he, val_main_v32_apply, val_main_v31_apply,
    show idx_main_v31 (idx_main_v32 (ix5 b kv g q t)) = ix4 b kv g q from eq_ix4 _, val_main_v30_apply, val_main_cst_2_apply]
  rw [Ideal.ofBits_def, Ideal.ofBits_zero_f32, zero_add, Ideal.hostDivf_def]
  refine congrArg _ (Finset.sum_congr rfl fun u _ => ?_)
  rw [show idx_main_v30 (ix4 b kv g q) u = ix5 b kv g q u from eq_ix5 _, he]

/-- A context row of the reference's result, head `8·kv + g`, coordinate `d`. -/
theorem ctx_out (x : Rows) (s : Sinks) (hx : ∀ R k h, h < 64 → logit x R h k ≠ ⊤) (hs : ∀ h, sinkAt s h ≠ ⊤ ∧ sinkAt s h ≠ ⊥)
    (b : Fin 4) (q : Fin 256) (kv g : Fin 8) (d : Fin 64) :
    val_main_v36 (F := Ideal) x s (ix5 b q kv g d) = spec x s (256 * b.val + q.val) (8 * kv.val + g.val) d.val := by
  have hb := b.isLt
  have hq := q.isLt
  have hg := g.isLt
  rw [spec_along x s _ _ _ (κ := Fin 256) (fun t => 256 * b.val + t.val) (fun t u h => Fin.ext (by dsimp only at h; omega))
    (fun t => by have := t.isLt; omega)
    (fun t => .inl (by have := t.isLt; unfold batchOf; rw [if_pos (by omega), if_pos (by omega)]; omega))
    (fun k hk hsee => by
      unfold Sees batchOf at hsee
      rw [if_pos (show 256 * b.val + q.val < 1024 by omega)] at hsee
      split at hsee
      · exact ⟨⟨k - 256 * b.val, by omega⟩, by dsimp only; omega⟩
      · omega)]
  rw [show (8 * kv.val + g.val) / 8 = kv.val by omega, ← ctxRow_last x s b kv g q]
  simp only [← ctxRow_castSucc x s b kv g q]
  rw [← snoc_softmax _ _ (fun t => by rw [ctxRow_castSucc]; exact hx _ _ _ (by have := kv.isLt; omega)) (by rw [ctxRow_last]; exact (hs _).1)
    (by rw [ctxRow_last]; exact (hs _).2)]
  rw [val_main_v36_apply, val_main_v35_apply]
  refine Finset.sum_congr rfl fun t _ => ?_
  rw [ctx_value, val_main_v34_apply,
    show idx_main_v34 (ridx_main_v35 (idx_main_v36 (ix5 b q kv g d)) t) = ix5 b kv g q t.castSucc from eq_ix5 _, ctx_weight]

end Cert.Att
-- ==== Proof.RefLatent.lean ====
module

public import proofs.«01_k».proof.Proof.RefContext

/-! The reference's latent rows: each is the attention over the latent keys within 128 positions and the context keys
of its batch entry. -/

@[expose] public section
set_option maxRecDepth 16384
noncomputable section
namespace Cert.Att
open Cert.ReferenceIdeal Cert.ReferenceIdeal.Gen Cert.ReferenceIdeal.Read Idealize.ShloMosaic Idealize.ShloMosaic.ValueIdx

/-- The row of the array a latent query's key `t` lies in: the latent keys of the batch entry, then its context keys. -/
def latKey (b t : Nat) : Nat := if t < 4096 then 1024 + 4096 * b + t else 256 * b + (t - 4096)

/-- Whether a latent query at position `q` attends to its key `t`. -/
def InBand (q t : Nat) : Prop := 4096 ≤ t ∨ (q ≤ t + 128 ∧ t ≤ q + 128)

instance (q t : Nat) : Decidable (InBand q t) := by unfold InBand; infer_instance

/-- The latent logits with the sink's at the end. -/
abbrev latRow (x : Rows) (s : Sinks) (b : Fin 4) (kv g : Fin 8) (q : Fin 4096) (t : Fin 4353) : EReal :=
  val_main_v58 (F := Ideal) x s (ix5 b kv g q t)

/-- The last is the sink's. -/
theorem latRow_last (x : Rows) (s : Sinks) (b : Fin 4) (kv g : Fin 8) (q : Fin 4096) :
    latRow x s b kv g q (Fin.last 4352) = sinkAt s (8 * kv.val + g.val) := by
  rw [← lat_sink s b kv g q, latRow, val_main_v58]
  generalize val_main_v57 (F := Ideal) s = y
  exact concatenate_pair_apply_right (t := S4x8x8x4096x4353) (s₁ := S4x8x8x4096x4352) (s₂ := S4x8x8x4096x1) 4 _ y _
    (ix5 b kv g q (Fin.last 4352)) rfl rfl (ix5 b kv g q 0) (fun a => match a with
    | ⟨0, _⟩ => fun _ => rfl
    | ⟨1, _⟩ => fun _ => rfl
    | ⟨2, _⟩ => fun _ => rfl
    | ⟨3, _⟩ => fun _ => rfl
    | ⟨4, _⟩ => fun h => absurd rfl h) rfl

/-- All but the last are the joined logits. -/
theorem latRow_joined (x : Rows) (s : Sinks) (b : Fin 4) (kv g : Fin 8) (q : Fin 4096) (t : Fin 4352) :
    latRow x s b kv g q t.castSucc = val_main_v55 (F := Ideal) x (ix5 b kv g q t) := by
  rw [latRow, val_main_v58]
  generalize val_main_v55 (F := Ideal) x = y
  exact concatenate_pair_apply_left (t := S4x8x8x4096x4353) (s₁ := S4x8x8x4096x4352) (s₂ := S4x8x8x4096x1) 4 y _ _
    (ix5 b kv g q t.castSucc) rfl (ix5 b kv g q t) (fun a => match a with
    | ⟨0, _⟩ => rfl
    | ⟨1, _⟩ => rfl
    | ⟨2, _⟩ => rfl
    | ⟨3, _⟩ => rfl
    | ⟨4, _⟩ => rfl)

/-- They are the logits of the keys the query attends to, and `-∞` elsewhere. -/
theorem latRow_castSucc (x : Rows) (s : Sinks) (b : Fin 4) (kv g : Fin 8) (q : Fin 4096) (t : Fin 4352) :
    latRow x s b kv g q t.castSucc
      = if InBand q.val t.val then logit x (1024 + 4096 * b.val + q.val) (8 * kv.val + g.val) (latKey b.val t.val) else ⊥ := by
  rw [latRow_joined, val_main_v55]
  have ht := t.isLt
  unfold latKey
  by_cases h : t.val < 4096
  · have e := band_score x b kv g q ⟨t.val, h⟩
    have hP : InBand q.val t.val ↔ q.val ≤ t.val + 128 ∧ t.val ≤ q.val + 128 := by unfold InBand; omega
    rw [if_pos h, if_congr hP rfl rfl]
    refine Eq.trans ?_ e
    generalize val_main_v50 (F := Ideal) x = y
    exact concatenate_pair_apply_left (t := S4x8x8x4096x4352) (s₁ := S4x8x8x4096x4096) (s₂ := S4x8x8x4096x256) 4 y _ _
      (ix5 b kv g q t) rfl (ix5 b kv g q ⟨t.val, h⟩) (fun a => match a with
      | ⟨0, _⟩ => rfl
      | ⟨1, _⟩ => rfl
      | ⟨2, _⟩ => rfl
      | ⟨3, _⟩ => rfl
      | ⟨4, _⟩ => rfl)
  · rw [if_neg h, if_pos (show InBand q.val t.val from Or.inl (by omega))]
    have e := cross_score x b kv g q ⟨t.val - 4096, by omega⟩
    refine Eq.trans ?_ e
    generalize val_main_v54 (F := Ideal) x = y
    exact concatenate_pair_apply_right (t := S4x8x8x4096x4352) (s₁ := S4x8x8x4096x4096) (s₂ := S4x8x8x4096x256) 4 _ y _
      (ix5 b kv g q t) rfl rfl (ix5 b kv g q ⟨t.val - 4096, by omega⟩) (fun a => match a with
      | ⟨0, _⟩ => fun _ => rfl
      | ⟨1, _⟩ => fun _ => rfl
      | ⟨2, _⟩ => fun _ => rfl
      | ⟨3, _⟩ => fun _ => rfl
      | ⟨4, _⟩ => fun h => absurd rfl h) (by show t.val - 4096 + 4096 = t.val; omega)

set_option backward.isDefEq.respectTransparency false in
/-- Their largest. -/
theorem lat_max (x : Rows) (s : Sinks) (b : Fin 4) (kv g : Fin 8) (q : Fin 4096) :
    val_main_v61 (F := Ideal) x s (ix4 b kv g q) = Finset.univ.sup (latRow x s b kv g q) := by
  rw [val_main_v61_apply, val_main_v60_apply, val_main_cst_7_apply]
  unfold val_main_v59 val_main_cst_6
  rw [hostReduce_maximumf_eq_multiReduction (F := Ideal) (φ := .f32) (val_main_v58 (F := Ideal) x s) 0xFF800000#32
    reducesTo_S4x8x8x4096x4353_S4x8x8x4096_d4 h_S_ (by decide) (.inl rfl) rfl, Ideal.multiReduction_maximumf_single]
  rw [Ideal.ofBits_def, ofBits_neg_inf, Ideal.maximumf_def, max_eq_right bot_le]
  show Finset.fold max ⊥ _ _ = Finset.fold max ⊥ _ _
  congr 1
  funext t
  show val_main_v58 (F := Ideal) x s _ = val_main_v58 (F := Ideal) x s _
  congr 1
  exact eq_ix5 _

/-- The weights. -/
theorem lat_weight (x : Rows) (s : Sinks) (b : Fin 4) (kv g : Fin 8) (q : Fin 4096) (t : Fin 4353) :
    val_main_v69 (F := Ideal) x s (ix5 b kv g q t)
      = Ideal.div (Ideal.exp (latRow x s b kv g q t - Finset.univ.sup (latRow x s b kv g q)))
          (∑ j, Ideal.exp (latRow x s b kv g q j - Finset.univ.sup (latRow x s b kv g q))) := by
  have he : ∀ u : Fin 4353, val_main_v65 (F := Ideal) x s (ix5 b kv g q u)
      = Ideal.exp (latRow x s b kv g q u - Finset.univ.sup (latRow x s b kv g q)) := fun u => by
    rw [val_main_v65_apply, val_main_v64_apply, val_main_v63_apply, val_main_v62_apply,
      show idx_main_v62 (idx_main_v63 (ix5 b kv g q u)) = ix4 b kv g q from eq_ix4 _, lat_max]
    rfl
  rw [val_main_v69_apply, he, val_main_v68_apply, val_main_v67_apply,
    show idx_main_v67 (idx_main_v68 (ix5 b kv g q t)) = ix4 b kv g q from eq_ix4 _, val_main_v66_apply, val_main_cst_8_apply]
  rw [Ideal.ofBits_def, Ideal.ofBits_zero_f32, zero_add, Ideal.hostDivf_def]
  refine congrArg _ (Finset.sum_congr rfl fun u _ => ?_)
  rw [show idx_main_v66 (ix4 b kv g q) u = ix5 b kv g q u from eq_ix5 _, he]

/-- The weights of the latent keys. -/
theorem lat_weight_own (x : Rows) (s : Sinks) (b : Fin 4) (kv g : Fin 8) (q t : Fin 4096) :
    val_main_v71 (F := Ideal) x s (ix5 b kv g q t) = val_main_v69 (F := Ideal) x s (ix5 b kv g q (Fin.castAdd 256 t : Fin 4352).castSucc) := by
  rw [val_main_v71_apply, val_main_v70_apply]
  exact congrArg _ (eq_ix5 _)

/-- The weights of the context keys. -/
theorem lat_weight_ctx (x : Rows) (s : Sinks) (b : Fin 4) (kv g : Fin 8) (q : Fin 4096) (t : Fin 256) :
    val_main_v74 (F := Ideal) x s (ix5 b kv g q t) = val_main_v69 (F := Ideal) x s (ix5 b kv g q (Fin.natAdd 4096 t : Fin 4352).castSucc) := by
  rw [val_main_v74_apply, val_main_v70_apply]
  exact congrArg _ (eq_ix5 _)

/-- A latent row of the reference's result, head `8·kv + g`, coordinate `d`, as one sum over its keys. -/
theorem lat_sum (x : Rows) (s : Sinks) (b : Fin 4) (q : Fin 4096) (kv g : Fin 8) (d : Fin 64) :
    val_main_v77 (F := Ideal) x s (ix5 b q kv g d)
      = ∑ t : Fin 4352, cell x (latKey b.val t.val) (4608 + 64 * kv.val + d.val) * val_main_v69 (F := Ideal) x s (ix5 b kv g q t.castSucc) := by
  rw [Fin.sum_univ_add (a := 4096) (b := 256), val_main_v77_apply, val_main_v73_apply, val_main_v72_apply, val_main_v76_apply,
    val_main_v75_apply, Ideal.addf_def]
  refine congrArg₂ (· + ·) (Finset.sum_congr rfl fun t _ => ?_) (Finset.sum_congr rfl fun t _ => ?_)
  · rw [lat_value, show ridx_main_v72 (idx_main_v73 (ix5 b q kv g d)) t = ix5 b kv g q t from eq_ix5 _, lat_weight_own]
    unfold latKey
    rw [if_pos (show (Fin.castAdd 256 t).val < 4096 from t.isLt)]
    rfl
  · rw [ctx_value, show ridx_main_v75 (idx_main_v76 (ix5 b q kv g d)) t = ix5 b kv g q t from eq_ix5 _, lat_weight_ctx]
    unfold latKey
    have e : (Fin.natAdd 4096 t).val = 4096 + t.val := rfl
    rw [if_neg (by omega), e, Nat.add_sub_cancel_left]

/-- A latent row of the reference's result is the attention's. -/
theorem lat_out (x : Rows) (s : Sinks) (hx : ∀ R k h, h < 64 → logit x R h k ≠ ⊤) (hs : ∀ h, sinkAt s h ≠ ⊤ ∧ sinkAt s h ≠ ⊥)
    (b : Fin 4) (q : Fin 4096) (kv g : Fin 8) (d : Fin 64) :
    val_main_v77 (F := Ideal) x s (ix5 b q kv g d) = spec x s (1024 + 4096 * b.val + q.val) (8 * kv.val + g.val) d.val := by
  have hb := b.isLt
  have hq := q.isLt
  have hg := g.isLt
  have hB : batchOf (1024 + 4096 * b.val + q.val) = b.val := by unfold batchOf; rw [if_neg (by omega)]; omega
  have hK : ∀ t : Fin 4352, batchOf (latKey b.val t.val) = b.val := fun t => by
    have := t.isLt
    unfold batchOf latKey
    split <;> split <;> omega
  rw [← spec_masked x s _ _ _ (κ := Fin 4352) (fun t => InBand q.val t.val) (fun t => latKey b.val t.val)
    (fun t u _ _ h => Fin.ext (by
      have := t.isLt
      have := u.isLt
      unfold latKey at h
      split at h <;> split at h <;> omega))
    (fun t _ => by
      have := t.isLt
      unfold latKey
      split <;> omega)
    (fun t h => by
      have := t.isLt
      unfold InBand at h
      unfold Sees
      rw [hK, hB]
      unfold latKey
      split <;> omega)
    (fun k hk h => by
      unfold Sees at h
      rw [hB] at h
      unfold batchOf at h
      by_cases hc : k < 1024
      · rw [if_pos hc] at h
        refine ⟨⟨4096 + (k - 256 * b.val), by omega⟩, ?_, ?_⟩
        · exact Or.inl (by dsimp only; omega)
        · unfold latKey
          dsimp only
          rw [if_neg (by omega)]
          omega
      · rw [if_neg hc] at h
        refine ⟨⟨k - 1024 - 4096 * b.val, by omega⟩, ?_, ?_⟩
        · exact Or.inr (by dsimp only; omega)
        · unfold latKey
          dsimp only
          rw [if_pos (by omega)]
          omega)]
  rw [show (8 * kv.val + g.val) / 8 = kv.val by omega, ← latRow_last x s b kv g q]
  simp only [← latRow_castSucc x s b kv g q]
  rw [← snoc_softmax _ _ (fun t => by rw [latRow_castSucc]; split; exacts [hx _ _ _ (by have := kv.isLt; omega), bot_ne_top]) (by rw [latRow_last]; exact (hs _).1)
    (by rw [latRow_last]; exact (hs _).2)]
  rw [lat_sum]
  exact Finset.sum_congr rfl fun t _ => by rw [lat_weight]

end Cert.Att
-- ==== Proof.RefValue.lean ====
module

public import proofs.«01_k».proof.Proof.RefLatent
public import proofs.«01_k».proof.Proof.Array

/-! The reference's result: the same array `attention` as the kernel's. -/

@[expose] public section
set_option maxRecDepth 16384
noncomputable section
namespace Cert.Att
open Cert.ReferenceIdeal Cert.ReferenceIdeal.Gen Cert.ReferenceIdeal.Read Idealize.ShloMosaic Idealize.ShloMosaic.ValueIdx

/-- The reference's context part at a row and a column. -/
theorem ref_ctx (x : Rows) (s : Sinks) (hx : ∀ R k h, h < 64 → logit x R h k ≠ ⊤) (hs : ∀ h, sinkAt s h ≠ ⊤ ∧ sinkAt s h ≠ ⊥)
    (i : S1024x4096.Idx) : val_main_v78 (F := Ideal) x s i = spec x s (i 0).val ((i 1).val / 64) ((i 1).val % 64) := by
  have h0 : (i 0).val < 1024 := (i 0).isLt
  have h1 : (i 1).val < 4096 := (i 1).isLt
  have e : idx_main_v78 i = ix5 (⟨(i 0).val / 256, by omega⟩ : Fin 4) (⟨(i 0).val % 256, by omega⟩ : Fin 256)
      (⟨(i 1).val / 512, by omega⟩ : Fin 8) (⟨(i 1).val / 64 % 8, by omega⟩ : Fin 8) (⟨(i 1).val % 64, by omega⟩ : Fin 64) := by
    funext a
    apply Fin.ext
    match a with
    | ⟨0, _⟩ => show ((i 0).val * 4096 + (i 1).val) / 1048576 = (i 0).val / 256; omega
    | ⟨1, _⟩ => show ((i 0).val * 4096 + (i 1).val) / 4096 % 256 = (i 0).val % 256; omega
    | ⟨2, _⟩ => show ((i 0).val * 4096 + (i 1).val) / 512 % 8 = (i 1).val / 512; omega
    | ⟨3, _⟩ => show ((i 0).val * 4096 + (i 1).val) / 64 % 8 = (i 1).val / 64 % 8; omega
    | ⟨4, _⟩ => show ((i 0).val * 4096 + (i 1).val) % 64 = (i 1).val % 64; omega
  rw [val_main_v78_apply, e, ctx_out x s hx hs]
  congr 1 <;> (dsimp only; omega)

/-- The reference's latent part at a row and a column. -/
theorem ref_lat (x : Rows) (s : Sinks) (hx : ∀ R k h, h < 64 → logit x R h k ≠ ⊤) (hs : ∀ h, sinkAt s h ≠ ⊤ ∧ sinkAt s h ≠ ⊥)
    (i : S16384x4096.Idx) : val_main_v79 (F := Ideal) x s i = spec x s (1024 + (i 0).val) ((i 1).val / 64) ((i 1).val % 64) := by
  have h0 : (i 0).val < 16384 := (i 0).isLt
  have h1 : (i 1).val < 4096 := (i 1).isLt
  have e : idx_main_v79 i = ix5 (⟨(i 0).val / 4096, by omega⟩ : Fin 4) (⟨(i 0).val % 4096, by omega⟩ : Fin 4096)
      (⟨(i 1).val / 512, by omega⟩ : Fin 8) (⟨(i 1).val / 64 % 8, by omega⟩ : Fin 8) (⟨(i 1).val % 64, by omega⟩ : Fin 64) := by
    funext a
    apply Fin.ext
    match a with
    | ⟨0, _⟩ => show ((i 0).val * 4096 + (i 1).val) / 16777216 = (i 0).val / 4096; omega
    | ⟨1, _⟩ => show ((i 0).val * 4096 + (i 1).val) / 4096 % 4096 = (i 0).val % 4096; omega
    | ⟨2, _⟩ => show ((i 0).val * 4096 + (i 1).val) / 512 % 8 = (i 1).val / 512; omega
    | ⟨3, _⟩ => show ((i 0).val * 4096 + (i 1).val) / 64 % 8 = (i 1).val / 64 % 8; omega
    | ⟨4, _⟩ => show ((i 0).val * 4096 + (i 1).val) % 64 = (i 1).val % 64; omega
  rw [val_main_v79_apply, e, lat_out x s hx hs]
  congr 1 <;> (dsimp only; omega)

/-- The reference computes `attention` when no logit is `+∞` and every sink logit is finite. -/
theorem reference_eq (x : Rows) (s : Sinks) (hx : ∀ R k h, h < 64 → logit x R h k ≠ ⊤) (hs : ∀ h, sinkAt s h ≠ ⊤ ∧ sinkAt s h ≠ ⊥) :
    val_main_v81 (F := Ideal) x s = attention x s := by
  funext i
  have h0 : (i 0).val < 17408 := (i 0).isLt
  show val_main_v80 (F := Ideal) x s i = spec x s (i 0).val ((i 1).val / 64) ((i 1).val % 64)
  unfold val_main_v80
  by_cases h : (i 0).val < 1024
  · refine Eq.trans ?_ (ref_ctx x s hx hs (ix2 ⟨(i 0).val, h⟩ (i 1)))
    generalize val_main_v78 (F := Ideal) x s = y
    exact concatenate_pair_apply_left (t := S17408x4096) (s₁ := S1024x4096) (s₂ := S16384x4096) 0 y _ _ i rfl
      (ix2 ⟨(i 0).val, h⟩ (i 1)) (fun a => match a with
      | ⟨0, _⟩ => rfl
      | ⟨1, _⟩ => rfl)
  · have e := ref_lat x s hx hs (ix2 ⟨(i 0).val - 1024, by omega⟩ (i 1))
    rw [show 1024 + ((ix2 (⟨(i 0).val - 1024, by omega⟩ : Fin 16384) (i 1) : S16384x4096.Idx) 0).val = (i 0).val from
      show 1024 + ((i 0).val - 1024) = (i 0).val by omega] at e
    refine Eq.trans ?_ e
    generalize val_main_v79 (F := Ideal) x s = y
    exact concatenate_pair_apply_right (t := S17408x4096) (s₁ := S1024x4096) (s₂ := S16384x4096) 0 _ y _ i rfl rfl
      (ix2 ⟨(i 0).val - 1024, by omega⟩ (i 1)) (fun a => match a with
      | ⟨0, _⟩ => fun h => absurd rfl h
      | ⟨1, _⟩ => fun _ => rfl) (by show (i 0).val - 1024 + 1024 = (i 0).val; omega)

end Cert.Att
-- ==== Proof.Finite.lean ====
module

public import proofs.«01_k».proof.Pre_finite
public import proofs.«01_k».proof.Proof.Head
public import proofs.«01_k».proof.Proof.Spec
public import Idealize.ShloMosaic.Lib.Pipeline.Value

/-! What the precondition gives: queries, keys and sink logits are real numbers, so no logit is infinite. -/

@[expose] public section
set_option maxRecDepth 16384
noncomputable section
namespace Cert.Att
open Idealize.ShloMosaic Idealize.ShloMosaic.ValueIdx

/-- The side conditions of the precondition's operations. -/
theorem finite_facts : Cert.Pre_finite.Facts := ⟨by decide, by decide, by decide⟩

attribute [local instance] finite_facts

/-- An extended real whose absolute value lies below `∞` is a real number. -/
theorem real_of_abs_lt {a : EReal} (h : max a (-a) < ⊤) : ∃ r : ℝ, a = (r : EReal) := by
  induction a with
  | bot => simp at h
  | top => simp at h
  | coe r => exact ⟨r, rfl⟩

/-- A comparison's bit is set only where it holds. -/
theorem lt_of_bit {a b : EReal} (h : Ideal.cmp .olt a b = 1#1) : a < b := by
  by_contra hn
  rw [show Ideal.cmp .olt a b = BitVec.ofBool (decide (a < b)) from rfl, decide_eq_false hn] at h
  exact absurd h (by decide)

/-- The precondition makes every query and key entry a real number. -/
theorem cell_real (x : FVec Ideal ⟨2, ![17408, 5120]⟩ .bf16) (s : FVec Ideal ⟨1, ![64]⟩ .f32)
    (h : (Cert.Pre_finite.fn (F := Ideal) x s).1 = fun _ => 1#1) (R C : Nat) (hC : C < 4608) :
    ∃ r : ℝ, cell x R C = (r : EReal) := by
  unfold cell
  split
  · rename_i hRC
    have e := congrFun h (ix2 ⟨R, hRC.1⟩ ⟨C, hC⟩)
    have hs : extractStridedSlice Cert.Pre_finite.S17408x4608 ![0, 0] x finite_facts.slices_S17408x5120_S17408x4608_0_0
        (ix2 ⟨R, hRC.1⟩ ⟨C, hC⟩) = x (ix2 ⟨R, hRC.1⟩ ⟨C, hRC.2⟩) :=
      extractStridedSlice_apply ![0, 0] x _ _ _ (fun a => match a with
        | ⟨0, _⟩ => (Nat.zero_add R).symm
        | ⟨1, _⟩ => (Nat.zero_add C).symm)
    refine real_of_abs_lt ?_
    rw [← hs, ← ofBits_inf16]
    exact lt_of_bit e
  · exact ⟨0, rfl⟩

/-- The precondition makes every sink logit a real number. -/
theorem sink_real (x : FVec Ideal ⟨2, ![17408, 5120]⟩ .bf16) (s : FVec Ideal ⟨1, ![64]⟩ .f32)
    (h : (Cert.Pre_finite.fn (F := Ideal) x s).2 = fun _ => 1#1) (k : Nat) : ∃ r : ℝ, sinkAt s k = (r : EReal) := by
  unfold sinkAt
  split
  · rename_i hk
    have e := congrFun h (ix1 ⟨k, hk⟩)
    refine real_of_abs_lt ?_
    rw [← ofBits_inf]
    exact lt_of_bit e
  · exact ⟨0, rfl⟩

/-- Then no logit of a query head is `+∞`. -/
theorem logit_ne_top (x : (⟨2, ![17408, 5120]⟩ : Shape).Idx → EReal) (h : ∀ R C, C < 4608 → ∃ r : ℝ, cell x R C = (r : EReal))
    (R k : Nat) (n : Nat) (hn : n < 64) : logit x R n k ≠ ⊤ := by
  have hr : ∃ r : ℝ, (∑ j : Fin 64, cell x R (64 * n + j.val) * cell x k (4096 + 64 * (n / 8) + j.val)) = (r : EReal) := by
    refine Finset.sum_induction _ (fun a : EReal => ∃ r : ℝ, a = (r : EReal)) ?_ ⟨0, rfl⟩ ?_
    · rintro _ _ ⟨a, rfl⟩ ⟨b, rfl⟩
      exact ⟨a + b, (EReal.coe_add a b).symm⟩
    · intro j _
      have hj := j.isLt
      obtain ⟨a, ha⟩ := h R (64 * n + j.val) (by omega)
      obtain ⟨b, hb⟩ := h k (4096 + 64 * (n / 8) + j.val) (by omega)
      exact ⟨a * b, by rw [ha, hb, EReal.coe_mul]⟩
  obtain ⟨r, hr⟩ := hr
  unfold logit
  rw [hr, ← EReal.coe_mul]
  exact EReal.coe_ne_top _

end Cert.Att
-- ==== Proof.ExpRows.lean ====
/- The rows that one tile of the expert call gathers: which row of the token array each copy reads, which
   row of the tile's buffer it fills, and the two loops that start the copies and wait for them. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Batch
public import Idealize.ShloMosaic.Lib.Ring
public import Idealize.ShloMosaic.Lib.Tactic

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The token array, the table of slots and the tile's buffer, as the body is handed them. -/
abbrev tokens : Memref sig .tc .hbm S17408x4096 .f32 := Memref.whole main_arg0
abbrev slots : Memref sig .tc .smem S38912 .i32 := Memref.whole main_arg3
abbrev tile : Memref sig .tc .vmem S256x4096 .f32 := Memref.whole cc0_scratch0

/-- The number of rows of a tile, as the loops count them. -/
abbrev rows : ℕ := k0_t1_loop.trips

theorem rows_eq : rows = 256 := by decide
theorem waits_eq : k0_t2_loop.trips = rows := by decide

/-- Contents of the token array, of the slot table and of the tile's buffer on core `c`. -/
abbrev TokenBuf (c : Dev nD) : Type := Buf (Elt F) (tokens.view.loc (c : Thread nD τ))
abbrev SlotBuf (c : Dev nD) : Type := Buf (Elt F) (slots.view.loc (c : Thread nD τ))
abbrev TileBuf (c : Dev nD) : Type := Buf (Elt F) (tile.view.loc (c : Thread nD τ))

variable (c : Dev nD) (i : grid0.Coords)

/-- The token of row `k` of tile `i`: the word the body reads from the slot table. -/
def word (ft : SlotBuf (F := F) c) (k : Fin rows) : BitVec 32 :=
  (slots.access (Rect.unit (s := S38912) (k0_off2 i k) S1.size (k0_off2_inb i k))).read (Elt F) ft
    (Shape.Idx.first (numel1_S1.symm ▸ Nat.one_pos))

/-- Every word of the table is a row number of the token array. -/
abbrev InRange (ft : SlotBuf (F := F) c) : Prop := ∀ s : S38912.Idx, BitVec.toNat (ft s : BitVec 32) < 17408

/-- A word read from the table anywhere is a row number of the token array. -/
theorem read_lt {ft : SlotBuf (F := F) c} (h : InRange c ft) (r : Rect S38912) (x : r.shape.Idx) :
    BitVec.toNat ((slots.access r).read (Elt F) ft x : BitVec 32) < 17408 := by
  rw [View.read_apply]
  exact h _

/-- A row of the token array is inside it. -/
theorem row_inside (w : BitVec 32) (h : w.toNat < 17408) (a : Fin 2) :
    k0_off4 w a + S1x4096.size a ≤ S17408x4096.size a := by
  fin_cases a
  · show w.toNat + 1 ≤ 17408; omega
  · show 0 + 4096 ≤ 4096; omega

theorem chk_start (v w : BitVec 32) (h : w.toNat < 17408) : k0_chk1 v w := fun _ a => row_inside w h a
theorem chk_wait (v w : BitVec 32) (h : w.toNat < 17408) : k0_chk2 v w := fun _ a => row_inside w h a

/-- Row `k` of the tile's buffer. -/
def dst (k : Fin rows) : Memref sig .tc .vmem S1x4096 .f32 :=
  tile.slice (Rect.unit (s := S256x4096) (k0_off3 k) S1x4096.size (k0_off3_inb k)) (fun _ => rfl)

/-- The row of the token array that word `w` names. -/
def src (w : BitVec 32) (h : w.toNat < 17408) : Memref sig .tc .hbm S1x4096 .f32 :=
  tokens.slice (Rect.unit (s := S17408x4096) (k0_off4 w) S1x4096.size (row_inside w h)) (fun _ => rfl)

/-- The token row that row `k` of tile `i` copies. -/
def srcRow (ft : SlotBuf (F := F) c) (h : InRange c ft) (k : Fin rows) : Memref sig .tc .hbm S1x4096 .f32 :=
  src (word c i ft k) (read_lt c h _ _)

/-- Row `k` of the tile's buffer held at the buffer's contents `fx`. -/
def dstPt (fx : TileBuf (F := F) c) (k : Fin rows) : sProp 𝕄 :=
  (dst k).view.loc (c : Thread nD τ) ↦[(dst k).view.set]{fullShare} fx

/-- The token row of row `k`, held under the `k`-th read share. -/
def srcPt (ft : SlotBuf (F := F) c) (h : InRange c ft) (fh : TokenBuf (F := F) c) (k : Fin rows) : sProp 𝕄 :=
  (srcRow c i ft h k).view.loc (c : Thread nD τ) ↦[(srcRow c i ft h k).view.set]{Transfers.shareTokN fullShare k.val} fh

/-- The tile's buffer with row `k` filled from its token. -/
def filled (ft : SlotBuf (F := F) c) (h : InRange c ft) (fh : TokenBuf (F := F) c) (fx : TileBuf (F := F) c) (k : Fin rows) :
    TileBuf (F := F) c :=
  (dst k).view.write (Elt F) fx ((srcRow c i ft h k).view.read (Elt F) fh) Finset.univ

/-- What copy `k` hands over when it has landed: row `k` filled, and the token row back. -/
def delivery (ft : SlotBuf (F := F) c) (h : InRange c ft) (fh : TokenBuf (F := F) c) (fx : TileBuf (F := F) c) (k : Fin rows) :
    sProp 𝕄 :=
  iprop(dstPt c (filled c i ft h fh fx k) k ∗ srcPt c i ft h fh k)

/-- A held piece of a buffer may be kept in an invariant. -/
theorem held_storable (ℓ : Loc nD τ sig) (S : Finset (Idx ℓ)) (q : PosShare TreeShare) (f : Buf (Elt F) ℓ) :
    BI.Storable (upEmb : UEmb _ 𝕄) (ℓ ↦[S]{q} f : sProp 𝕄) := by infer_instance

instance dstPt_storable (fx : TileBuf (F := F) c) (k : Fin rows) : BI.Storable (upEmb : UEmb _ 𝕄) (dstPt c fx k) :=
  held_storable _ _ _ _

instance srcPt_storable (ft : SlotBuf (F := F) c) (h : InRange c ft) (fh : TokenBuf (F := F) c) (k : Fin rows) :
    BI.Storable (upEmb : UEmb _ 𝕄) (srcPt c i ft h fh k) := held_storable _ _ _ _

instance delivery_storable (ft : SlotBuf (F := F) c) (h : InRange c ft) (fh : TokenBuf (F := F) c) (fx : TileBuf (F := F) c)
    (k : Fin rows) : BI.Storable (upEmb : UEmb _ 𝕄) (delivery c i ft h fh fx k) := by
  unfold delivery; infer_instance

/-- The units one row of 4096 numbers puts on the semaphore. -/
abbrev units : ℕ := (dst ⟨0, by rw [rows_eq]; decide⟩).view.amount (SemLoc.dma 10 : SemLoc sig)

theorem units_pos : 0 < units := by decide +kernel

/-- The tile's copies, `j` started and `u` units waited for. -/
abbrev copies (ft : SlotBuf (F := F) c) (h : InRange c ft) (fh : TokenBuf (F := F) c) (fx : TileBuf (F := F) c) (j u : ℕ) :
    sProp 𝕄 :=
  Transfers.Batch (countersEmb (U := Pipeline.UD sig nD τ)) (c : Thread nD τ) (SemLoc.dma 10 : SemLoc sig) () units
    (delivery c i ft h fh fx) j u

/-- The slot table, at the half share the body holds. -/
abbrev slotPt (ft : SlotBuf (F := F) c) : sProp 𝕄 := slots.view.loc (c : Thread nD τ) ↦{fullShare.right} ft

/-- Before copy `k` is started: `k` copies under way, the rows from `k` on still in hand. -/
def startInv (ft : SlotBuf (F := F) c) (h : InRange c ft) (fh : TokenBuf (F := F) c) (fx : TileBuf (F := F) c) (k : ℕ) (_ : Unit) :
    sProp 𝕄 :=
  iprop(copies c i ft h fh fx k 0 ∗ bigSep (Ring.rangeSet rows k rows) (dstPt c fx)
    ∗ bigSep (Ring.rangeSet rows k rows) (srcPt c i ft h fh) ∗ slotPt c ft)

/-- Before wait `k`: all copies started and the units of `k` rows waited for; after the last wait the semaphore
    is back at zero and every delivery is in hand. -/
def waitInv (ft : SlotBuf (F := F) c) (h : InRange c ft) (fh : TokenBuf (F := F) c) (fx : TileBuf (F := F) c) (k : ℕ) (_ : Unit) :
    sProp 𝕄 :=
  iprop(⌜k ≤ rows⌝ ∗ (∃ W, owes (c : Thread nD τ) 0 W) ∗ slotPt c ft
    ∗ (if k < rows then copies c i ft h fh fx rows (k * units)
       else iprop(semVal ((c : Thread nD τ), (SemLoc.dma 10 : SemLoc sig)) 0 ∗ bigSep Finset.univ (delivery c i ft h fh fx))))

section Steps

variable (arg1 : Memref sig .tc .smem S152 .i32) (harg1 : arg1.IsWhole) (arg2 : Memref sig .tc .smem S152 .i32) (harg2 : arg2.IsWhole)
  (arg5 : Memref sig .tc .vmem S256x1 .f32) (harg5 : arg5.IsWhole) (arg6 : Memref sig .tc .vmem S1x4096x768 .bf16) (harg6 : arg6.IsWhole)
  (arg7 : Memref sig .tc .vmem S1x4096x768 .bf16) (harg7 : arg7.IsWhole) (arg8 : Memref sig .tc .vmem S1x768x4096 .bf16) (harg8 : arg8.IsWhole)
  (arg9 : Memref sig .tc .vmem S256x4096 .f32) (harg9 : arg9.IsWhole) (v0 v1 : BitVec 32) (hv : k0_cond1 v1 = 1#1)

/-- One turn of the first loop starts copy `k`. -/
theorem start_step (ft : SlotBuf (F := F) c) (h : InRange c ft) (fh : TokenBuf (F := F) c) (fx : TileBuf (F := F) c)
    (k : Fin k0_t1_loop.trips) (u : Unit) :
    startInv c i ft h fh fx k u ⊢ wp frame (wpE (defs₀ (F := F)) Variants.none (c : Thread nD τ) none) Set.univ
      (k0_t1_body (F := F) i arg1 harg1 arg2 harg2 slots (Memref.isWhole_whole _) tokens (Memref.isWhole_whole _) arg5 harg5 arg6 harg6
        arg7 harg7 arg8 harg8 arg9 harg9 tile (Memref.isWhole_whole _) cc0_scratch1 v0 v1 hv k u)
      (startInv c i ft h fh fx (k.val + 1)) := by
  have hk : k.val < rows := k.isLt
  unfold startInv k0_t1_body
  rw [Ring.bigSep_rangeSet_head (Φ := dstPt c fx) (by omega) (by omega),
    Ring.bigSep_rangeSet_head (Φ := srcPt c i ft h fh) (by omega) (by omega)]
  unfold dstPt srcPt
  iintro ⟨HB, ⟨HD, HDs⟩, ⟨HS, HSs⟩, HT⟩
  unfold smemLoad
  rw [smemLoadElt_bind]
  simp only [Prog.bind_ret, Prog.bind_lift]
  iapply (wp_smemLoadElt_named (defs := defs₀ (F := F)) Variants.none (c : Thread nD τ) none Set.univ (m := slots)) $$ HT
  iintro HT %w %hw
  obtain rfl : w = word c i ft k := hw
  have hlt : (word c i ft k).toNat < 17408 := read_lt c h _ _
  rw [wp_assume_of Variants.none (c : Thread nD τ) none Set.univ (chk_start v1 (word c i ft k) hlt)]
  iapply (Transfers.wp_dmaBatch (countersEmb (U := Pipeline.UD sig nD τ)) Variants.none (c : Thread nD τ) none
    (src := srcRow c i ft h k) (dst := dst k) (via := .same) (fs := fh) (fd := fx) (Sd := (dst k).view.set)
    (D := delivery c i ft h fh fx) (j := k.val) (u := 0) () units rfl (Finset.Subset.refl _) hk (Nat.zero_le _) .rfl) $$ [HS HD HB]
  · isplitl [HS]; · iexact HS
    isplitl [HD]; · iexact HD
    iexact HB
  iintro HB
  sl_step
  isplitl [HB]; · iexact HB
  isplitl [HDs]; · iexact HDs
  isplitl [HSs]; · iexact HSs
  iexact HT

/-- One turn of the second loop waits for one row's units; the last hands every delivery over. -/
theorem wait_step (ft : SlotBuf (F := F) c) (h : InRange c ft) (fh : TokenBuf (F := F) c) (fx : TileBuf (F := F) c)
    (k : Fin k0_t2_loop.trips) (u : Unit) :
    waitInv c i ft h fh fx k u ⊢ wp frame (wpE (defs₀ (F := F)) Variants.none (c : Thread nD τ) none) Set.univ
      (k0_t2_body (F := F) i arg1 harg1 arg2 harg2 slots (Memref.isWhole_whole _) tokens (Memref.isWhole_whole _) arg5 harg5 arg6 harg6
        arg7 harg7 arg8 harg8 arg9 harg9 tile (Memref.isWhole_whole _) cc0_scratch1 v0 v1 hv k u)
      (waitInv c i ft h fh fx (k.val + 1)) := by
  have hk : k.val < rows := by rw [← waits_eq]; exact k.isLt
  unfold waitInv k0_t2_body
  simp only [if_pos hk]
  unfold smemLoad
  rw [smemLoadElt_bind]
  simp only [Prog.bind_ret, Prog.bind_lift]
  iintro ⟨-, ⟨%W, HO⟩, HT, HB⟩
  iapply (wp_smemLoadElt_named (defs := defs₀ (F := F)) Variants.none (c : Thread nD τ) none Set.univ (m := slots)) $$ HT
  iintro HT %w %hw
  have hlt : BitVec.toNat (w : BitVec 32) < 17408 := by rw [hw]; exact read_lt c h _ _
  rw [wp_assume_of Variants.none (c : Thread nD τ) none Set.univ (chk_wait v1 w hlt)]
  rcases Nat.lt_or_ge (k.val + 1) rows with h1 | h1
  · simp only [if_pos h1]
    iapply (Transfers.wp_waitBatch (countersEmb (U := Pipeline.UD sig nD τ)) Variants.none (c : Thread nD τ) none
      (srcw := src w hlt) (dstw := tile.slice (Rect.unit (s := S256x4096) (k0_off6 k) S1x4096.size (k0_off6_inb k)) (fun _ => rfl))
      (D := delivery c i ft h fh fx) (u := k.val * units) () (N := units) rfl
      (by rw [← Nat.succ_mul, Nat.mul_comm]; exact Nat.mul_lt_mul_of_pos_left h1 units_pos)) $$ [HB HO]
    · isplitl [HB]; · iexact HB
      iexact HO
    iintro ⟨HB, HO⟩
    sl_step
    isplitr; · ipureintro; omega
    isplitl [HO]; · iexists _; iexact HO
    isplitl [HT]; · iexact HT
    rw [Nat.succ_mul]
    iexact HB
  · simp only [if_neg (Nat.not_lt.mpr h1)]
    iapply (Transfers.wp_waitBatchLast (countersEmb (U := Pipeline.UD sig nD τ)) Variants.none (c : Thread nD τ) none
      (srcw := src w hlt) (dstw := tile.slice (Rect.unit (s := S256x4096) (k0_off6 k) S1x4096.size (k0_off6_inb k)) (fun _ => rfl))
      (D := delivery c i ft h fh fx) (u := k.val * units) () (N := units) rfl units_pos
      (by rw [← Nat.succ_mul, Nat.mul_comm, show k.val.succ = rows by omega])) $$ [HB HO]
    · isplitl [HB]; · iexact HB
      iexact HO
    iintro ⟨Hall, Hc, HO⟩
    sl_step
    isplitr; · ipureintro; omega
    isplitl [HO]; · iexists _; iexact HO
    isplitl [HT]; · iexact HT
    isplitl [Hc]; · iexact Hc
    iexact Hall

end Steps

end Cert.Exp

end
-- ==== Proof.ExpSplit.lean ====
/- The tile's buffer as its rows and the token array as the rows that are read: taken apart before the copies
   start and put together when all have landed. -/
module

public import proofs.«01_k».proof.Proof.ExpRows
public import Idealize.ShloMosaic.Lib.Pointwise.Index

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)

/-- The elements of the buffer that row `k` covers. -/
def rowSet (k : Fin rows) : Finset (Idx (tile.view.loc (c : Thread nD τ))) := (dst k).view.set

/-- The elements of the token array that the copy for row `k` reads. -/
def srcSet (ft : SlotBuf (F := F) c) (h : InRange c ft) (k : Fin rows) : Finset (Idx (tokens.view.loc (c : Thread nD τ))) :=
  (srcRow c i ft h k).view.set

/-- Row `k`'s elements are the buffer's at first index `k`. -/
theorem mem_row (k : Fin rows) (y : S256x4096.Idx) : y ∈ rowSet c k ↔ (y 0).val = k.val := by
  have e : rowSet c k = (Rect.unit (s := S256x4096) (k0_off3 k) S1x4096.size (k0_off3_inb k)).set := by
    unfold rowSet dst; exact View.set_slice_whole _ _
  rw [e]
  refine Rect.mem_set_unit.trans ?_
  rw [k0_off3_eq]
  have h1 : (y 1).val < 4096 := (y 1).isLt
  constructor
  · intro H; have a0 : k.val ≤ (y 0).val ∧ (y 0).val < k.val + 1 := H 0; omega
  · intro H a; fin_cases a
    · show k.val ≤ (y 0).val ∧ (y 0).val < k.val + 1; omega
    · show 0 ≤ (y 1).val ∧ (y 1).val < 0 + 4096; omega

theorem row_disjoint (k k' : Fin rows) (hne : k ≠ k') : Disjoint (rowSet c k) (rowSet c k') := by
  rw [Finset.disjoint_left]
  intro (y : S256x4096.Idx) hy hy'
  rw [mem_row] at hy hy'
  exact hne (Fin.ext (hy.symm.trans hy'))

theorem row_cover : Finset.univ.biUnion (fun k : Fin rows => rowSet c k) = Finset.univ := by
  ext (y : S256x4096.Idx)
  simp only [Finset.mem_biUnion, Finset.mem_univ, true_and, iff_true]
  exact ⟨⟨(y 0).val, by rw [rows_eq]; exact (y 0).isLt⟩, (mem_row c _ y).mpr rfl⟩

/-- The whole buffer held is every row held. -/
theorem tile_rows (fx : TileBuf (F := F) c) :
    (tile.view.loc (c : Thread nD τ) ↦{fullShare} fx : sProp 𝕄) = bigSep Finset.univ (dstPt c fx) :=
  Ring.pointsTo_blocks (ℓ := tile.view.loc (c : Thread nD τ)) (fun k : Fin rows => rowSet c k) (row_disjoint c) (row_cover c) fx

/-- The rows held, each filled from its token, are the buffer held at contents that agree with each. -/
theorem tile_join (ft : SlotBuf (F := F) c) (h : InRange c ft) (fh : TokenBuf (F := F) c) (fx : TileBuf (F := F) c) :
    (bigSep Finset.univ (fun k => dstPt c (filled c i ft h fh fx k) k) : sProp 𝕄)
      ⊢ iprop(∃ g : TileBuf (F := F) c, ⌜∀ k : Fin rows, ∀ y ∈ rowSet c k, g y = filled c i ft h fh fx k y⌝
          ∗ tile.view.loc (c : Thread nD τ) ↦{fullShare} g) := by
  have e : (bigSep Finset.univ (fun k => tile.view.loc (c : Thread nD τ) ↦[rowSet c k]{fullShare} filled c i ft h fh fx k) : sProp 𝕄) ⊢ _ :=
    (pointsTo_biUnion_join Finset.univ (fun k : Fin rows => rowSet c k)
    (filled c i ft h fh fx) fx (fun k _ k' _ hne => row_disjoint c k k' hne))
  rw [row_cover] at e
  refine BIBase.Entails.trans e ?_
  iintro ⟨%g, %hg, H⟩
  iexists g
  isplitr; · ipureintro; exact fun k y hy => hg k (Finset.mem_univ k) y hy
  iexact H

/-- What is left of the token array once every copy has its row under its read share. -/
def tokenRest (ft : SlotBuf (F := F) c) (h : InRange c ft) (fh : TokenBuf (F := F) c) : sProp 𝕄 :=
  iprop((tokens.view.loc (c : Thread nD τ) ↦{Transfers.shareDrop fullShare rows} fh)
    ∗ bigSep Finset.univ (fun k : Fin rows =>
        tokens.view.loc (c : Thread nD τ) ↦[Finset.univ \ srcSet c i ft h k]{Transfers.shareTokN fullShare k.val} fh))

theorem swap_first (A B C : sProp 𝕄) : iprop(A ∗ B ∗ C) ⊢ iprop(B ∗ A ∗ C) := by
  iintro ⟨H1, H2, H3⟩
  isplitl [H2]; · iexact H2
  isplitl [H1]; · iexact H1
  iexact H3

/-- The token array held is every copy's row under its read share, and the rest. -/
theorem token_rows (ft : SlotBuf (F := F) c) (h : InRange c ft) (fh : TokenBuf (F := F) c) :
    (tokens.view.loc (c : Thread nD τ) ↦{fullShare} fh : sProp 𝕄)
      = iprop(bigSep Finset.univ (srcPt c i ft h fh) ∗ tokenRest c i ft h fh) := by
  have e1 : (tokens.view.loc (c : Thread nD τ) ↦{fullShare} fh : sProp 𝕄)
      = iprop((tokens.view.loc (c : Thread nD τ) ↦{Transfers.shareDrop fullShare rows} fh)
        ∗ bigSep (Finset.range rows) (fun k => tokens.view.loc (c : Thread nD τ) ↦{Transfers.shareTokN fullShare k} fh)) :=
    BI.equiv_iff.mp ⟨(Transfers.pointsTo_toks_range fullShare rows).1, (Transfers.pointsTo_toks_range fullShare rows).2⟩
  have e2 : (bigSep (Finset.range rows) (fun k => tokens.view.loc (c : Thread nD τ) ↦{Transfers.shareTokN fullShare k} fh) : sProp 𝕄)
      = bigSep Finset.univ (fun k : Fin rows => tokens.view.loc (c : Thread nD τ) ↦{Transfers.shareTokN fullShare k.val} fh) :=
    (Ring.bigSep_fin_eq_range rows _ (fun k => (tokens.view.loc (c : Thread nD τ) ↦{Transfers.shareTokN fullShare k} fh : sProp 𝕄)) (fun _ _ => rfl)).symm
  have e3 : (fun k : Fin rows => (tokens.view.loc (c : Thread nD τ) ↦{Transfers.shareTokN fullShare k.val} fh : sProp 𝕄))
      = fun k => iprop(srcPt c i ft h fh k
        ∗ tokens.view.loc (c : Thread nD τ) ↦[Finset.univ \ srcSet c i ft h k]{Transfers.shareTokN fullShare k.val} fh) := by
    funext k
    have e : (tokens.view.loc (c : Thread nD τ) ↦{Transfers.shareTokN fullShare k.val} fh : sProp 𝕄) ⊣⊢ _ :=
      pointsTo_split_subset (Finset.subset_univ (srcSet c i ft h k))
    exact BI.equiv_iff.mp ⟨e.1, e.2⟩
  rw [e1, e2, e3]
  have e4 : (bigSep Finset.univ (fun k => iprop(srcPt c i ft h fh k
        ∗ tokens.view.loc (c : Thread nD τ) ↦[Finset.univ \ srcSet c i ft h k]{Transfers.shareTokN fullShare k.val} fh)) : sProp 𝕄)
      = iprop(bigSep Finset.univ (srcPt c i ft h fh)
        ∗ bigSep Finset.univ (fun k : Fin rows =>
          tokens.view.loc (c : Thread nD τ) ↦[Finset.univ \ srcSet c i ft h k]{Transfers.shareTokN fullShare k.val} fh)) :=
    BI.bigSep_sep _ _ _
  rw [e4]
  unfold tokenRest
  exact BI.equiv_iff.mp ⟨swap_first _ _ _, swap_first _ _ _⟩

/-- Row `r` as a copy's number. -/
def rowOf (r : Fin 256) : Fin rows := ⟨r.val, by rw [rows_eq]; exact r.isLt⟩

/-- The gathered rows of tile `i`: row `r` is the token row that the table names for it. -/
def gathered (ft : SlotBuf (F := F) c) (h : InRange c ft) (fh : TokenBuf (F := F) c) : Vec F S256x4096 .f32 := fun x =>
  (srcRow c i ft h (rowOf (x 0))).view.read (Elt F) fh (ix2 (0 : Fin 1) (x 1))

/-- Where entry `d` of row `r` lies in the buffer. -/
theorem dst_emb (r : Fin 256) (d : Fin 4096) : (dst (rowOf r)).view.emb (ix2 (0 : Fin 1) d) = (ix2 r d : S256x4096.Idx) := by
  funext a
  apply Fin.ext
  have e : k0_off3 (rowOf r) a = (![r.val, 0] : Fin 2 → ℕ) a := congrFun (k0_off3_eq (rowOf r)) a
  fin_cases a
  · show k0_off3 (rowOf r) 0 + 1 * 0 = r.val
    rw [show k0_off3 (rowOf r) 0 = r.val from e]; omega
  · show k0_off3 (rowOf r) 1 + 1 * d.val = d.val
    rw [show k0_off3 (rowOf r) 1 = 0 from e]; omega

/-- A row of numbers written into row `r` is found there. -/
theorem row_written (r : Fin 256) (d : Fin 4096) (fx : TileBuf (F := F) c) (w : S1x4096.Idx → Elt F .f32) :
    (dst (rowOf r)).view.write (Elt F) fx w Finset.univ (ix2 r d : S256x4096.Idx) = w (ix2 (0 : Fin 1) d) := by
  have e := View.write_emb_of_mem (v := (dst (rowOf r)).view) (Val := Elt F) fx w (x := ix2 (0 : Fin 1) d) (Finset.mem_univ _)
  rw [dst_emb] at e
  exact e.trans (cast_eq _ _)

/-- Contents that agree with every filled row are the gathered rows. -/
theorem gathered_of_rows (ft : SlotBuf (F := F) c) (h : InRange c ft) (fh : TokenBuf (F := F) c) (fx g : TileBuf (F := F) c)
    (hg : ∀ k : Fin rows, ∀ y ∈ rowSet c k, g y = filled c i ft h fh fx k y) (r : Fin 256) (d : Fin 4096) :
    g (ix2 r d : S256x4096.Idx) = gathered c i ft h fh (ix2 r d) := by
  have e1 := hg (rowOf r) (ix2 r d : S256x4096.Idx) ((mem_row c _ _).mpr rfl)
  unfold filled at e1
  rw [e1, row_written]
  unfold gathered
  rfl

end Cert.Exp

end
-- ==== Proof.ExpGather.lean ====
/- The two loops together: all of a tile's copies started, all waited for, the tile's buffer holding the gathered rows
   and everything else as it was. -/
module

public import proofs.«01_k».proof.Proof.ExpSplit

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (i : grid0.Coords)
variable (arg1 : Memref sig .tc .smem S152 .i32) (harg1 : arg1.IsWhole) (arg2 : Memref sig .tc .smem S152 .i32) (harg2 : arg2.IsWhole)
  (arg5 : Memref sig .tc .vmem S256x1 .f32) (harg5 : arg5.IsWhole) (arg6 : Memref sig .tc .vmem S1x4096x768 .bf16) (harg6 : arg6.IsWhole)
  (arg7 : Memref sig .tc .vmem S1x4096x768 .bf16) (harg7 : arg7.IsWhole) (arg8 : Memref sig .tc .vmem S1x768x4096 .bf16) (harg8 : arg8.IsWhole)
  (arg9 : Memref sig .tc .vmem S256x4096 .f32) (harg9 : arg9.IsWhole) (v0 v1 : BitVec 32) (hv : k0_cond1 v1 = 1#1)

/-- The buffer's contents, with the gathered rows in place. -/
def gatheredBuf (ft : SlotBuf (F := F) c) (h : InRange c ft) (fh : TokenBuf (F := F) c) : TileBuf (F := F) c :=
  fun x : S256x4096.Idx => gathered c i ft h fh x

/-- All deliveries in hand and the rest of the token array are the buffer with the gathered rows and the token array. -/
theorem delivered (ft : SlotBuf (F := F) c) (h : InRange c ft) (fh : TokenBuf (F := F) c) (fx : TileBuf (F := F) c) :
    iprop(bigSep Finset.univ (delivery c i ft h fh fx) ∗ tokenRest c i ft h fh)
      ⊢ iprop((tile.view.loc (c : Thread nD τ) ↦{fullShare} gatheredBuf c i ft h fh)
          ∗ (tokens.view.loc (c : Thread nD τ) ↦{fullShare} fh : sProp 𝕄)) := by
  have e : (bigSep Finset.univ (delivery c i ft h fh fx) : sProp 𝕄)
      = iprop(bigSep Finset.univ (fun k => dstPt c (filled c i ft h fh fx k) k) ∗ bigSep Finset.univ (srcPt c i ft h fh)) :=
    BI.bigSep_sep _ _ _
  rw [e, token_rows c i ft h fh]
  iintro ⟨⟨HD, HS⟩, HR⟩
  ihave HD' := (tile_join c i ft h fh fx) $$ HD
  icases HD' with ⟨%g, %hg, HD⟩
  have hgg : g = gatheredBuf c i ft h fh := by
    funext (x : S256x4096.Idx)
    rw [eq_ix2 x]
    exact gathered_of_rows c i ft h fh fx g hg (x 0) (x 1)
  rw [hgg]
  isplitl [HD]; · iexact HD
  isplitl [HS]; · iexact HS
  iexact HR

/-- The two loops: from the tile's buffer at anything, the copies' semaphore at zero and the tokens in hand, to the
    buffer with the gathered rows. -/
theorem gather (ft : SlotBuf (F := F) c) (h : InRange c ft) (fh : TokenBuf (F := F) c) (fx : TileBuf (F := F) c)
    (W : Waits sig Unit) :
    iprop((tile.view.loc (c : Thread nD τ) ↦{fullShare} fx) ∗ (tokens.view.loc (c : Thread nD τ) ↦{fullShare} fh) ∗ slotPt c ft
        ∗ semVal ((c : Thread nD τ), (SemLoc.dma 10 : SemLoc sig)) 0 ∗ owes (c : Thread nD τ) 0 W)
      ⊢ wp frame (wpE (defs₀ (F := F)) Variants.none (c : Thread nD τ) none) Set.univ
        (do Scf.Loop.for k0_t1_loop k0_t1_ok ⟨⟩ (k0_t1_body (F := F) i arg1 harg1 arg2 harg2 slots (Memref.isWhole_whole _) tokens
              (Memref.isWhole_whole _) arg5 harg5 arg6 harg6 arg7 harg7 arg8 harg8 arg9 harg9 tile (Memref.isWhole_whole _)
              cc0_scratch1 v0 v1 hv)
            Scf.Loop.for k0_t2_loop k0_t2_ok ⟨⟩ (k0_t2_body (F := F) i arg1 harg1 arg2 harg2 slots (Memref.isWhole_whole _) tokens
              (Memref.isWhole_whole _) arg5 harg5 arg6 harg6 arg7 harg7 arg8 harg8 arg9 harg9 tile (Memref.isWhole_whole _)
              cc0_scratch1 v0 v1 hv))
        (fun _ => iprop((tile.view.loc (c : Thread nD τ) ↦{fullShare} gatheredBuf c i ft h fh)
          ∗ (tokens.view.loc (c : Thread nD τ) ↦{fullShare} fh) ∗ slotPt c ft
          ∗ semVal ((c : Thread nD τ), (SemLoc.dma 10 : SemLoc sig)) 0 ∗ ∃ W', owes (c : Thread nD τ) 0 W')) := by
  rw [tile_rows c fx, token_rows c i ft h fh]
  iintro ⟨HD, ⟨HS, HR⟩, HT, Hc, HO⟩
  imod (Transfers.batch_alloc' (Lvl := ℕ) (countersEmb (U := Pipeline.UD sig nD τ)) (c : Thread nD τ) () units
    (delivery c i ft h fh fx) (sm := .dma 10) (E := Set.univ)) $$ Hc with HB
  sl_for (startInv c i ft h fh fx) $$ [HB HD HS HT]
  · intro k acc; exact start_step c i arg1 harg1 arg2 harg2 arg5 harg5 arg6 harg6 arg7 harg7 arg8 harg8 arg9 harg9 v0 v1 hv ft h fh fx k acc
  · unfold startInv
    rw [Ring.rangeSet_univ]
    isplitl [HB]; · iexact HB
    isplitl [HD]; · iexact HD
    isplitl [HS]; · iexact HS
    iexact HT
  iintro %acc HL
  ihave HL' := (show startInv c i ft h fh fx k0_t1_loop.trips acc ⊢ iprop(copies c i ft h fh fx rows 0 ∗ slotPt c ft) from by
    unfold startInv; iintro ⟨HB, -, -, HT⟩
    isplitl [HB]; · iexact HB
    iexact HT) $$ HL
  icases HL' with ⟨HB, HT⟩
  sl_for (waitInv c i ft h fh fx) $$ [HB HT HO HR]
  · intro k acc; exact wait_step c i arg1 harg1 arg2 harg2 arg5 harg5 arg6 harg6 arg7 harg7 arg8 harg8 arg9 harg9 v0 v1 hv ft h fh fx k acc
  isplitl [HB HT HO]
  · unfold waitInv
    rw [if_pos (show 0 < rows by rw [rows_eq]; decide)]
    isplitr; · ipureintro; omega
    isplitl [HO]; · iexists _; iexact HO
    isplitl [HT]; · iexact HT
    rw [Nat.zero_mul]
    iexact HB
  iintro %acc' HL
  ihave HL' := (show waitInv c i ft h fh fx k0_t2_loop.trips acc' ⊢ iprop((∃ W, owes (c : Thread nD τ) 0 W) ∗ slotPt c ft
      ∗ semVal ((c : Thread nD τ), (SemLoc.dma 10 : SemLoc sig)) 0 ∗ bigSep Finset.univ (delivery c i ft h fh fx)) from by
    unfold waitInv; rw [waits_eq, if_neg (Nat.lt_irrefl _)]; iintro ⟨-, HO, HT, Hc, HD⟩
    isplitl [HO]; · iexact HO
    isplitl [HT]; · iexact HT
    isplitl [Hc]; · iexact Hc
    iexact HD) $$ HL
  icases HL' with ⟨⟨%W', HO⟩, HT, Hc, HD⟩
  ihave HX := (delivered c i ft h fh fx) $$ [HD HR]
  · isplitl [HD]; · iexact HD
    iexact HR
  icases HX with ⟨HD, HS⟩
  rw [← token_rows c i ft h fh]
  isplitl [HD]; · iexact HD
  isplitl [HS]; · iexact HS
  isplitl [HT]; · iexact HT
  isplitl [Hc]; · iexact Hc
  iexists _; iexact HO

end Cert.Exp

end
-- ==== Proof.ExpBody.lean ====
/- The kernel's body on one tile: an active tile is given its experts' result, an inactive one zeros. -/
module

public import proofs.«01_k».proof.Proof.ExpGather
public import Idealize.ShloMosaic.Lib.VecWindow

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table of each tile's expert and that of its activity. -/
abbrev experts : Memref sig .tc .smem S152 .i32 := Memref.whole main_arg1
abbrev activity : Memref sig .tc .smem S152 .i32 := Memref.whole main_arg2

abbrev FlagBuf (c : Dev nD) : Type := Buf (Elt F) (activity.view.loc (c : Thread nD τ))

variable (c : Dev nD) (i : grid0.Coords)

/-- The activity word of tile `i`. -/
def flag (fa : FlagBuf (F := F) c) : BitVec 32 :=
  (activity.access (Rect.unit (s := S152) (k0_off1 i) S1.size (k0_off1_inb i))).read (Elt F) fa
    (Shape.Idx.first (numel1_S1.symm ▸ Nat.one_pos))

theorem on_one : k0_cond1 1#32 = 1#1 := by decide +kernel
theorem on_zero : ¬ k0_cond1 0#32 = 1#1 := by decide +kernel
theorem off_one : ¬ k0_cond2 1#32 = 1#1 := by decide +kernel
theorem off_zero : k0_cond2 0#32 = 1#1 := by decide +kernel

variable (arg5 : Memref sig .tc .vmem S256x1 .f32) (harg5 : arg5.IsWhole) (arg6 : Memref sig .tc .vmem S1x4096x768 .bf16) (harg6 : arg6.IsWhole)
  (arg7 : Memref sig .tc .vmem S1x4096x768 .bf16) (harg7 : arg7.IsWhole) (arg8 : Memref sig .tc .vmem S1x768x4096 .bf16) (harg8 : arg8.IsWhole)
  (arg9 : Memref sig .tc .vmem S256x4096 .f32) (harg9 : arg9.IsWhole)
  (x0 : Vec F S256x1 .f32) (x1 : Vec F S1x4096x768 .bf16) (x2 : Vec F S1x4096x768 .bf16) (x3 : Vec F S1x768x4096 .bf16)

/-- What tile `i` is given: the experts' result on the gathered rows where it is active, zeros where it is not. -/
def tileOut (fa : FlagBuf (F := F) c) (ft : SlotBuf (F := F) c) (h : InRange c ft) (fh : TokenBuf (F := F) c) : Vec F S256x4096 .f32 :=
  if flag c i fa = 1#32 then k0_pay2 (gathered c i ft h fh) x1 x2 x3 x0 else k0_pay1 (F := F)

set_option maxHeartbeats 1000000 in
/-- The first branch's computation. -/
theorem part_run (v0 v1 : BitVec 32) (hv : k0_cond1 v1 = 1#1)
    (ft : SlotBuf (F := F) c) (h : InRange c ft) (fh : TokenBuf (F := F) c) (W : Waits sig Unit) (d9 : Vec F S256x4096 .f32) :
    iprop(owns (c : Thread nD τ) arg5 fullShare x0 ∗ owns (c : Thread nD τ) arg6 fullShare x1 ∗ owns (c : Thread nD τ) arg7 fullShare x2
        ∗ owns (c : Thread nD τ) arg8 fullShare x3 ∗ owns (c : Thread nD τ) arg9 fullShare d9
        ∗ (∃ fx : TileBuf (F := F) c, tile.view.loc (c : Thread nD τ) ↦{fullShare} fx) ∗ (tokens.view.loc (c : Thread nD τ) ↦{fullShare} fh) ∗ slotPt c ft
        ∗ semVal ((c : Thread nD τ), (SemLoc.dma 10 : SemLoc sig)) 0 ∗ owes (c : Thread nD τ) 0 W)
      ⊢ wp frame (wpE (defs₀ (F := F)) Variants.none (c : Thread nD τ) none) Set.univ
        (k0_part1 (F := F) i experts (Memref.isWhole_whole _) activity (Memref.isWhole_whole _) slots (Memref.isWhole_whole _) tokens
              (Memref.isWhole_whole _) arg5 harg5 arg6 harg6 arg7 harg7 arg8 harg8 arg9 harg9 tile (Memref.isWhole_whole _)
              cc0_scratch1 v0 v1 hv)
        (fun v => iprop(⌜v = k0_pay2 (gathered c i ft h fh) x1 x2 x3 x0⌝
          ∗ owns (c : Thread nD τ) arg5 fullShare x0 ∗ owns (c : Thread nD τ) arg6 fullShare x1 ∗ owns (c : Thread nD τ) arg7 fullShare x2
          ∗ owns (c : Thread nD τ) arg8 fullShare x3 ∗ owns (c : Thread nD τ) arg9 fullShare d9
          ∗ (∃ fx : TileBuf (F := F) c, tile.view.loc (c : Thread nD τ) ↦{fullShare} fx) ∗ (tokens.view.loc (c : Thread nD τ) ↦{fullShare} fh) ∗ slotPt c ft
          ∗ semVal ((c : Thread nD τ), (SemLoc.dma 10 : SemLoc sig)) 0 ∗ ∃ W', owes (c : Thread nD τ) 0 W')) := by
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%fs0, HS0⟩, Hh0, HT2, Hq0, HW⟩
  obtain rfl := harg5.eq_unread hf0; obtain rfl := harg6.eq_unread hf1; obtain rfl := harg7.eq_unread hf2; obtain rfl := harg8.eq_unread hf3
  obtain rfl := harg9.eq_unread hf4
  rw [← bind_assoc, wp_bind]
  ihave HG := (gather c i experts (Memref.isWhole_whole _) activity (Memref.isWhole_whole _) arg5 harg5 arg6 harg6 arg7 harg7 arg8 harg8
    arg9 harg9 v0 v1 hv ft h fh fs0 W) $$ [HS0 Hh0 HT2 Hq0 HW]
  · isplitl [HS0]; · iexact HS0
    isplitl [Hh0]; · iexact Hh0
    isplitl [HT2]; · iexact HT2
    isplitl [Hq0]; · iexact Hq0
    iexact HW
  iapply (wp_wand) $$ HG
  iintro %u ⟨HS0, Hh0, HT2, Hq0, HW⟩
  sl_exec
  sl_step
  isplitr
  · ipureintro
    rw [View.readAt_full, View.readAt_full, View.readAt_full, View.readAt_full, View.readAt_full, hf0, hf1, hf2, hf3]
    rfl
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  isplitl [HS0]; · iexists _; iexact HS0
  isplitl [Hh0]; · iexact Hh0
  isplitl [HT2]; · iexact HT2
  isplitl [Hq0]; · iexact Hq0
  iexact HW

/-- The activity table, at the half share the body holds. -/
abbrev flagPt (fa : FlagBuf (F := F) c) : sProp 𝕄 := activity.view.loc (c : Thread nD τ) ↦{fullShare.right} fa

/-- The second reading of the activity word is of the same element. -/
theorem flag_again (fa : FlagBuf (F := F) c) :
    (activity.access (Rect.unit (s := S152) (k0_off8 i) S1.size (k0_off8_inb i))).read (Elt F) fa
      (Shape.Idx.first (numel1_S1.symm ▸ Nat.one_pos)) = flag c i fa := by
  have e : ∀ (off : Fin S152.rank → ℕ) (inb : ∀ a, off a + S1.size a ≤ S152.size a), off = k0_off1 i →
      (activity.access (Rect.unit (s := S152) off S1.size inb)).read (Elt F) fa
        (Shape.Idx.first (numel1_S1.symm ▸ Nat.one_pos)) = flag c i fa := by
    intro off inb ho; subst ho; rfl
  exact e _ _ ((k0_off8_eq i).trans (k0_off1_eq i).symm)

/-- After a store over a whole block, the block reads as what was stored. -/
theorem stored_block (f : arg9.view.ty.Contents (Elt F)) (w : Vec F S256x4096 .f32) :
    arg9.view.read (Elt F) ((arg9.access (Rect.unit (s := S256x4096) ![0, 0] S256x4096.size inb_S256x4096_S256x4096_0_0)).write (Elt F)
      f w Finset.univ) = w :=
  (View.readAt_full arg9.view _ inb_S256x4096_S256x4096_0_0).symm.trans (View.read_write_univ
    (v := arg9.access (Rect.unit (s := S256x4096) ![0, 0] S256x4096.size inb_S256x4096_S256x4096_0_0)) f w)

set_option maxHeartbeats 1000000 in
/-- The whole body on tile `i`: the tile's output block is written over, and all else is as it was. -/
theorem body_run (fa : FlagBuf (F := F) c) (ft : SlotBuf (F := F) c) (h : InRange c ft) (fh : TokenBuf (F := F) c)
    (hfa : flag c i fa = 1#32 ∨ flag c i fa = 0#32) (W : Waits sig Unit) :
    iprop(owns (c : Thread nD τ) arg5 fullShare x0 ∗ owns (c : Thread nD τ) arg6 fullShare x1 ∗ owns (c : Thread nD τ) arg7 fullShare x2
        ∗ owns (c : Thread nD τ) arg8 fullShare x3 ∗ (∃ d, owns (c : Thread nD τ) arg9 fullShare d)
        ∗ (∃ fx : TileBuf (F := F) c, tile.view.loc (c : Thread nD τ) ↦{fullShare} fx)
        ∗ (tokens.view.loc (c : Thread nD τ) ↦{fullShare} fh) ∗ flagPt c fa ∗ slotPt c ft
        ∗ semVal ((c : Thread nD τ), (SemLoc.dma 10 : SemLoc sig)) 0 ∗ owes (c : Thread nD τ) 0 W)
      ⊢ wp frame (wpE (defs₀ (F := F)) Variants.none (c : Thread nD τ) none) Set.univ
        (cc0_expert_ffn (F := F) i experts (Memref.isWhole_whole _) activity (Memref.isWhole_whole _) slots (Memref.isWhole_whole _) tokens
              (Memref.isWhole_whole _) arg5 harg5 arg6 harg6 arg7 harg7 arg8 harg8 arg9 harg9 tile (Memref.isWhole_whole _)
              cc0_scratch1)
        (fun _ => iprop(owns (c : Thread nD τ) arg5 fullShare x0 ∗ owns (c : Thread nD τ) arg6 fullShare x1
          ∗ owns (c : Thread nD τ) arg7 fullShare x2 ∗ owns (c : Thread nD τ) arg8 fullShare x3
          ∗ owns (c : Thread nD τ) arg9 fullShare (tileOut c i x0 x1 x2 x3 fa ft h fh)
          ∗ (∃ fx : TileBuf (F := F) c, tile.view.loc (c : Thread nD τ) ↦{fullShare} fx)
          ∗ (tokens.view.loc (c : Thread nD τ) ↦{fullShare} fh) ∗ flagPt c fa ∗ slotPt c ft
          ∗ semVal ((c : Thread nD τ), (SemLoc.dma 10 : SemLoc sig)) 0 ∗ ∃ W', owes (c : Thread nD τ) 0 W')) := by
  simp only [cc0_expert_ffn_eq_skeleton]; unfold cc0_expert_ffn_skel
  iintro ⟨H0, H1, H2, H3, ⟨%d9, H4⟩, HS0, Hh0, HT1, HT2, Hq0, HW⟩
  unfold smemLoad
  rw [smemLoadElt_bind]
  simp only [Prog.bind_ret, Prog.bind_lift]
  iapply (wp_smemLoadElt_named (defs := defs₀ (F := F)) Variants.none (c : Thread nD τ) none Set.univ (m := activity)) $$ HT1
  iintro HT1 %w %hw
  obtain rfl : w = flag c i fa := hw
  rcases hfa with e | e
  · rw [dif_pos (show k0_cond1 (flag c i fa) = 1#1 by rw [e]; exact on_one), wp_bind]
    ihave HG := (part_run c i arg5 harg5 arg6 harg6 arg7 harg7 arg8 harg8 arg9 harg9 x0 x1 x2 x3 (BitVec.ofNat 32 (i 0).val)
      (flag c i fa) (by rw [e]; exact on_one) ft h fh W d9) $$ [H0 H1 H2 H3 H4 HS0 Hh0 HT2 Hq0 HW]
    · isplitl [H0]; · iexact H0
      isplitl [H1]; · iexact H1
      isplitl [H2]; · iexact H2
      isplitl [H3]; · iexact H3
      isplitl [H4]; · iexact H4
      isplitl [HS0]; · iexact HS0
      isplitl [Hh0]; · iexact Hh0
      isplitl [HT2]; · iexact HT2
      isplitl [Hq0]; · iexact Hq0
      iexact HW
    iapply (wp_wand) $$ HG
    iintro %v ⟨%hv, H0, H1, H2, H3, H4, HS0, Hh0, HT2, Hq0, HW⟩
    subst hv
    unfold owns
    icases H4 with ⟨%f4, %hf4, H4⟩
    sl_step
    rw [smemLoadElt_bind]
    iapply (wp_smemLoadElt_named (defs := defs₀ (F := F)) Variants.none (c : Thread nD τ) none Set.univ (m := activity)) $$ HT1
    iintro HT1 %w %hw
    obtain rfl : w = flag c i fa := hw.trans (flag_again c i fa)
    simp only [Prog.bind_ret]
    rw [dif_neg (show ¬ k0_cond2 (flag c i fa) = 1#1 by rw [e]; exact off_one)]
    sl_step
    isplitl [H0]; · iexact H0
    isplitl [H1]; · iexact H1
    isplitl [H2]; · iexact H2
    isplitl [H3]; · iexact H3
    isplitl [H4]
    · iexists _; isplitr; swap; · iexact H4
      ipureintro
      refine (stored_block arg9 _ _).trans ?_
      unfold tileOut; rw [if_pos e]
    isplitl [HS0]; · iexact HS0
    isplitl [Hh0]; · iexact Hh0
    isplitl [HT1]; · iexact HT1
    isplitl [HT2]; · iexact HT2
    isplitl [Hq0]; · iexact Hq0
    iexact HW
  · rw [dif_neg (show ¬ k0_cond1 (flag c i fa) = 1#1 by rw [e]; exact on_zero)]
    rw [smemLoadElt_bind]
    iapply (wp_smemLoadElt_named (defs := defs₀ (F := F)) Variants.none (c : Thread nD τ) none Set.univ (m := activity)) $$ HT1
    iintro HT1 %w %hw
    obtain rfl : w = flag c i fa := hw.trans (flag_again c i fa)
    simp only [Prog.bind_ret]
    rw [dif_pos (show k0_cond2 (flag c i fa) = 1#1 by rw [e]; exact off_zero)]
    unfold owns
    icases H4 with ⟨%f4, %hf4, H4⟩
    sl_step
    sl_step
    sl_step
    isplitl [H0]; · iexact H0
    isplitl [H1]; · iexact H1
    isplitl [H2]; · iexact H2
    isplitl [H3]; · iexact H3
    isplitl [H4]
    · iexists _; isplitr; swap; · iexact H4
      ipureintro
      refine (stored_block arg9 _ _).trans ?_
      unfold tileOut; rw [if_neg (by rw [e]; decide)]
    isplitl [HS0]; · iexact HS0
    isplitl [Hh0]; · iexact Hh0
    isplitl [HT1]; · iexact HT1
    isplitl [HT2]; · iexact HT2
    isplitl [Hq0]; · iexact Hq0
    iexists _; iexact HW

end Cert.Exp

end
-- ==== Proof.ExpRun.lean ====
/- The whole call: every tile's block of the result is what the body leaves there, every argument is as it was, and every
   semaphore is back at zero. -/
module

public import proofs.«01_k».proof.Proof.ExpBody
public import Idealize.ShloMosaic.Lib.Claim

@[expose] public section

set_option maxRecDepth 16384

noncomputable section

namespace Cert.Exp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What core `c`'s buffers hold when the call starts. -/
abbrev entry (c : Dev nD) (b : Ref sig .tc) : Buf (Elt F) ((c : Thread nD τ).loc b) := m ((c : Thread nD τ).loc b)

theorem main_is_call : Pipeline.HMainP (Ix := Unit) (Name := ℕ) (U := Pipeline.UD sig nD τ) (Lvl := ℕ) pcfgs 0 defs₀ Variants.none m
    (main (F := F)) (entry m) :=
  Pipeline.hmainP_region pcfgs 0 defs₀ Variants.none m main fun c => (main_chain c).trans rfl

/-- The three tables' contents. -/
def words : pre0.Contents (Elt F) := fun j => entry m (0 : Dev nD) (pre0.ref j)

theorem entry_words (c : Dev nD) (j : Fin 3) : entry m c (pre0.ref j) = words m j := by
  obtain rfl : c = 0 := Subsingleton.elim _ _; rfl

/-- What is asked of the tables: every expert's number is one of the weights', every token's number one of the rows', and
    every activity word one or zero. -/
structure Good : Prop where
  experts : ok0 (F := F) (words m)
  tokens : ∀ c : Dev nD, InRange (F := F) c (entry m c main_arg3)
  flags : ∀ (c : Dev nD) (i : grid0.Coords), flag (F := F) c i (entry m c main_arg2) = 1#32 ∨ flag (F := F) c i (entry m c main_arg2) = 0#32

variable (hG : Good m)

abbrev tables : (pcfg0 (F := F)).Adm := ⟨words m, hG.experts⟩
abbrev pipe : Pipeline.Cfg sig Λ₀ := cfg0 (tables m hG)

/-- The tables' half shares, one by one. -/
theorem tables_held (c : Dev nD) : (Pipeline.ΦT pre0 (words m) c : sProp 𝕄)
    = iprop((experts.view.loc (c : Thread nD τ) ↦{fullShare.right} entry m c main_arg1) ∗ flagPt c (entry m c main_arg2)
        ∗ slotPt c (entry m c main_arg3)) := by
  obtain rfl : c = 0 := Subsingleton.elim _ _
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at point `t`. -/
def block (c : Dev nD) (w : Fin (pipe m hG).W) (t : Fin (pipe m hG).N) :
    (((pipe m hG).win w).xblock ((pipe m hG).grid.coords t)).Idx → Elt F ((pipe m hG).win w).elt :=
  (((pipe m hG).win w).blk t).view.read (Elt F) (entry m c (Pipeline.arrRef spec0 w))

/-- The copies' semaphore, and the array they read. -/
abbrev copySem : Fin 1 → SemLoc sig := fun j => (![SemLoc.dma 10] : Fin 1 → SemLoc sig) j
theorem copySem_own : Pipeline.OwnSemFacts spec0 copySem := by decide
def read : Finset (Ref sig .tc) := {main_arg0}
theorem read_rest : read ⊆ Pipeline.restRefsP sig pre0 spec0 := by decide

/-- What the body holds beside its windows and the tables. -/
theorem beside (c : Dev nD) : (Pipeline.ΦD copySem spec0 read (entry m) c : sProp 𝕄)
    = iprop((∃ fx : TileBuf (F := F) c, tile.view.loc (c : Thread nD τ) ↦{fullShare} fx) ∗ (∃ r, prngReg c r)
        ∗ semVal ((c : Thread nD τ), (SemLoc.dma 10 : SemLoc sig)) 0
        ∗ (tokens.view.loc (c : Thread nD τ) ↦{fullShare} entry m c main_arg0)) := by
  have e1 : (Pipeline.ownSems0 (Ix := Unit) (Name := ℕ) (U := Pipeline.UD sig nD τ) (Lvl := ℕ) (Val := Elt F) (τ := τ) copySem c : sProp 𝕄)
      = semVal ((c : Thread nD τ), (SemLoc.dma 10 : SemLoc sig)) 0 := by
    rw [Pipeline.ownSems0_eq_of_list c copySem [0] (by decide) (by decide)]; rfl
  have e2 : (bigSep read (fun b => ((c : Thread nD τ).loc b) ↦{fullShare} entry m c b) : sProp 𝕄)
      = (tokens.view.loc (c : Thread nD τ) ↦{fullShare} entry m c main_arg0) := by
    rw [BI.bigSep_eq_bigSepL_of_eq [main_arg0] (by decide) (by decide)]; rfl
  rw [Pipeline.ΦD_eq, scopedRest0_eq, e1, e2]

/-- What the body leaves in the output block at point `t`. -/
def result (c : Dev nD) (t : Fin (pipe m hG).N) : Vec F S256x4096 .f32 :=
  tileOut c (grid0.coords t) (block m hG c 0 t) (block m hG c 1 t) (block m hG c 2 t) (block m hG c 3 t)
    (entry m c main_arg2) (entry m c main_arg3) (hG.tokens c) (entry m c main_arg0)

/-- The pipeline's data: inputs left in place, the output at `result`. -/
def data (_ : Fin 1) (c : Dev nD) : Dat τ (Elt F) Unit ℕ (Pipeline.UD sig nD τ) ℕ (pipe m hG) c where
  A w := entry m c (Pipeline.arrRef spec0 w)
  after w t := match w with
    | ⟨0, _⟩ => block m hG c 0 t
    | ⟨1, _⟩ => block m hG c 1 t
    | ⟨2, _⟩ => block m hG c 2 t
    | ⟨3, _⟩ => block m hG c 3 t
    | ⟨4, _⟩ => result m hG c t
  Φ _ := iprop(Pipeline.ΦD copySem spec0 read (entry m) c ∗ Pipeline.ΦT pre0 (words m) c)
  q _ := fullShare
  owed _ := 0

theorem data_array (c : Dev nD) (w : Fin (pipe m hG).W) : (data m hG 0 c).A w = entry m c (Pipeline.arrRef spec0 w) := by
  dsimp only [data]

theorem after_0 (c : Dev nD) (t : Fin (pipe m hG).N) : (data m hG 0 c).after 0 t = block m hG c 0 t := by dsimp only [data]; rfl
theorem after_1 (c : Dev nD) (t : Fin (pipe m hG).N) : (data m hG 0 c).after 1 t = block m hG c 1 t := by dsimp only [data]; rfl
theorem after_2 (c : Dev nD) (t : Fin (pipe m hG).N) : (data m hG 0 c).after 2 t = block m hG c 2 t := by dsimp only [data]; rfl
theorem after_3 (c : Dev nD) (t : Fin (pipe m hG).N) : (data m hG 0 c).after 3 t = block m hG c 3 t := by dsimp only [data]; rfl
theorem after_4 (c : Dev nD) (t : Fin (pipe m hG).N) : (data m hG 0 c).after 4 t = result m hG c t := by dsimp only [data]; rfl

/-- An input's staging buffer holds its block at every point. -/
theorem before_0 (c : Dev nD) (t : Fin (pipe m hG).N) (d) : (data m hG 0 c).before 0 t d = block m hG c 0 t :=
  ((data m hG 0 c).before_in_eq_fetched 0 rfl (fun _ => rfl) (fun _ _ _ => rfl)
    (fun t => by rw [after_0]; unfold Dat.blockOf block; rw [data_array]) t d).trans
    (by unfold Dat.fetched Dat.blockOf block; rw [data_array]; rfl)
theorem before_1 (c : Dev nD) (t : Fin (pipe m hG).N) (d) : (data m hG 0 c).before 1 t d = block m hG c 1 t :=
  ((data m hG 0 c).before_in_eq_fetched 1 rfl (fun _ => rfl) (fun _ _ _ => rfl)
    (fun t => by rw [after_1]; unfold Dat.blockOf block; rw [data_array]) t d).trans
    (by unfold Dat.fetched Dat.blockOf block; rw [data_array]; rfl)
theorem before_2 (c : Dev nD) (t : Fin (pipe m hG).N) (d) : (data m hG 0 c).before 2 t d = block m hG c 2 t :=
  ((data m hG 0 c).before_in_eq_fetched 2 rfl (fun _ => rfl) (fun _ _ _ => rfl)
    (fun t => by rw [after_2]; unfold Dat.blockOf block; rw [data_array]) t d).trans
    (by unfold Dat.fetched Dat.blockOf block; rw [data_array]; rfl)
theorem before_3 (c : Dev nD) (t : Fin (pipe m hG).N) (d) : (data m hG 0 c).before 3 t d = block m hG c 3 t :=
  ((data m hG 0 c).before_in_eq_fetched 3 rfl (fun _ => rfl) (fun _ _ _ => rfl)
    (fun t => by rw [after_3]; unfold Dat.blockOf block; rw [data_array]) t d).trans
    (by unfold Dat.fetched Dat.blockOf block; rw [data_array]; rfl)

/-- The staging buffers in use at point `t`. -/
abbrev st0 (t : Fin (pipe m hG).N) : Memref sig .tc .vmem S256x1 .f32 := spec0_0.stage ((pipe m hG).slots t 0)
abbrev st1 (t : Fin (pipe m hG).N) : Memref sig .tc .vmem S1x4096x768 .bf16 := spec0_1.stage ((pipe m hG).slots t 1)
abbrev st2 (t : Fin (pipe m hG).N) : Memref sig .tc .vmem S1x4096x768 .bf16 := spec0_2.stage ((pipe m hG).slots t 2)
abbrev st3 (t : Fin (pipe m hG).N) : Memref sig .tc .vmem S1x768x4096 .bf16 := spec0_3.stage ((pipe m hG).slots t 3)
abbrev st4 (t : Fin (pipe m hG).N) : Memref sig .tc .vmem S256x4096 .f32 := spec0_4.stage ((pipe m hG).slots t 4)

/-- The body as the pipeline calls it at point `t`. -/
abbrev bodyOf (t : Fin (pipe m hG).N) : Prog (TpuEff nD τ sig (Elt F) Λ₀ .tc) PUnit :=
  cc0_expert_ffn (F := F) (grid0.coords t) experts (Memref.isWhole_whole _) activity (Memref.isWhole_whole _) slots (Memref.isWhole_whole _)
    tokens (Memref.isWhole_whole _) (st0 m hG t) (hstage0_0 (((pipe m hG).slots t 0).cast nbuf0_0))
    (st1 m hG t) (hstage0_1 (((pipe m hG).slots t 1).cast nbuf0_1)) (st2 m hG t) (hstage0_2 (((pipe m hG).slots t 2).cast nbuf0_2))
    (st3 m hG t) (hstage0_3 (((pipe m hG).slots t 3).cast nbuf0_3)) (st4 m hG t) (hstage0_4 (((pipe m hG).slots t 4).cast nbuf0_4))
    tile (Memref.isWhole_whole _) cc0_scratch1

/-- The body at point `t`, from what the pipeline hands it to what the pipeline takes back. -/
theorem body_at (c : Dev nD) (t : Fin (pipe m hG).N) :
    iprop((data m hG 0 c).Φ t.castSucc ∗ (data m hG 0 c).owesAt () t.castSucc
      ∗ (∃ d, owns (c : Thread nD τ) (st0 m hG t) fullShare ((data m hG 0 c).before 0 t d))
      ∗ (∃ d, owns (c : Thread nD τ) (st1 m hG t) fullShare ((data m hG 0 c).before 1 t d))
      ∗ (∃ d, owns (c : Thread nD τ) (st2 m hG t) fullShare ((data m hG 0 c).before 2 t d))
      ∗ (∃ d, owns (c : Thread nD τ) (st3 m hG t) fullShare ((data m hG 0 c).before 3 t d))
      ∗ (∃ d, owns (c : Thread nD τ) (st4 m hG t) fullShare ((data m hG 0 c).before 4 t d)))
    ⊢ wp frame (wpE (defs₀ (F := F)) Variants.none c none) Set.univ (bodyOf m hG t) (fun _ =>
      iprop((data m hG 0 c).Φ t.succ ∗ (data m hG 0 c).owesAt () t.succ
        ∗ owns (c : Thread nD τ) (st0 m hG t) fullShare ((data m hG 0 c).after 0 t)
        ∗ owns (c : Thread nD τ) (st1 m hG t) fullShare ((data m hG 0 c).after 1 t)
        ∗ owns (c : Thread nD τ) (st2 m hG t) fullShare ((data m hG 0 c).after 2 t)
        ∗ owns (c : Thread nD τ) (st3 m hG t) fullShare ((data m hG 0 c).after 3 t)
        ∗ owns (c : Thread nD τ) (st4 m hG t) fullShare ((data m hG 0 c).after 4 t))) := by
  simp only [before_0, before_1, before_2, before_3]
  rw [show (data m hG 0 c).Φ t.succ = (data m hG 0 c).Φ t.castSucc from rfl, after_0, after_1, after_2, after_3, after_4]
  rw [show (data m hG 0 c).Φ t.castSucc = iprop(Pipeline.ΦD copySem spec0 read (entry m) c ∗ Pipeline.ΦT pre0 (words m) c) from rfl,
    beside, tables_held]
  unfold Dat.owesAt Pipeline.owesWithin result
  rw [show (data m hG 0 c).owed t.castSucc = 0 from rfl, show (data m hG 0 c).owed t.succ = 0 from rfl]
  iintro ⟨⟨⟨HX, Hg, Hq, Hh⟩, ⟨HT0, HT1, HT2⟩⟩, ⟨%W, -, HW⟩, ⟨%d0, H0⟩, ⟨%d1, H1⟩, ⟨%d2, H2⟩, ⟨%d3, H3⟩, ⟨%d4, H4⟩⟩
  ihave HB := (body_run c (grid0.coords t) (st0 m hG t) (hstage0_0 (((pipe m hG).slots t 0).cast nbuf0_0))
    (st1 m hG t) (hstage0_1 (((pipe m hG).slots t 1).cast nbuf0_1)) (st2 m hG t) (hstage0_2 (((pipe m hG).slots t 2).cast nbuf0_2))
    (st3 m hG t) (hstage0_3 (((pipe m hG).slots t 3).cast nbuf0_3)) (st4 m hG t) (hstage0_4 (((pipe m hG).slots t 4).cast nbuf0_4))
    (block m hG c 0 t) (block m hG c 1 t) (block m hG c 2 t) (block m hG c 3 t) (entry m c main_arg2) (entry m c main_arg3)
    (hG.tokens c) (entry m c main_arg0) (hG.flags c _) W) $$ [H0 H1 H2 H3 H4 HX Hh HT1 HT2 Hq HW]
  · isplitl [H0]; · iexact H0
    isplitl [H1]; · iexact H1
    isplitl [H2]; · iexact H2
    isplitl [H3]; · iexact H3
    isplitl [H4]; · iexists _; iexact H4
    isplitl [HX]; · iexact HX
    isplitl [Hh]; · iexact Hh
    isplitl [HT1]; · iexact HT1
    isplitl [HT2]; · iexact HT2
    isplitl [Hq]; · iexact Hq
    iexact HW
  iapply (wp_wand) $$ HB
  iintro %u ⟨H0, H1, H2, H3, H4, HX, Hh, HT1, HT2, Hq, ⟨%W', HW⟩⟩
  isplitl [HX Hg Hq Hh HT0 HT1 HT2]
  · isplitl [HX Hg Hq Hh]
    · isplitl [HX]; · iexact HX
      isplitl [Hg]; · iexact Hg
      isplitl [Hq]; · iexact Hq
      iexact Hh
    isplitl [HT0]; · iexact HT0
    isplitl [HT1]; · iexact HT1
    iexact HT2
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  iexact H4

theorem body_row (t : Fin (pipe m hG).N) :
    defs₀ (F := F) .tc (pipe m hG).body ((pipe m hG).bodyArgs t ((pipe m hG).slots t)) = bodyOf m hG t := by
  unfold defs₀; rw [Defs.onTc_tc]

/-- The output's block is written back at every point. -/
theorem written (t : Fin (pipe m hG).N) : ((pipe m hG).win 4).flush t = true :=
  (fun t => (Pipeline.Window.flushOf_reads cc0_transform_5 reads0_4 hreads0_4 0 (by decide) (by decide)
    (Pipeline.Window.sep_of_coord cc0_transform_5 0 0 (fun _ => rfl) (by decide)) (P := 1) (m := 0) (by decide) rfl t).mpr (Nat.mod_one _) :
    ∀ t : Fin grid0.N, Pipeline.Window.flushOf grid0 true cc0_transform_5 t = true) t

/-- So what the pipeline takes back of it is what the body leaves. -/
theorem taken_back (t : Fin (pipe m hG).N) (A B : sProp 𝕄) :
    (match (pipe m hG).idle 4 ((pipe m hG).grid.coords t) with
      | true => (match ((pipe m hG).win 4).flush t with | false => A | true => B)
      | false => B) = B := by
  rw [written]; cases (pipe m hG).idle 4 ((pipe m hG).grid.coords t) <;> rfl

theorem obligation (c : Dev nD) : BodyObligation (data (F := F) m hG 0 c) (defs₀ (F := F)) Variants.none () Set.univ := fun t => by
  rw [bigSep_W0, bigSep_W0, body_row m hG]
  refine triple_restated (body_at m hG c t) rfl .rfl fun _ => ?_
  refine sep_mono .rfl (sep_mono .rfl (sep_mono .rfl (sep_mono .rfl (sep_mono .rfl (sep_mono .rfl ?_)))))
  exact Entails.of_eq (taken_back m hG t _ _).symm

set_option backward.isDefEq.respectTransparency.types false in
/-- The run: every array as the data says, every other buffer as it was, every semaphore at zero. -/
theorem run : θ_run defs (onTc (τ := τ) (main (F := F))) (s₀ m ρ)
    (fun r => Pipeline.FramePost (Pipeline.pin pcfgs fun _ => tables m hG) (data m hG) 0 (entry m) r ∧ r.2.sem = fun _ => 0) :=
  Pipeline.θ_run_frameP_dma (Q' := _) pcfgs (fun _ => tables m hG) (data m hG) (0 : Fin 1) launch0 copySem defs₀ Variants.none copySem_own
    read read_rest m ρ main (hbody := fun c => (obligation m hG c).loose) (hshare := fun c => (data m hG 0 c).share_full fun _ => rfl)
    (howed := fun _ _ => rfl) (V := entry m) (hmain := main_is_call m) (hA := data_array m hG) (hpf := entry_words m)
    (hin := fun _ => .rfl) (hout := fun c => by change iprop(_ ∗ _) ⊢ _; iintro ⟨HD, -⟩; iexact HD)

end Cert.Exp

end
-- ==== Proof.ExpWords.lean ====
/- What the precondition says of the three integer tables, as numbers. -/
module

public import proofs.«01_k».proof.Pre_in_range
public import Idealize.ShloMosaic.Lib.StableHlo.Predicate

@[expose] public section

noncomputable section

namespace Cert.Exp

open Idealize.ShloMosaic

/-- The side conditions of the precondition's operations. -/
theorem in_range_facts : Cert.Pre_in_range.Facts := ⟨by decide, by decide⟩

/-- A word that is at least zero and below a small `n`, both read signed, is below `n` as a natural number. -/
theorem word_below (b : BitVec 32) (n : ℕ) (hn : n < 2 ^ 31) (h0 : IntOp.cmpi .sge b 0#32 = 1#1) (h1 : IntOp.cmpi .slt b (BitVec.ofNat 32 n) = 1#1) :
    b.toNat < n := by
  simp only [IntOp.cmpi, StableHlo.Predicate.ofBool_eq_one_iff, BitVec.sle_iff_toInt_le, BitVec.slt_iff_toInt_lt] at h0 h1
  rw [StableHlo.Predicate.toInt_ofNat_small n hn] at h1
  have e : b.toInt = if 2 * b.toNat < 2 ^ 32 then (b.toNat : ℤ) else (b.toNat : ℤ) - 2 ^ 32 := BitVec.toInt_eq_toNat_cond b
  have hb : b.toNat < 2 ^ 32 := b.isLt
  rw [show (0#32 : BitVec 32).toInt = 0 from rfl] at h0
  split_ifs at e <;> omega

/-- A word that is at least zero and at most one, both read signed, is one or zero. -/
theorem word_flag (b : BitVec 32) (h0 : IntOp.cmpi .sge b 0#32 = 1#1) (h1 : IntOp.cmpi .sle b 1#32 = 1#1) : b = 1#32 ∨ b = 0#32 := by
  have h2 : IntOp.cmpi .slt b (BitVec.ofNat 32 2) = 1#1 := by
    simp only [IntOp.cmpi, StableHlo.Predicate.ofBool_eq_one_iff, BitVec.sle_iff_toInt_le, BitVec.slt_iff_toInt_lt] at h1 ⊢
    rw [StableHlo.Predicate.toInt_ofNat_small 2 (by omega)]
    rw [show (1#32 : BitVec 32).toInt = 1 from rfl] at h1
    omega
  have h := word_below b 2 (by omega) h0 h2
  rcases Nat.lt_succ_iff_lt_or_eq.mp h with h | h
  · exact Or.inr (BitVec.eq_of_toNat_eq (by rw [show (0#32 : BitVec 32).toNat = 0 from rfl]; omega))
  · exact Or.inl (BitVec.eq_of_toNat_eq h)

/-- The tables' entries: experts' numbers, activity words, tokens' numbers. -/
structure Words (te act : (⟨1, ![152]⟩ : Shape).Idx → BitVec 32) (tok : (⟨1, ![38912]⟩ : Shape).Idx → BitVec 32) : Prop where
  expert : ∀ x, (te x).toNat < 16
  active : ∀ x, act x = 1#32 ∨ act x = 0#32
  token : ∀ s, (tok s).toNat < 17408

attribute [local instance] in_range_facts

/-- The precondition's six arrays of bits, all ones, say just that. -/
theorem words_of {F : FTy → Type} [FloatOps F] (a0 : FVec F Pre_in_range.S17408x4096 .f32) (te act : IVec Pre_in_range.S152 32)
    (tok : IVec Pre_in_range.S38912 32) (a4 : FVec F Pre_in_range.S38912x1 .f32) (a5 a6 : FVec F Pre_in_range.S16x4096x768 .bf16)
    (a7 : FVec F Pre_in_range.S16x768x4096 .bf16)
    (h1 : (Pre_in_range.fn a0 te act tok a4 a5 a6 a7).1 = fun _ => 1#1) (h2 : (Pre_in_range.fn a0 te act tok a4 a5 a6 a7).2.1 = fun _ => 1#1)
    (h3 : (Pre_in_range.fn a0 te act tok a4 a5 a6 a7).2.2.1 = fun _ => 1#1) (h4 : (Pre_in_range.fn a0 te act tok a4 a5 a6 a7).2.2.2.1 = fun _ => 1#1)
    (h5 : (Pre_in_range.fn a0 te act tok a4 a5 a6 a7).2.2.2.2.1 = fun _ => 1#1)
    (h6 : (Pre_in_range.fn a0 te act tok a4 a5 a6 a7).2.2.2.2.2 = fun _ => 1#1) : Words te act tok where
  expert x := word_below _ 16 (by omega) (congrFun h1 x) (congrFun h2 x)
  active x := word_flag _ (congrFun h3 x) (congrFun h4 x)
  token s := word_below _ 17408 (by omega) (congrFun h5 s) (congrFun h6 s)

end Cert.Exp

end
-- ==== Proof.ExpFrame.lean ====
/- The call under its precondition: it runs, and every argument is as it was. -/
module

public import proofs.«01_k».proof.Proof.ExpRun
public import proofs.«01_k».proof.Proof.ExpWords

@[expose] public section

set_option maxRecDepth 16384

noncomputable section

namespace Cert.Exp

open Cert.Kernel2Ideal Cert.Kernel2Ideal.Gen
open Idealize.ShloMosaic Idealize.ShloMosaic.TcCoe Idealize.SL Idealize.SL.Sem

variable {F : FTy → Type} [FloatOps F]
variable (m : (ℓ : Loc nD τ sig) → Buf (Elt F) ℓ) (ρ : Dev nD → PrngReg)

/-- The block of one expert is inside the sixteen experts' array. -/
theorem expert_inside (e p q : ℕ) (he : e < 16) :
    ∀ a : Fin 3, ((![e, 0, 0] : Fin 3 → ℕ) a + 1) * (![1, p, q] : Fin 3 → ℕ) a ≤ (![16, p, q] : Fin 3 → ℕ) a
  | ⟨0, _⟩ => by show (e + 1) * 1 ≤ 16; omega
  | ⟨1, _⟩ => by show (0 + 1) * p ≤ p; omega
  | ⟨2, _⟩ => by show (0 + 1) * q ≤ q; omega

/-- Expert numbers below sixteen put every tile's blocks of weights inside their arrays. -/
theorem blocks_inside (pf : pre0.Contents (Elt F)) (h : ∀ x : S152.Idx, BitVec.toNat (pf 0 x : BitVec 32) < 16) : ok0 pf :=
  ⟨fun _ => ⟨expert_inside _ 4096 768 (h _), Or.inr (Or.inr ⟨by decide, rfl, rfl, rfl⟩)⟩,
    fun _ => ⟨expert_inside _ 4096 768 (h _), Or.inr (Or.inr ⟨by decide, rfl, rfl, rfl⟩)⟩,
    fun _ => ⟨expert_inside _ 768 4096 (h _), Or.inr (Or.inr ⟨by decide, rfl, rfl, rfl⟩)⟩⟩

/-- What the tables' numbers give. -/
theorem good (h : ∀ c : Dev nD, Words (entry m c main_arg1) (entry m c main_arg2) (entry m c main_arg3)) : Good m where
  experts := blocks_inside (words m) (h 0).expert
  tokens c := (h c).token
  flags c i := (h c).active _

/-- What the run leaves in the result, and in the arguments. -/
theorem run_result (hG : Good m) : θ_run defs (onTc (τ := τ) (main (F := F))) (s₀ m ρ)
    (fun r => (∀ c : Dev nD, r.2.mem ((c : Thread nD τ).loc main_v0) = (data m hG 0 c).arrAt 4 (pipe m hG).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run defs _ _).mono (fun _ h => ⟨fun c => ⟨(h.1 c).1 4,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      (h.1 c).2 main_arg3 (by decide : main_arg3 ∈ Pipeline.restRefs sig spec0),
      ((h.1 c).1 0).trans (((data m hG 0 c).arrAt_in 0 rfl _).trans (data_array m hG c 0)),
      ((h.1 c).1 1).trans (((data m hG 0 c).arrAt_in 1 rfl _).trans (data_array m hG c 1)),
      ((h.1 c).1 2).trans (((data m hG 0 c).arrAt_in 2 rfl _).trans (data_array m hG c 2)),
      ((h.1 c).1 3).trans (((data m hG 0 c).arrAt_in 3 rfl _).trans (data_array m hG c 3))⟩, h.2⟩) (run m ρ hG)

end Cert.Exp

end
-- ==== Proof.ExpSpec.lean ====
/- The experts' call as one formula: what every slot's row of the result is. -/
module

public import Idealize.ShloMosaic.Lib.ValueIdx
public import Idealize.ShloMosaic.PureOps.Ideal.Laws

@[expose] public section

noncomputable section

namespace Cert.Exp

open Idealize.ShloMosaic Idealize.ShloMosaic.ValueIdx

/-- The word of one. -/
theorem word_one : Ideal.ofBits .f32 0x3F800000#32 = 1 := by
  simp [Ideal.ofBits, Ideal.ieee]
  rw [← EReal.coe_mul]
  norm_num

/-- `a · 1/(1 + exp(−a))`. -/
def swish (a : EReal) : EReal := a * Ideal.div 1 (1 + Ideal.exp (-a))

/-- One hidden number of an expert: the row `x` against a column of the first matrix, through `swish`, times `x` against the
    same column of the second. -/
def hidden {n : ℕ} (x wg wu : Fin n → EReal) : EReal := swish (∑ k, x k * wg k) * ∑ k, x k * wu k

/-- The number that a word names among `n`, the last one if it is too large. -/
def pick (n : ℕ) (hn : 0 < n) (b : BitVec 32) : Fin n := ⟨min b.toNat (n - 1), by omega⟩

/-- A word below `n` names the number it is. -/
theorem pick_val {n : ℕ} (hn : 0 < n) {b : BitVec 32} (h : b.toNat < n) : (pick n hn b).val = b.toNat := by
  show min b.toNat (n - 1) = b.toNat
  omega

/-- The tile of a slot. -/
def tileOf (s : Fin 38912) : Fin 152 := ⟨s.val / 256, by omega⟩

/-- Slot `s`, column `d` of the result: in an active tile, the slot's weight times its token's row sent through its tile's
    expert; in a tile that is not active, zero. -/
def expertRows (h : (⟨2, ![17408, 4096]⟩ : Shape).Idx → EReal) (te act : (⟨1, ![152]⟩ : Shape).Idx → BitVec 32)
    (tok : (⟨1, ![38912]⟩ : Shape).Idx → BitVec 32) (g : (⟨2, ![38912, 1]⟩ : Shape).Idx → EReal)
    (wg wu : (⟨3, ![16, 4096, 768]⟩ : Shape).Idx → EReal) (wd : (⟨3, ![16, 768, 4096]⟩ : Shape).Idx → EReal)
    (s : Fin 38912) (d : Fin 4096) : EReal :=
  if act (ix1 (tileOf s)) = 1#32 then
    g (ix2 s 0) * ∑ f : Fin 768,
      hidden (fun k : Fin 4096 => h (ix2 (pick 17408 (by omega) (tok (ix1 s))) k))
        (fun k => wg (ix3 (pick 16 (by omega) (te (ix1 (tileOf s)))) k f))
        (fun k => wu (ix3 (pick 16 (by omega) (te (ix1 (tileOf s)))) k f))
      * wd (ix3 (pick 16 (by omega) (te (ix1 (tileOf s)))) f d)
  else 0

end Cert.Exp

end
-- ==== Proof.ExpPoint.lean ====
/- What the kernel's arithmetic makes of one tile, entry by entry. -/
module

public import proofs.«01_k».proof.Proof.Gen.Kernel2Ideal.Skeleton
public import proofs.«01_k».proof.Proof.ExpSpec
public import Idealize.ShloMosaic.Lib.Pipeline.Value

@[expose] public section

set_option maxRecDepth 16384

noncomputable section

namespace Cert.Exp

open Cert.Kernel2Ideal Cert.Kernel2Ideal.Gen
open Idealize.ShloMosaic Idealize.ShloMosaic.ValueIdx

/-- The tile's rows against a first (or second) matrix. -/
theorem up_apply (x : FVec Ideal S256x4096 .bf16) (w : FVec Ideal S1x4096x768 .bf16) (r : Fin 256) (f : Fin 768) :
    matmul dot_S256x4096_S4096x768_S256x768_1_0_0_1_n_n none x (shapeCast S4096x768 w shapeCasts_S1x4096x768_S4096x768)
      (constant S256x768 .f32 0x00000000#32) (ix2 r f) = ∑ k : Fin 4096, (x (ix2 r k) : EReal) * w (ix3 0 k f) := by
  show FloatOps.matmul _ _ _ _ _ _ = _
  rw [Ideal.matmul_constant_zero_apply,
    ← Equiv.sum_comp (contrEquiv1 dot_S256x4096_S4096x768_S256x768_1_0_0_1_n_n 4096 rfl rfl).symm]
  refine Finset.sum_congr rfl fun j _ => ?_
  have hk := contrEquiv1_symm_val dot_S256x4096_S4096x768_S256x768_1_0_0_1_n_n 4096 rfl rfl j
  generalize (contrEquiv1 dot_S256x4096_S4096x768_S256x768_1_0_0_1_n_n 4096 rfl rfl).symm j = J at hk
  have e1 : dot_S256x4096_S4096x768_S256x768_1_0_0_1_n_n.lhsIdx (ix2 r f) J = ix2 r j := by
    funext a; apply Fin.ext
    match a with
    | ⟨0, _⟩ => rfl
    | ⟨1, _⟩ => exact hk
  have e2 : dot_S256x4096_S4096x768_S256x768_1_0_0_1_n_n.rhsIdx (ix2 r f) J = ix2 j f := by
    funext a; apply Fin.ext
    match a with
    | ⟨0, _⟩ => exact hk
    | ⟨1, _⟩ => rfl
  rw [e1, e2, shapeCast_apply w _ (ix2 j f) (ix3 0 j f)]
  rw [Shape.rowMajor_val_two, Shape.rowMajor_val_three]
  show (0 * 4096 + j.val) * 768 + f.val = j.val * 768 + f.val
  omega

/-- The hidden rows against the last matrix. -/
theorem down_apply (x : FVec Ideal S256x768 .bf16) (w : FVec Ideal S1x768x4096 .bf16) (r : Fin 256) (d : Fin 4096) :
    matmul dot_S256x768_S768x4096_S256x4096_1_0_0_1_n_n none x (shapeCast S768x4096 w shapeCasts_S1x768x4096_S768x4096)
      (constant S256x4096 .f32 0x00000000#32) (ix2 r d) = ∑ f : Fin 768, (x (ix2 r f) : EReal) * w (ix3 0 f d) := by
  show FloatOps.matmul _ _ _ _ _ _ = _
  rw [Ideal.matmul_constant_zero_apply,
    ← Equiv.sum_comp (contrEquiv1 dot_S256x768_S768x4096_S256x4096_1_0_0_1_n_n 768 rfl rfl).symm]
  refine Finset.sum_congr rfl fun j _ => ?_
  have hk := contrEquiv1_symm_val dot_S256x768_S768x4096_S256x4096_1_0_0_1_n_n 768 rfl rfl j
  generalize (contrEquiv1 dot_S256x768_S768x4096_S256x4096_1_0_0_1_n_n 768 rfl rfl).symm j = J at hk
  have e1 : dot_S256x768_S768x4096_S256x4096_1_0_0_1_n_n.lhsIdx (ix2 r d) J = ix2 r j := by
    funext a; apply Fin.ext
    match a with
    | ⟨0, _⟩ => rfl
    | ⟨1, _⟩ => exact hk
  have e2 : dot_S256x768_S768x4096_S256x4096_1_0_0_1_n_n.rhsIdx (ix2 r d) J = ix2 j d := by
    funext a; apply Fin.ext
    match a with
    | ⟨0, _⟩ => exact hk
    | ⟨1, _⟩ => rfl
  rw [e1, e2, shapeCast_apply w _ (ix2 j d) (ix3 0 j d)]
  rw [Shape.rowMajor_val_two, Shape.rowMajor_val_three]
  show (0 * 768 + j.val) * 4096 + d.val = j.val * 4096 + d.val
  omega

/-- The kernel's sigmoid times its argument, entry by entry. -/
theorem swish_apply (a : FVec Ideal S256x768 .f32) (y : S256x768.Idx) :
    mulf a (divf (broadcast S256x768 (Scalar.ofBits .f32 0x3F800000#32)) (addf (broadcast S256x768 (Scalar.ofBits .f32 0x3F800000#32))
      (exp (subf (broadcast S256x768 (Scalar.ofBits .f32 0x00000000#32)) a)))) y = swish (a y) := by
  show (a y : EReal) * Ideal.div (Ideal.ofBits .f32 0x3F800000#32) (Ideal.ofBits .f32 0x3F800000#32
    + Ideal.exp (Ideal.ofBits .f32 0x00000000#32 - a y)) = _
  rw [word_one, Ideal.ofBits_zero_f32, zero_sub]
  rfl

/-- One tile's result, entry by entry. -/
theorem tile_apply (x : FVec Ideal S256x4096 .f32) (wg wu : FVec Ideal S1x4096x768 .bf16) (wd : FVec Ideal S1x768x4096 .bf16)
    (g : FVec Ideal S256x1 .f32) (r : Fin 256) (d : Fin 4096) :
    k0_pay2 (F := Ideal) x wg wu wd g (ix2 r d)
      = (g (ix2 r 0) : EReal) * ∑ f : Fin 768, hidden (fun k : Fin 4096 => (x (ix2 r k) : EReal)) (fun k => wg (ix3 0 k f))
          (fun k => wu (ix3 0 k f)) * wd (ix3 0 f d) := by
  unfold k0_pay2
  rw [mulf_apply, down_apply, broadcastTo_apply g broadcasts_S256x1_S256x4096 (ix2 r d) (ix2 r 0)]
  · show (_ : EReal) * _ = _
    rw [mul_comm]
    congr 1
    refine Finset.sum_congr rfl fun f _ => ?_
    congr 1
    change mulf (F := Ideal) (φ := .f32) (s := S256x768) _ _ (ix2 r f) = _
    rw [mulf_apply, swish_apply, up_apply, up_apply]
    rfl
  · intro a
    match a with
    | ⟨0, _⟩ => rfl
    | ⟨1, _⟩ => rfl

/-- The same, with every operand's entries named. -/
theorem tile_formula {x : FVec Ideal S256x4096 .f32} {wg wu : FVec Ideal S1x4096x768 .bf16} {wd : FVec Ideal S1x768x4096 .bf16}
    {g : FVec Ideal S256x1 .f32} {r : Fin 256} {x' : Fin 4096 → EReal} {wg' wu' : Fin 4096 → Fin 768 → EReal} {wd' : Fin 768 → Fin 4096 → EReal}
    {g' : EReal} (hx : ∀ k, x (ix2 r k) = x' k) (h1 : ∀ k f, wg (ix3 0 k f) = wg' k f) (h2 : ∀ k f, wu (ix3 0 k f) = wu' k f)
    (h3 : ∀ f d, wd (ix3 0 f d) = wd' f d) (hg : g (ix2 r 0) = g') (d : Fin 4096) :
    k0_pay2 (F := Ideal) x wg wu wd g (ix2 r d) = g' * ∑ f : Fin 768, hidden x' (fun k => wg' k f) (fun k => wu' k f) * wd' f d := by
  rw [tile_apply]
  simp only [hx, h1, h2, h3, hg]

end Cert.Exp

end
-- ==== Proof.ExpArray.lean ====
/- What the kernel's output array holds: each tile's block is the formula's, and the tiles cover the array. -/
module

public import proofs.«01_k».proof.Proof.ExpFrame
public import proofs.«01_k».proof.Proof.ExpPoint

@[expose] public section

set_option maxRecDepth 16384

noncomputable section

namespace Cert.Exp

open Cert.Kernel2Ideal Cert.Kernel2Ideal.Gen
open Idealize.ShloMosaic hiding ix1 ix2 ix3 eq_ix2
open Idealize.ShloMosaic.TcCoe Idealize.SL Idealize.SL.Sem Idealize.ShloMosaic.ValueIdx
open Idealize.ShloMosaic.Pipeline (Dat)

/-- Row `r` of tile `t` is slot `256 t + r`. -/
def slotOf (t : Fin 152) (r : Fin 256) : Fin 38912 := ⟨256 * t.val + r.val, by omega⟩

theorem tileOf_slotOf (t : Fin 152) (r : Fin 256) : tileOf (slotOf t r) = t := Fin.ext (by
  show (256 * t.val + r.val) / 256 = t.val
  omega)

/-- The tile of a grid point. -/
def tileAt (i : grid0.Coords) : Fin 152 := i 0

/-- The points are the tiles, in order. -/
theorem tileAt_val : ∀ t : Fin grid0.N, (tileAt (grid0.coords t)).val = t.val := by decide +kernel

/-- Every tile is a point's. -/
theorem point_of (p : Fin 152) : ∃ t : Fin grid0.N, tileAt (grid0.coords t) = p :=
  ⟨⟨p.val, p.isLt⟩, Fin.ext (tileAt_val _)⟩

/-- The rows of the weights' and the result's blocks. -/
theorem map_rows : ∀ t : Fin grid0.N, cc0_transform_1 (grid0.coords t) 0 = t.val ∧ cc0_transform_1 (grid0.coords t) 1 = 0
    ∧ cc0_transform_5 (grid0.coords t) 0 = t.val ∧ cc0_transform_5 (grid0.coords t) 1 = 0 := by decide +kernel

variable (m : (ℓ : Loc nD τ sig) → Buf (Elt Ideal) ℓ)

/-- What the tables hold, as arrays of words. -/
abbrev teOf (c : Dev nD) : S152.Idx → BitVec 32 := entry m c main_arg1
abbrev actOf (c : Dev nD) : S152.Idx → BitVec 32 := entry m c main_arg2
abbrev tokOf (c : Dev nD) : S38912.Idx → BitVec 32 := entry m c main_arg3

variable (hG : Good m) (c : Dev nD)

/-- The word that picks a tile's expert. -/
theorem expert_word (i : grid0.Coords) : (words m).at 0 (Rect.unit (s := S152) (k0_off1 i) S1.size (k0_off1_inb i)) numel1_S1
    = teOf m c (ix1 (tileAt i)) := by
  obtain rfl : c = 0 := Subsingleton.elim _ _
  refine congrArg (teOf m 0) (funext fun a => Fin.ext ?_)
  match a with
  | ⟨0, _⟩ =>
    show k0_off1 i 0 + 1 * 0 = (i 0).val
    rw [k0_off1_eq]
    rfl

/-- The activity word of a tile. -/
theorem flag_word (i : grid0.Coords) : flag (F := Ideal) c i (entry m c main_arg2) = actOf m c (ix1 (tileAt i)) := by
  unfold flag
  rw [View.read_apply]
  refine (cast_eq _ _).trans (congrArg (actOf m c) (funext fun a => Fin.ext ?_))
  match a with
  | ⟨0, _⟩ =>
    show k0_off1 i 0 + 1 * 0 = (i 0).val
    rw [k0_off1_eq]
    rfl

/-- The token's word of a row of a tile. -/
theorem token_word (i : grid0.Coords) (r : Fin 256) :
    word (F := Ideal) c i (entry m c main_arg3) (rowOf r) = tokOf m c (ix1 (slotOf (tileAt i) r)) := by
  unfold word
  rw [View.read_apply]
  refine (cast_eq _ _).trans (congrArg (tokOf m c) (funext fun a => Fin.ext ?_))
  match a with
  | ⟨0, _⟩ =>
    show k0_off2 i (rowOf r) 0 + 1 * 0 = 256 * (i 0).val + r.val
    rw [k0_off2_eq]
    rfl

/-- The weights' block. -/
theorem block_gate (t : Fin grid0.N) (r : Fin 256) :
    (block m hG c 0 t : S256x1.Idx → EReal) (ix2 r 0) = (entry m c main_arg4 : S38912x1.Idx → EReal) (ix2 (slotOf (tileAt (grid0.coords t)) r) 0) := by
  show (entry m c main_arg4 : S38912x1.Idx → EReal) ((((pipe m hG).win 0).blk t).view.emb (ix2 r 0)) = _
  refine congrArg _ (funext fun a => Fin.ext ?_)
  match a with
  | ⟨0, _⟩ =>
    show cc0_transform_1 (grid0.coords t) 0 * 256 + 1 * r.val = 256 * (tileAt (grid0.coords t)).val + r.val
    rw [(map_rows t).1, tileAt_val]
    omega
  | ⟨1, _⟩ =>
    show cc0_transform_1 (grid0.coords t) 1 * 1 + 1 * 0 = 0
    rw [(map_rows t).2.1]

variable (hW : Words (teOf m c) (actOf m c) (tokOf m c))
include hW

/-- The expert of a point. -/
def expertAt (t : Fin grid0.N) : Fin 16 := pick 16 (by omega) (teOf m c (ix1 (tileAt (grid0.coords t))))

omit hW in
/-- The expert of a point, as its word's number. -/
theorem expertAt_val (hW : Words (teOf m c) (actOf m c) (tokOf m c)) (t : Fin grid0.N) :
    ((words m).at 0 (Rect.unit (s := S152) (k0_off1 (grid0.coords t)) S1.size (k0_off1_inb (grid0.coords t))) numel1_S1 : BitVec 32).toNat
      = (expertAt m c t).val := by
  rw [expert_word m c]
  exact (pick_val _ (hW.expert _)).symm

/-- The blocks of the three matrices. -/
theorem block_first (t : Fin grid0.N) (k : Fin 4096) (f : Fin 768) :
    (block m hG c 1 t : S1x4096x768.Idx → EReal) (ix3 0 k f) = (entry m c main_arg5 : S16x4096x768.Idx → EReal) (ix3 (expertAt m c t) k f) := by
  show (entry m c main_arg5 : S16x4096x768.Idx → EReal) ((((pipe m hG).win 1).blk t).view.emb (ix3 0 k f)) = _
  refine congrArg _ (funext fun a => Fin.ext ?_)
  match a with
  | ⟨0, _⟩ => exact (by omega : ∀ n : ℕ, n * 1 + 1 * 0 = n) _ |>.trans (expertAt_val m c hW t)
  | ⟨1, _⟩ => exact (by omega : 0 * 4096 + 1 * k.val = k.val)
  | ⟨2, _⟩ => exact (by omega : 0 * 768 + 1 * f.val = f.val)

theorem block_second (t : Fin grid0.N) (k : Fin 4096) (f : Fin 768) :
    (block m hG c 2 t : S1x4096x768.Idx → EReal) (ix3 0 k f) = (entry m c main_arg6 : S16x4096x768.Idx → EReal) (ix3 (expertAt m c t) k f) := by
  show (entry m c main_arg6 : S16x4096x768.Idx → EReal) ((((pipe m hG).win 2).blk t).view.emb (ix3 0 k f)) = _
  refine congrArg _ (funext fun a => Fin.ext ?_)
  match a with
  | ⟨0, _⟩ => exact (by omega : ∀ n : ℕ, n * 1 + 1 * 0 = n) _ |>.trans (expertAt_val m c hW t)
  | ⟨1, _⟩ => exact (by omega : 0 * 4096 + 1 * k.val = k.val)
  | ⟨2, _⟩ => exact (by omega : 0 * 768 + 1 * f.val = f.val)

theorem block_last (t : Fin grid0.N) (f : Fin 768) (d : Fin 4096) :
    (block m hG c 3 t : S1x768x4096.Idx → EReal) (ix3 0 f d) = (entry m c main_arg7 : S16x768x4096.Idx → EReal) (ix3 (expertAt m c t) f d) := by
  show (entry m c main_arg7 : S16x768x4096.Idx → EReal) ((((pipe m hG).win 3).blk t).view.emb (ix3 0 f d)) = _
  refine congrArg _ (funext fun a => Fin.ext ?_)
  match a with
  | ⟨0, _⟩ => exact (by omega : ∀ n : ℕ, n * 1 + 1 * 0 = n) _ |>.trans (expertAt_val m c hW t)
  | ⟨1, _⟩ => exact (by omega : 0 * 768 + 1 * f.val = f.val)
  | ⟨2, _⟩ => exact (by omega : 0 * 4096 + 1 * d.val = d.val)

/-- The gathered rows. -/
theorem gathered_apply (t : Fin grid0.N) (r : Fin 256) (k : Fin 4096) :
    (gathered (F := Ideal) c (grid0.coords t) (entry m c main_arg3) (hG.tokens c) (entry m c main_arg0) : S256x4096.Idx → EReal) (ix2 r k)
      = (entry m c main_arg0 : S17408x4096.Idx → EReal)
          (ix2 (pick 17408 (by omega) (tokOf m c (ix1 (slotOf (tileAt (grid0.coords t)) r)))) k) := by
  unfold gathered
  refine Eq.trans (View.read_apply _ _) ?_
  refine (cast_eq _ _).trans (congrArg (entry m c main_arg0 : S17408x4096.Idx → EReal) (funext fun a => Fin.ext ?_))
  match a with
  | ⟨0, _⟩ =>
    refine Eq.trans ?_ (pick_val _ (hW.token _)).symm
    exact ((by omega : ∀ n : ℕ, n + 1 * 0 = n) _).trans (congrArg BitVec.toNat (token_word m c (grid0.coords t) r))
  | ⟨1, _⟩ => exact (by omega : 0 + 1 * k.val = k.val)

/-- The formula over the arrays at entry. -/
abbrev answer : S38912x4096.Idx → EReal := fun y =>
  expertRows (entry m c main_arg0) (teOf m c) (actOf m c) (tokOf m c) (entry m c main_arg4) (entry m c main_arg5) (entry m c main_arg6)
    (entry m c main_arg7) (y 0) (y 1)

/-- What a point leaves, entry by entry. -/
theorem result_apply (t : Fin grid0.N) (r : Fin 256) (d : Fin 4096) :
    (result m hG c t : S256x4096.Idx → EReal) (ix2 r d) = answer m c (ix2 (slotOf (tileAt (grid0.coords t)) r) d) := by
  unfold result tileOut
  show _ = expertRows _ _ _ _ _ _ _ _ (slotOf (tileAt (grid0.coords t)) r) d
  unfold expertRows
  rw [tileOf_slotOf, ← flag_word m c]
  split_ifs with hf
  · exact tile_formula (gathered_apply m hG c hW t r) (block_first m hG c hW t) (block_second m hG c hW t) (block_last m hG c hW t)
      (block_gate m hG c t r) d
  · show Ideal.ofBits .f32 0x00000000#32 = 0
    exact Ideal.ofBits_zero_f32

omit hW in
/-- A point's block of results: 256 rows, every column. -/
theorem mem_tile (t : Fin (pipe m hG).N) (y : S38912x4096.Idx) : y ∈ (((pipe m hG).win 4).blk t).view.set ↔
    ∀ a, cc0_transform_5 (grid0.coords t) a * S256x4096.size a ≤ (y a).val
      ∧ (y a).val < cc0_transform_5 (grid0.coords t) a * S256x4096.size a + S256x4096.size a := by
  refine (iff_of_eq (congrArg (y ∈ ·) (View.set_slice_whole main_v0 (((pipe m hG).win 4).rect t)))).trans ?_
  exact Rect.mem_set_unit

omit hW in
/-- Every entry of the result is in some tile. -/
theorem tiles_cover (y : S38912x4096.Idx) :
    ∃ t : Fin (pipe m hG).N, ((pipe m hG).win 4).flush t = true ∧ y ∈ (((pipe m hG).win 4).blk t).view.set := by
  have h0 : (y 0).val < 38912 := (y 0).isLt
  have h1 : (y 1).val < 4096 := (y 1).isLt
  obtain ⟨t, ht⟩ := point_of ⟨(y 0).val / 256, by omega⟩
  have hv : t.val = (y 0).val / 256 := (tileAt_val t).symm.trans (congrArg Fin.val ht)
  refine ⟨t, written m hG t, (mem_tile m hG t y).2 fun a => ?_⟩
  match a with
  | ⟨0, _⟩ =>
    show cc0_transform_5 (grid0.coords t) 0 * 256 ≤ (y 0).val ∧ (y 0).val < cc0_transform_5 (grid0.coords t) 0 * 256 + 256
    rw [(map_rows t).2.2.1, hv]
    omega
  | ⟨1, _⟩ =>
    show cc0_transform_5 (grid0.coords t) 1 * 4096 ≤ (y 1).val ∧ (y 1).val < cc0_transform_5 (grid0.coords t) 1 * 4096 + 4096
    rw [(map_rows t).2.2.2]
    omega

/-- After the run the output array is the formula of the arrays at entry. -/
theorem array_is : (data m hG 0 c).arrAt 4 (pipe m hG).N = answer m c := by
  refine (data m hG 0 c).arrAt_eq_of_cover 4 (answer m c) ?_ (tiles_cover m hG)
  intro t _
  show ((pipe m hG).win 4).cut ((pipe m hG).grid.coords t) ((data m hG 0 c).after 4 t) = _
  rw [after_4]
  funext y'
  have key : ∀ y : S256x4096.Idx, (result m hG c t : S256x4096.Idx → EReal) y = answer m c ((((pipe m hG).win 4).blk t).view.emb y) := by
    intro y
    have hy : (((pipe m hG).win 4).blk t).view.emb y = (ix2 (slotOf (tileAt (grid0.coords t)) (y 0)) (y 1) : S38912x4096.Idx) := by
      funext a
      apply Fin.ext
      match a with
      | ⟨0, _⟩ =>
        show cc0_transform_5 (grid0.coords t) 0 * 256 + 1 * (y 0).val = 256 * (tileAt (grid0.coords t)).val + (y 0).val
        rw [(map_rows t).2.2.1, tileAt_val]
        omega
      | ⟨1, _⟩ =>
        show cc0_transform_5 (grid0.coords t) 1 * 4096 + 1 * (y 1).val = (y 1).val
        rw [(map_rows t).2.2.2]
        omega
    rw [hy]
    exact (congrArg (result m hG c t : S256x4096.Idx → EReal) (eq_ix2 y)).trans (result_apply m hG c hW t (y 0) (y 1))
  refine (key y').trans (Eq.symm ?_)
  refine Eq.trans (View.read_apply _ _) ?_
  exact cast_eq _ _

end Cert.Exp

end
-- ==== Proof.ExpPrinted.lean ====
/- The frame of the program as printed: its text is the idealized program's, read over float words. -/
module

public import proofs.«01_k».proof.Defs
public import proofs.«01_k».proof.Proof.ExpFrame
public import proofs.«01_k».proof.Proof.Gen.Kernel2

@[expose] public section

set_option maxRecDepth 16384

noncomputable section

namespace Cert.Exp

open Cert.Kernel2Ideal Cert.Kernel2Ideal.Gen
open Idealize.ShloMosaic Idealize.ShloMosaic.TcCoe Idealize.SL Idealize.SL.Sem

attribute [local instance] in_range_facts

variable {F : FTy → Type} [FloatOps F]

/-- The arguments of a state are those at entry. -/
def Unchanged (m m' : (ℓ : Loc nD τ sig) → Buf (Elt F) ℓ) (c : Dev nD) : Prop :=
  m' ((c : Thread nD τ).loc main_arg0) = m ((c : Thread nD τ).loc main_arg0)
  ∧ m' ((c : Thread nD τ).loc main_arg1) = m ((c : Thread nD τ).loc main_arg1)
  ∧ m' ((c : Thread nD τ).loc main_arg2) = m ((c : Thread nD τ).loc main_arg2)
  ∧ m' ((c : Thread nD τ).loc main_arg3) = m ((c : Thread nD τ).loc main_arg3)
  ∧ m' ((c : Thread nD τ).loc main_arg4) = m ((c : Thread nD τ).loc main_arg4)
  ∧ m' ((c : Thread nD τ).loc main_arg5) = m ((c : Thread nD τ).loc main_arg5)
  ∧ m' ((c : Thread nD τ).loc main_arg6) = m ((c : Thread nD τ).loc main_arg6)
  ∧ m' ((c : Thread nD τ).loc main_arg7) = m ((c : Thread nD τ).loc main_arg7)

/-- The call's frame for any floats, from the ranges of its words. -/
theorem frame_of_words (m : (ℓ : Loc nD τ sig) → Buf (Elt F) ℓ) (ρ : Dev nD → PrngReg)
    (hW : ∀ c : Dev nD, Words (entry m c main_arg1) (entry m c main_arg2) (entry m c main_arg3)) :
    θ_run (defs (F := F)) (onTc (τ := τ) (main (F := F))) ⟨m, fun _ => 0, ρ⟩ (fun r => (∀ c : Dev nD, Unchanged m r.2.mem c) ∧ r.2.sem = fun _ => 0) :=
  (θ_run defs _ _).mono (fun _ h => ⟨fun c => (h.1 c).2, h.2⟩) (run_result m ρ (good m hW))

/-- The precondition on one device: the six comparisons hold at every word. -/
def Holds (m : (ℓ : Loc nD τ sig) → Buf (Elt F) ℓ) (c : Dev nD) : Prop :=
  let r := Pre_in_range.fn (F := F) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
  r.1 = (fun _ => 1#1) ∧ r.2.1 = (fun _ => 1#1) ∧ r.2.2.1 = (fun _ => 1#1) ∧ r.2.2.2.1 = (fun _ => 1#1) ∧ r.2.2.2.2.1 = (fun _ => 1#1)
    ∧ r.2.2.2.2.2 = (fun _ => 1#1)

/-- The frame, from the precondition, for any floats. -/
theorem frame_of_holds (m : (ℓ : Loc nD τ sig) → Buf (Elt F) ℓ) (ρ : Dev nD → PrngReg) (h : ∀ c : Dev nD, Holds m c) :
    θ_run (defs (F := F)) (onTc (τ := τ) (main (F := F))) ⟨m, fun _ => 0, ρ⟩ (fun r => (∀ c : Dev nD, Unchanged m r.2.mem c) ∧ r.2.sem = fun _ => 0) :=
  frame_of_words m ρ fun c => words_of _ _ _ _ _ _ _ _ (h c).1 (h c).2.1 (h c).2.2.1 (h c).2.2.2.1 (h c).2.2.2.2.1 (h c).2.2.2.2.2

/-- The printed program's frame: the idealized program's, read over float words, is the same statement. -/
theorem frame_printed : Cert.quiescent_Kernel2 (hKernel2 := Cert.Kernel2.Gen.facts) (hPre_in_range := in_range_facts) :=
  Eq.mp (by sl_kernel_rfl) (frame_of_holds (F := Bits))

end Cert.Exp

end
-- ==== Proof.ExpRef.lean ====
/- The reference of the experts' call: its operations in order, and what its run leaves. -/
module

public import proofs.«01_k».proof.Proof.Gen.Reference2Ideal
public import Idealize.ShloMosaic.Lib.StableHlo.Run

@[expose] public section

set_option maxRecDepth 8192

noncomputable section

namespace Cert.ExpRef

open Cert.Reference2Ideal Cert.Reference2Ideal.Gen
open Idealize.ShloMosaic Idealize.ShloMosaic.TcCoe Idealize.SL.Sem Idealize.ShloMosaic.StableHlo

variable {F : FTy → Type} [FloatOps F]

/-- One word per tile, repeated over the tile's 256 slots. -/
abbrev perSlot (x : IVec S152 32) : IVec S38912 32 :=
  shapeCast S38912 (broadcastInDim S152x256 ![0] bcast_S152_S152x256_0 x) shapeCasts_S152x256_S38912

/-- The slots' words as a column of indices. -/
abbrev column (x : IVec S38912 32) : IVec S38912x1 32 := broadcastInDim S38912x1 ![0] bcast_S38912_S38912x1_0 x

/-- Every slot's row of `h`. -/
def rowsOf (h : FVec F S17408x4096 .f32) (tok : IVec S38912 32) : FVec F S38912x4096 .f32 :=
  Host.gather gather_S17408x4096_S38912x1_S38912x4096_1_0_n_n_0_1_14096 h (column tok)

/-- Every slot's expert's first (or second) matrix, widened. -/
def upOf (w : FVec F S16x4096x768 .bf16) (te : IVec S152 32) : FVec F S38912x4096x768 .f32 :=
  extf .f32 (Host.gather gather_S16x4096x768_S38912x1_S38912x4096x768_12_0_n_n_0_1_14096768 w (column (perSlot te))) bitsLt_bf16_f32

/-- Every slot's expert's last matrix, widened. -/
def downOf (w : FVec F S16x768x4096 .bf16) (te : IVec S152 32) : FVec F S38912x768x4096 .f32 :=
  extf .f32 (Host.gather gather_S16x768x4096_S38912x1_S38912x768x4096_12_0_n_n_0_1_17684096 w (column (perSlot te))) bitsLt_bf16_f32

/-- A slot's row against its expert's matrix. -/
def project (x : FVec F S38912x4096 .f32) (w : FVec F S38912x4096x768 .f32) : FVec F S38912x768 .f32 :=
  Host.dotGeneral dot_S38912x4096_S38912x4096x768_S38912x768_1_1_n_2_0_0 none x w

/-- A hidden row against its expert's last matrix. -/
def projectBack (x : FVec F S38912x768 .f32) (w : FVec F S38912x768x4096 .f32) : FVec F S38912x4096 .f32 :=
  Host.dotGeneral dot_S38912x768_S38912x768x4096_S38912x4096_1_1_n_2_0_0 none x w

/-- `x · 1/(1 + exp(−x))`, entry by entry. -/
def silu (x : FVec F S38912x768 .f32) : FVec F S38912x768 .f32 :=
  mulf x (Host.divf (broadcastInDim S38912x768 ![] bcast_S_S38912x768 (constant S_ .f32 0x3F800000#32))
    (addf (broadcastInDim S38912x768 ![] bcast_S_S38912x768 (constant S_ .f32 0x3F800000#32)) (Host.exp (Host.negf x))))

/-- Which slots lie in an active tile. -/
def activeOf (act : IVec S152 32) : IVec S38912x1 1 :=
  cmpi .eq (column (perSlot act)) (broadcastInDim S38912x1 ![] bcast_S_S38912x1 (constantI S_ 32 1#32))

/-- The value where its slot is active, zero elsewhere. -/
def masked (k : IVec S38912x1 1) (x : FVec F S38912x4096 .f32) : FVec F S38912x4096 .f32 :=
  select (broadcastInDim S38912x4096 ![0, 1] bcast_S38912x1_S38912x4096_0_1 k) x
    (broadcastInDim S38912x4096 ![] bcast_S_S38912x4096 (id (constant S_ .f32 0x00000000#32)))

/-- What the reference returns, of its arguments. -/
def out (h : FVec F S17408x4096 .f32) (te act : IVec S152 32) (tok : IVec S38912 32) (g : FVec F S38912x1 .f32)
    (wg wu : FVec F S16x4096x768 .bf16) (wd : FVec F S16x768x4096 .bf16) : FVec F S38912x4096 .f32 :=
  masked (activeOf act) (mulf (broadcastInDim S38912x4096 ![0, 1] bcast_S38912x1_S38912x4096_0_1 g)
    (projectBack (mulf (silu (project (rowsOf h tok) (upOf wg te))) (project (rowsOf h tok) (upOf wu te))) (downOf wd te)))

/-- The reference's operations, in order. -/
abbrev ops : List (HloOp τ sig (Elt F)) :=
  [ unary main_arg1 main_v0 (broadcastInDim S152x256 ![0] bcast_S152_S152x256_0 : (⟨S152, .i32⟩ : BufTy).Contents (Elt F) → (⟨S152x256, .i32⟩ : BufTy).Contents (Elt F)),
    reshape main_v0 main_v1 (rfl : (.i32 : EltTy) = .i32) shapeCasts_S152x256_S38912,
    unary main_arg2 main_v2 (broadcastInDim S152x256 ![0] bcast_S152_S152x256_0 : (⟨S152, .i32⟩ : BufTy).Contents (Elt F) → (⟨S152x256, .i32⟩ : BufTy).Contents (Elt F)),
    reshape main_v2 main_v3 (rfl : (.i32 : EltTy) = .i32) shapeCasts_S152x256_S38912,
    TRef.unary (TRef.of (T := ⟨S38912, .i32⟩) main_arg3) main_call0.v0 (broadcastInDim S38912x1 ![0] bcast_S38912_S38912x1_0),
    TRef.binary (TRef.of (T := ⟨S17408x4096, .f32⟩) main_arg0) main_call0.v0 main_call0.v1 (fun x i => Host.gather gather_S17408x4096_S38912x1_S38912x4096_1_0_n_n_0_1_14096 x i),
    TRef.unary (TRef.of (T := ⟨S38912, .i32⟩) main_v1) main_call1.v0 (broadcastInDim S38912x1 ![0] bcast_S38912_S38912x1_0),
    TRef.binary (TRef.of (T := ⟨S16x4096x768, .bf16⟩) main_arg5) main_call1.v0 main_call1.v1 (fun x i => Host.gather gather_S16x4096x768_S38912x1_S38912x4096x768_12_0_n_n_0_1_14096768 x i),
    unary main_v5 main_v6 ((extf .f32 · bitsLt_bf16_f32) : (⟨S38912x4096x768, .bf16⟩ : BufTy).Contents (Elt F) → (⟨S38912x4096x768, .f32⟩ : BufTy).Contents (Elt F)),
    TRef.unary (TRef.of (T := ⟨S38912, .i32⟩) main_v1) main_call2.v0 (broadcastInDim S38912x1 ![0] bcast_S38912_S38912x1_0),
    TRef.binary (TRef.of (T := ⟨S16x4096x768, .bf16⟩) main_arg6) main_call2.v0 main_call2.v1 (fun x i => Host.gather gather_S16x4096x768_S38912x1_S38912x4096x768_12_0_n_n_0_1_14096768 x i),
    unary main_v7 main_v8 ((extf .f32 · bitsLt_bf16_f32) : (⟨S38912x4096x768, .bf16⟩ : BufTy).Contents (Elt F) → (⟨S38912x4096x768, .f32⟩ : BufTy).Contents (Elt F)),
    TRef.unary (TRef.of (T := ⟨S38912, .i32⟩) main_v1) main_call3.v0 (broadcastInDim S38912x1 ![0] bcast_S38912_S38912x1_0),
    TRef.binary (TRef.of (T := ⟨S16x768x4096, .bf16⟩) main_arg7) main_call3.v0 main_call3.v1 (fun x i => Host.gather gather_S16x768x4096_S38912x1_S38912x768x4096_12_0_n_n_0_1_17684096 x i),
    unary main_v9 main_v10 ((extf .f32 · bitsLt_bf16_f32) : (⟨S38912x768x4096, .bf16⟩ : BufTy).Contents (Elt F) → (⟨S38912x768x4096, .f32⟩ : BufTy).Contents (Elt F)),
    binary main_v4 main_v6 main_v11 (project : (⟨S38912x4096, .f32⟩ : BufTy).Contents (Elt F) → (⟨S38912x4096x768, .f32⟩ : BufTy).Contents (Elt F) → (⟨S38912x768, .f32⟩ : BufTy).Contents (Elt F)),
    TRef.unary (TRef.of (T := ⟨S38912x768, .f32⟩) main_v11) main_call4.v0 Host.negf,
    TRef.unary main_call4.v0 main_call4.v1 Host.exp,
    TRef.nullary main_call4.cst (constant S_ .f32 0x3F800000#32),
    TRef.unary main_call4.cst main_call4.v2 (broadcastInDim S38912x768 ![] bcast_S_S38912x768),
    TRef.binary main_call4.v2 main_call4.v1 main_call4.v3 addf,
    TRef.nullary main_call4.cst_0 (constant S_ .f32 0x3F800000#32),
    TRef.unary main_call4.cst_0 main_call4.v4 (broadcastInDim S38912x768 ![] bcast_S_S38912x768),
    TRef.binary main_call4.v4 main_call4.v3 main_call4.v5 Host.divf,
    TRef.binary (TRef.of (T := ⟨S38912x768, .f32⟩) main_v11) main_call4.v5 main_call4.v6 mulf,
    binary main_v4 main_v8 main_v13 (project : (⟨S38912x4096, .f32⟩ : BufTy).Contents (Elt F) → (⟨S38912x4096x768, .f32⟩ : BufTy).Contents (Elt F) → (⟨S38912x768, .f32⟩ : BufTy).Contents (Elt F)),
    binary main_v12 main_v13 main_v14 (mulf : (⟨S38912x768, .f32⟩ : BufTy).Contents (Elt F) → (⟨S38912x768, .f32⟩ : BufTy).Contents (Elt F) → (⟨S38912x768, .f32⟩ : BufTy).Contents (Elt F)),
    binary main_v14 main_v10 main_v15 (projectBack : (⟨S38912x768, .f32⟩ : BufTy).Contents (Elt F) → (⟨S38912x768x4096, .f32⟩ : BufTy).Contents (Elt F) → (⟨S38912x4096, .f32⟩ : BufTy).Contents (Elt F)),
    unary main_arg4 main_v16 (broadcastInDim S38912x4096 ![0, 1] bcast_S38912x1_S38912x4096_0_1 : (⟨S38912x1, .f32⟩ : BufTy).Contents (Elt F) → (⟨S38912x4096, .f32⟩ : BufTy).Contents (Elt F)),
    binary main_v16 main_v15 main_v17 (mulf : (⟨S38912x4096, .f32⟩ : BufTy).Contents (Elt F) → (⟨S38912x4096, .f32⟩ : BufTy).Contents (Elt F) → (⟨S38912x4096, .f32⟩ : BufTy).Contents (Elt F)),
    unary main_v3 main_v18 (broadcastInDim S38912x1 ![0] bcast_S38912_S38912x1_0 : (⟨S38912, .i32⟩ : BufTy).Contents (Elt F) → (⟨S38912x1, .i32⟩ : BufTy).Contents (Elt F)),
    nullary main_c (constantI S_ 32 1#32),
    unary main_c main_v19 (broadcastInDim S38912x1 ![] bcast_S_S38912x1 : (⟨S_, .i32⟩ : BufTy).Contents (Elt F) → (⟨S38912x1, .i32⟩ : BufTy).Contents (Elt F)),
    binary main_v18 main_v19 main_v20 (cmpi .eq : (⟨S38912x1, .i32⟩ : BufTy).Contents (Elt F) → (⟨S38912x1, .i32⟩ : BufTy).Contents (Elt F) → (⟨S38912x1, .i1⟩ : BufTy).Contents (Elt F)),
    nullary main_cst (constant S_ .f32 0x00000000#32),
    TRef.unary (TRef.of (T := ⟨S_, .f32⟩) main_cst) main_call5.v0 id,
    TRef.unary (TRef.of (T := ⟨S38912x1, .i1⟩) main_v20) main_call5.v1 (broadcastInDim S38912x4096 ![0, 1] bcast_S38912x1_S38912x4096_0_1),
    TRef.unary main_call5.v0 main_call5.v2 (broadcastInDim S38912x4096 ![] bcast_S_S38912x4096),
    TRef.ternary main_call5.v1 (TRef.of (T := ⟨S38912x4096, .f32⟩) main_v17) main_call5.v2 main_call5.v3 select ]

set_option maxHeartbeats 4000000 in
/-- The reference's program is those operations, one after another. -/
theorem main_is_ops (c : Dev nD) : main (F := F) c = seq ops := rfl

/-- No buffer of the reference is a call's own. -/
theorem no_scoped_refs : (Finset.univ.filter fun b : Ref sig .tc => b.isScoped) = ∅ := by decide

/-- Nor is any semaphore. -/
theorem no_scoped_sems : (Finset.univ.filter fun s : SemLoc sig => s.isScoped .tc) = ∅ := by decide

/-- Each operation's buffers are the reference's. -/
theorem ops_known : (ops (F := F)).Forall fun op => op.bufs ⊆ tcRefs τ sig :=
  ⟨unary_bufs_sub .., reshape_bufs_sub .., unary_bufs_sub .., reshape_bufs_sub .., unary_bufs_sub .., binary_bufs_sub .., unary_bufs_sub ..,
    binary_bufs_sub .., unary_bufs_sub .., unary_bufs_sub .., binary_bufs_sub .., unary_bufs_sub .., unary_bufs_sub .., binary_bufs_sub ..,
    unary_bufs_sub .., binary_bufs_sub .., unary_bufs_sub .., unary_bufs_sub .., nullary_bufs_sub .., unary_bufs_sub .., binary_bufs_sub ..,
    nullary_bufs_sub .., unary_bufs_sub .., binary_bufs_sub .., binary_bufs_sub .., binary_bufs_sub .., binary_bufs_sub .., binary_bufs_sub ..,
    unary_bufs_sub .., binary_bufs_sub .., unary_bufs_sub .., nullary_bufs_sub .., unary_bufs_sub .., binary_bufs_sub .., nullary_bufs_sub ..,
    unary_bufs_sub .., unary_bufs_sub .., unary_bufs_sub .., ternary_bufs_sub ..⟩

set_option maxHeartbeats 8000000 in
/-- What the run leaves in the result, and in the arguments. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c : Thread nD τ).loc main_v21) = out (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))) :=
  (θ_run defs _ _).mono (fun _ h c =>
    ⟨(h c main_v21).trans (by
        simp only [ops, TRef.ternary, TRef.binary, TRef.unary, TRef.nullary, TRef.toBuf, TRef.ofBuf, cast_eq]
        after_results_simp <;> rfl <;> (unfold out; rfl)),
      (h c main_arg0).trans (by simp only [ops, TRef.ternary, TRef.binary, TRef.unary, TRef.nullary]; after_results_simp <;> rfl),
      (h c main_arg1).trans (by simp only [ops, TRef.ternary, TRef.binary, TRef.unary, TRef.nullary]; after_results_simp <;> rfl),
      (h c main_arg2).trans (by simp only [ops, TRef.ternary, TRef.binary, TRef.unary, TRef.nullary]; after_results_simp <;> rfl),
      (h c main_arg3).trans (by simp only [ops, TRef.ternary, TRef.binary, TRef.unary, TRef.nullary]; after_results_simp <;> rfl),
      (h c main_arg4).trans (by simp only [ops, TRef.ternary, TRef.binary, TRef.unary, TRef.nullary]; after_results_simp <;> rfl),
      (h c main_arg5).trans (by simp only [ops, TRef.ternary, TRef.binary, TRef.unary, TRef.nullary]; after_results_simp <;> rfl),
      (h c main_arg6).trans (by simp only [ops, TRef.ternary, TRef.binary, TRef.unary, TRef.nullary]; after_results_simp <;> rfl),
      (h c main_arg7).trans (by simp only [ops, TRef.ternary, TRef.binary, TRef.unary, TRef.nullary]; after_results_simp <;> rfl)⟩)
    (run_seq no_scoped_refs no_scoped_sems defs main (fun _ => ops) main_is_ops (fun _ => ops_known) m ρ)

end Cert.ExpRef

end
-- ==== Proof.ExpRefGather.lean ====
/- The reference's gathers, entry by entry. -/
module

public import proofs.«01_k».proof.Proof.ExpRef
public import proofs.«01_k».proof.Proof.ExpSpec
public import proofs.«01_k».proof.Proof.ExpWords
public import Idealize.ShloMosaic.Lib.Pipeline.Value

@[expose] public section

set_option maxRecDepth 16384

noncomputable section

namespace Cert.ExpRef

open Cert.Reference2Ideal Cert.Reference2Ideal.Gen Cert.Exp
open Idealize.ShloMosaic Idealize.ShloMosaic.ValueIdx

/-- A small word read signed, clamped among `n`, is the number it names. -/
theorem clamped {n : ℕ} (hn : 0 < n) (hs : n < 2 ^ 31) {b : BitVec 32} (h : b.toNat < n) : min b.toInt.toNat (n - 1) = (pick n hn b).val := by
  rw [StableHlo.Predicate.toInt_eq_toNat_of_lt (by omega : b.toNat < 2 ^ 31), Int.toNat_natCast]
  rfl

/-- The dimensions of gathering one row of `q` numbers for each of `n` indices. -/
abbrev rowDims (m n q : ℕ) (wf : GatherDims.WF ⟨2, ![m, q]⟩ ⟨2, ![n, 1]⟩ ⟨2, ![n, q]⟩ [1] [0] [] [0] [] 1 ![1, q]) :
    GatherDims ⟨2, ![m, q]⟩ ⟨2, ![n, 1]⟩ ⟨2, ![n, q]⟩ :=
  { offsetDims := [1], collapsedSliceDims := [0], operandBatchingDims := [], startIndicesBatchingDims := [], startIndexMap := [0],
    indexVectorDim := 1, sliceSizes := ![1, q], wf := wf }

/-- The dimensions of gathering one matrix of `p` by `q` numbers for each of `n` indices. -/
abbrev matrixDims (m n p q : ℕ) (wf : GatherDims.WF ⟨3, ![m, p, q]⟩ ⟨2, ![n, 1]⟩ ⟨3, ![n, p, q]⟩ [1, 2] [0] [] [0] [] 1 ![1, p, q]) :
    GatherDims ⟨3, ![m, p, q]⟩ ⟨2, ![n, 1]⟩ ⟨3, ![n, p, q]⟩ :=
  { offsetDims := [1, 2], collapsedSliceDims := [0], operandBatchingDims := [], startIndicesBatchingDims := [], startIndexMap := [0],
    indexVectorDim := 1, sliceSizes := ![1, p, q], wf := wf }

/-- A gathered row is the row its index names. -/
theorem row_apply {α : Type} {m n q : ℕ} (wf) (x : (⟨2, ![m, q]⟩ : Shape).Idx → α) (idx : IVec ⟨2, ![n, 1]⟩ 32) (s : Fin n) (k : Fin q)
    (e : Fin m) (he : min (idx (ix2 s 0)).toInt.toNat (m - 1) = e.val) : Host.gather (rowDims m n q wf) x idx (ix2 s k) = x (ix2 e k) := by
  refine congrArg x (funext fun a => Fin.ext ?_)
  match a with
  | ⟨0, _⟩ =>
    have hs : (rowDims m n q wf).siIdx (ix2 s k) ⟨0, Nat.one_pos⟩ = ix2 s 0 := by
      funext b
      match b with
      | ⟨0, _⟩ => rfl
      | ⟨1, _⟩ => rfl
    refine Eq.trans ?_ he
    rw [← hs]
    rfl
  | ⟨1, _⟩ => exact Nat.zero_add k.val

/-- A gathered matrix is the matrix its index names. -/
theorem matrix_apply {α : Type} {m n p q : ℕ} (wf) (x : (⟨3, ![m, p, q]⟩ : Shape).Idx → α) (idx : IVec ⟨2, ![n, 1]⟩ 32) (s : Fin n) (k : Fin p)
    (f : Fin q) (e : Fin m) (he : min (idx (ix2 s 0)).toInt.toNat (m - 1) = e.val) :
    Host.gather (matrixDims m n p q wf) x idx (ix3 s k f) = x (ix3 e k f) := by
  refine congrArg x (funext fun a => Fin.ext ?_)
  match a with
  | ⟨0, _⟩ =>
    have hs : (matrixDims m n p q wf).siIdx (ix3 s k f) ⟨0, Nat.one_pos⟩ = ix2 s 0 := by
      funext b
      match b with
      | ⟨0, _⟩ => rfl
      | ⟨1, _⟩ => rfl
    refine Eq.trans ?_ he
    rw [← hs]
    rfl
  | ⟨1, _⟩ => exact Nat.zero_add k.val
  | ⟨2, _⟩ => exact Nat.zero_add f.val

/-- Slot `s` has its tile's word. -/
theorem perSlot_apply (x : IVec S152 32) (s : Fin 38912) : perSlot x (ix1 s) = x (ix1 (tileOf s)) := by
  unfold perSlot
  rw [shapeCast_apply _ _ (ix1 s) (ix2 (tileOf s) (⟨s.val % 256, by omega⟩ : Fin 256)),
    broadcastInDim_apply ![0] bcast_S152_S152x256_0 x _ (ix1 (tileOf s)) (fun a => by match a with | ⟨0, _⟩ => rfl)]
  rw [Shape.rowMajor_val_two, Shape.rowMajor_val_one]
  show s.val / 256 * 256 + s.val % 256 = s.val
  omega

/-- The column of indices at slot `s`. -/
theorem column_apply (x : IVec S38912 32) (s : Fin 38912) (z : Fin 1) : column x (ix2 s z) = x (ix1 s) :=
  broadcastInDim_apply ![0] bcast_S38912_S38912x1_0 x _ (ix1 s) (fun a => by match a with | ⟨0, _⟩ => rfl)

section
variable {te act : (⟨1, ![152]⟩ : Shape).Idx → BitVec 32} {tok : (⟨1, ![38912]⟩ : Shape).Idx → BitVec 32} (hW : Words te act tok)
include hW

/-- Slot `s`'s row. -/
theorem rowsOf_apply (h : FVec Ideal S17408x4096 .f32) (s : Fin 38912) (k : Fin 4096) :
    rowsOf h tok (ix2 s k) = h (ix2 (pick 17408 (by omega) (tok (ix1 s))) k) :=
  row_apply _ h (column tok) s k _ (by rw [column_apply]; exact clamped _ (by omega) (hW.token _))

/-- Slot `s`'s expert's first (or second) matrix. -/
theorem upOf_apply (w : FVec Ideal S16x4096x768 .bf16) (s : Fin 38912) (k : Fin 4096) (f : Fin 768) :
    upOf w te (ix3 s k f) = (w (ix3 (pick 16 (by omega) (te (ix1 (tileOf s)))) k f) : EReal) :=
  matrix_apply _ w (column (perSlot te)) s k f _ (by rw [column_apply, perSlot_apply]; exact clamped _ (by omega) (hW.expert _))

/-- Slot `s`'s expert's last matrix. -/
theorem downOf_apply (w : FVec Ideal S16x768x4096 .bf16) (s : Fin 38912) (f : Fin 768) (d : Fin 4096) :
    downOf w te (ix3 s f d) = (w (ix3 (pick 16 (by omega) (te (ix1 (tileOf s)))) f d) : EReal) :=
  matrix_apply _ w (column (perSlot te)) s f d _ (by rw [column_apply, perSlot_apply]; exact clamped _ (by omega) (hW.expert _))

end

end Cert.ExpRef

end
-- ==== Proof.ExpRefValue.lean ====
/- What the reference returns, entry by entry. -/
module

public import proofs.«01_k».proof.Proof.ExpRefGather

@[expose] public section

set_option maxRecDepth 16384

noncomputable section

namespace Cert.ExpRef

open Cert.Reference2Ideal Cert.Reference2Ideal.Gen Cert.Exp
open Idealize.ShloMosaic Idealize.ShloMosaic.ValueIdx

/-- A slot's row against a matrix of its own. -/
theorem project_apply (x : FVec Ideal S38912x4096 .f32) (w : FVec Ideal S38912x4096x768 .f32) (s : Fin 38912) (f : Fin 768) :
    project x w (ix2 s f) = ∑ k : Fin 4096, (x (ix2 s k) : EReal) * w (ix3 s k f) := by
  unfold project
  simp only [Host.dotGeneral]
  rw [Ideal.dotGeneral_apply, ← Equiv.sum_comp (contrEquiv1 dot_S38912x4096_S38912x4096x768_S38912x768_1_1_n_2_0_0 4096 rfl rfl).symm]
  refine Finset.sum_congr rfl fun j _ => ?_
  have hk := contrEquiv1_symm_val dot_S38912x4096_S38912x4096x768_S38912x768_1_1_n_2_0_0 4096 rfl rfl j
  generalize (contrEquiv1 dot_S38912x4096_S38912x4096x768_S38912x768_1_1_n_2_0_0 4096 rfl rfl).symm j = J at hk
  have e1 : dot_S38912x4096_S38912x4096x768_S38912x768_1_1_n_2_0_0.lhsIdx (ix2 s f) J = ix2 s j := by
    funext a; apply Fin.ext
    match a with
    | ⟨0, _⟩ => rfl
    | ⟨1, _⟩ => exact hk
  have e2 : dot_S38912x4096_S38912x4096x768_S38912x768_1_1_n_2_0_0.rhsIdx (ix2 s f) J = ix3 s j f := by
    funext a; apply Fin.ext
    match a with
    | ⟨0, _⟩ => rfl
    | ⟨1, _⟩ => exact hk
    | ⟨2, _⟩ => rfl
  rw [e1, e2]

/-- A hidden row against a matrix of its own. -/
theorem projectBack_apply (x : FVec Ideal S38912x768 .f32) (w : FVec Ideal S38912x768x4096 .f32) (s : Fin 38912) (d : Fin 4096) :
    projectBack x w (ix2 s d) = ∑ f : Fin 768, (x (ix2 s f) : EReal) * w (ix3 s f d) := by
  unfold projectBack
  simp only [Host.dotGeneral]
  rw [Ideal.dotGeneral_apply, ← Equiv.sum_comp (contrEquiv1 dot_S38912x768_S38912x768x4096_S38912x4096_1_1_n_2_0_0 768 rfl rfl).symm]
  refine Finset.sum_congr rfl fun j _ => ?_
  have hk := contrEquiv1_symm_val dot_S38912x768_S38912x768x4096_S38912x4096_1_1_n_2_0_0 768 rfl rfl j
  generalize (contrEquiv1 dot_S38912x768_S38912x768x4096_S38912x4096_1_1_n_2_0_0 768 rfl rfl).symm j = J at hk
  have e1 : dot_S38912x768_S38912x768x4096_S38912x4096_1_1_n_2_0_0.lhsIdx (ix2 s d) J = ix2 s j := by
    funext a; apply Fin.ext
    match a with
    | ⟨0, _⟩ => rfl
    | ⟨1, _⟩ => exact hk
  have e2 : dot_S38912x768_S38912x768x4096_S38912x4096_1_1_n_2_0_0.rhsIdx (ix2 s d) J = ix3 s j d := by
    funext a; apply Fin.ext
    match a with
    | ⟨0, _⟩ => rfl
    | ⟨1, _⟩ => exact hk
    | ⟨2, _⟩ => rfl
  rw [e1, e2]

/-- The reference's activation, entry by entry. -/
theorem silu_apply (x : FVec Ideal S38912x768 .f32) (y : S38912x768.Idx) : silu x y = swish (x y) := by
  show (x y : EReal) * Ideal.div (Ideal.ofBits .f32 0x3F800000#32) (Ideal.ofBits .f32 0x3F800000#32 + Ideal.exp (-(x y))) = _
  rw [word_one]
  rfl

/-- A slot is active when its tile's word is one. -/
theorem activeOf_apply (act : IVec S152 32) (s : Fin 38912) (z : Fin 1) :
    activeOf act (ix2 s z) = 1#1 ↔ act (ix1 (tileOf s)) = 1#32 := by
  show IntOp.cmpi .eq (column (perSlot act) (ix2 s z)) 1#32 = 1#1 ↔ _
  rw [column_apply, perSlot_apply, StableHlo.Predicate.cmpi_eq_iff]

/-- The mask keeps an active slot's values and zeroes the others'. -/
theorem masked_apply (k : IVec S38912x1 1) (x : FVec Ideal S38912x4096 .f32) (s : Fin 38912) (d : Fin 4096) :
    masked k x (ix2 s d) = if k (ix2 s 0) = 1#1 then (x (ix2 s d) : EReal) else 0 := by
  unfold masked
  rw [select_apply, broadcastInDim_apply ![0, 1] bcast_S38912x1_S38912x4096_0_1 k _ (ix2 s 0)
    (fun a => by match a with | ⟨0, _⟩ => rfl | ⟨1, _⟩ => rfl)]
  show (if _ then _ else Ideal.ofBits .f32 0x00000000#32) = _
  rw [Ideal.ofBits_zero_f32]
  rfl

/-- The reference's result, entry by entry, when the tables' words are in range. -/
theorem out_apply {te act : (⟨1, ![152]⟩ : Shape).Idx → BitVec 32} {tok : (⟨1, ![38912]⟩ : Shape).Idx → BitVec 32} (hW : Words te act tok)
    (h : FVec Ideal S17408x4096 .f32) (g : FVec Ideal S38912x1 .f32) (wg wu : FVec Ideal S16x4096x768 .bf16) (wd : FVec Ideal S16x768x4096 .bf16)
    (s : Fin 38912) (d : Fin 4096) : out h te act tok g wg wu wd (ix2 s d) = expertRows h te act tok g wg wu wd s d := by
  unfold out expertRows
  rw [masked_apply]
  refine if_congr (activeOf_apply act s 0) ?_ rfl
  rw [mulf_apply, projectBack_apply, broadcastInDim_apply ![0, 1] bcast_S38912x1_S38912x4096_0_1 g _ (ix2 s 0)
    (fun a => by match a with | ⟨0, _⟩ => rfl | ⟨1, _⟩ => rfl)]
  show (_ : EReal) * _ = _
  congr 1
  refine Finset.sum_congr rfl fun f _ => ?_
  rw [mulf_apply, silu_apply, project_apply, project_apply, downOf_apply hW]
  simp only [rowsOf_apply hW, upOf_apply hW]
  rfl

end Cert.ExpRef

end
-- ==== Proof.ExpClaims.lean ====
/- The claims about the experts' call: its frame, its reference's frame, and that the two compute the same array. -/
module

public import proofs.«01_k».proof.Defs
public import proofs.«01_k».proof.Proof.ExpArray
public import proofs.«01_k».proof.Proof.ExpPrinted
public import proofs.«01_k».proof.Proof.ExpRefValue
public import Idealize.ShloMosaic.Adequacy

@[expose] public section

noncomputable section

namespace Cert.Exp

open Idealize.ShloMosaic hiding ix1 ix2 ix3 eq_ix2
open Idealize.ShloMosaic.TcCoe Idealize.SL Idealize.SL.Sem Idealize.ShloMosaic.ValueIdx

/-- The precondition gives every device's words their ranges. -/
theorem words_in_range (m : (ℓ : Loc Kernel2Ideal.nD Kernel2Ideal.τ Kernel2Ideal.sig) → Buf (Elt Ideal) ℓ)
    (h : Cert.Pre_Kernel2Ideal (hPre_in_range := in_range_facts) m) (c : Dev Kernel2Ideal.nD) : Words (teOf m c) (actOf m c) (tokOf m c) :=
  words_of _ _ _ _ _ _ _ _ (h c).1 (h c).2.1 (h c).2.2.1 (h c).2.2.2.1 (h c).2.2.2.2.1 (h c).2.2.2.2.2

/-- The kernel's frame, of words in range. -/
theorem frame_experts : Cert.quiescent_Kernel2Ideal (hKernel2Ideal := Cert.Kernel2Ideal.Gen.facts)
    (hPre_in_range := in_range_facts) := fun m ρ hpre => frame_of_holds m ρ hpre

/-- The reference's frame: no operation writes an argument, and it declares no semaphore. -/
theorem frame_experts_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.ExpRef.run m ρ)

/-- The kernel and the reference compute the same array: every slot's row through its tile's expert. -/
theorem experts_algebraic : Cert.algebraic_Kernel2Ideal_Reference2Ideal (hKernel2Ideal := Cert.Kernel2Ideal.Gen.facts)
    (hReference2Ideal := Cert.Reference2Ideal.Gen.facts) (hPre_in_range := in_range_facts) := fun m ρ m' ρ' hpre hag =>
  ⟨fun c => answer m c,
    (θ_run Cert.Kernel2Ideal.defs _ _).mono (fun _ h c => ⟨(h.1 c).1.trans (array_is m _ c (words_in_range m hpre c)), (h.1 c).2⟩)
      (run_result m ρ (good m (words_in_range m hpre))),
    (θ_run Cert.Reference2Ideal.defs _ _).mono (fun _ h c => ⟨(h c).1.trans (by
        obtain ⟨e0, e1, e2, e3, e4, e5, e6, e7⟩ := hag c
        rw [e0, e1, e2, e3, e4, e5, e6, e7]
        funext y
        rw [eq_ix2 y]
        exact Cert.ExpRef.out_apply (words_in_range m hpre c) _ _ _ _ _ _ _), (h c).2⟩)
      (Cert.ExpRef.run m' ρ')⟩

end Cert.Exp

end
-- ==== Proof.ProjSpec.lean ====
/- The gated residual: an array plus, in every row, a gate times the row's product with a matrix. -/
module

public import Idealize.ShloMosaic.Lib.ValueIdx
public import Idealize.ShloMosaic.PureOps.Ideal.Laws

@[expose] public section

noncomputable section

namespace Cert.Proj

open Idealize.ShloMosaic Idealize.ShloMosaic.ValueIdx

/-- The row of the table of gates that belongs to a row of tokens: row 0 to the 1024 context rows, and one row to
    each of the four latent sequences of 4096 rows. -/
def gateRow (R : Fin 17408) : Fin 8 := ⟨if R.val < 1024 then 0 else 1 + (R.val - 1024) / 4096, by split_ifs <;> omega⟩

/-- Layer 1's third gate times the rows' products with the matrix, added to the residual. -/
def gated (a : (⟨2, ![17408, 4096]⟩ : Shape).Idx → EReal) (w : (⟨2, ![4096, 4096]⟩ : Shape).Idx → EReal)
    (x : (⟨2, ![17408, 4096]⟩ : Shape).Idx → EReal) (g : (⟨4, ![4, 6, 8, 4096]⟩ : Shape).Idx → EReal) :
    (⟨2, ![17408, 4096]⟩ : Shape).Idx → EReal := fun y =>
  x y + g (ix4 (1 : Fin 4) (2 : Fin 6) (gateRow (y 0)) (y 1)) * ∑ k : Fin 4096, a (ix2 (y 0) k) * w (ix2 k (y 1))

/-- An entry of the gated residual from its row and column, and the entries it is made of. -/
theorem gated_eq {a : (⟨2, ![17408, 4096]⟩ : Shape).Idx → EReal} {w : (⟨2, ![4096, 4096]⟩ : Shape).Idx → EReal}
    {x : (⟨2, ![17408, 4096]⟩ : Shape).Idx → EReal} {g : (⟨4, ![4, 6, 8, 4096]⟩ : Shape).Idx → EReal}
    (y : (⟨2, ![17408, 4096]⟩ : Shape).Idx) {x' g' : EReal} {a' w' : Fin 4096 → EReal} (hx : x' = x y)
    (hg : g' = g (ix4 (1 : Fin 4) (2 : Fin 6) (gateRow (y 0)) (y 1))) (ha : ∀ k, a' k = a (ix2 (y 0) k))
    (hw : ∀ k, w' k = w (ix2 k (y 1))) : x' + g' * ∑ k : Fin 4096, a' k * w' k = gated a w x g y := by
  rw [hx, hg, Finset.sum_congr rfl fun k _ => by rw [ha k, hw k]]
  rfl

end Cert.Proj

end
-- ==== Proof.ProjPoint.lean ====
/- What one point of the projection's grid leaves in its block, entry by entry. -/
module

public import proofs.«01_k».proof.Proof.Gen.Kernel3Ideal.Frame
public import proofs.«01_k».proof.Proof.Gen.Kernel3Ideal.Value
public import proofs.«01_k».proof.Proof.ProjSpec
public import Idealize.ShloMosaic.Lib.Pipeline.Value
public import Idealize.ShloMosaic.Lib.VecWindow

@[expose] public section

set_option maxRecDepth 16384

noncomputable section

namespace Cert.Proj

open Cert.Kernel3Ideal Cert.Kernel3Ideal.Gen
open Idealize.ShloMosaic Idealize.ShloMosaic.TcCoe Idealize.SL Idealize.SL.Sem Idealize.ShloMosaic.ValueIdx

/-- A block of rows against a block of the matrix's columns. -/
theorem rows_apply (x : FVec Ideal S512x4096 .bf16) (w : FVec Ideal S4096x512 .bf16) (r : Fin 512) (d : Fin 512) :
    matmul dot_S512x4096_S4096x512_S512x512_1_0_0_1_n_n none x w (constant S512x512 .f32 0x00000000#32) (ix2 r d)
      = ∑ k : Fin 4096, (x (ix2 r k) : EReal) * w (ix2 k d) := by
  show FloatOps.matmul _ _ _ _ _ _ = _
  rw [Ideal.matmul_constant_zero_apply,
    ← Equiv.sum_comp (contrEquiv1 dot_S512x4096_S4096x512_S512x512_1_0_0_1_n_n 4096 rfl rfl).symm]
  refine Finset.sum_congr rfl fun j _ => ?_
  have hk := contrEquiv1_symm_val dot_S512x4096_S4096x512_S512x512_1_0_0_1_n_n 4096 rfl rfl j
  generalize (contrEquiv1 dot_S512x4096_S4096x512_S512x512_1_0_0_1_n_n 4096 rfl rfl).symm j = J at hk
  congr 2 <;> (funext a; apply Fin.ext)
  · match a with
    | ⟨0, _⟩ => rfl
    | ⟨1, _⟩ => exact hk
  · match a with
    | ⟨0, _⟩ => exact hk
    | ⟨1, _⟩ => rfl

/-- The body's arithmetic at an entry: the residual plus the gate times the product. -/
theorem pay_apply (a : FVec Ideal S512x4096 .bf16) (w : FVec Ideal S4096x512 .bf16) (x : FVec Ideal S512x512 .f32)
    (g : FVec Ideal S1x1x1x512 .f32) (r : Fin 512) (d : Fin 512) :
    k0_pay1 (F := Ideal) a w x g (ix2 r d)
      = (x (ix2 r d) : EReal) + g (ix4 (0 : Fin 1) (0 : Fin 1) (0 : Fin 1) d) * ∑ k : Fin 4096, (a (ix2 r k) : EReal) * w (ix2 k d) := by
  unfold k0_pay1
  rw [addf_apply, mulf_apply, rows_apply, broadcastTo_apply _ broadcasts_S1x512_S512x512 (ix2 r d) (ix2 (0 : Fin 1) d),
    shapeCast_apply g shapeCasts_S1x1x1x512_S1x512 (ix2 (0 : Fin 1) d) (ix4 (0 : Fin 1) (0 : Fin 1) (0 : Fin 1) d)]
  · rw [Shape.rowMajor_val_two, Shape.rowMajor_val_four]
    rfl
  · intro b
    match b with
    | ⟨0, _⟩ => rfl
    | ⟨1, _⟩ => rfl

/-- A point's block from its four input blocks: the body's arithmetic, the gate's row chosen by the point. -/
def tile (i : grid0.Coords) (x0 : Vec Ideal S512x4096 .bf16) (x1 : Vec Ideal S4096x512 .bf16) (x2 : Vec Ideal S512x512 .f32)
    (x3 : Vec Ideal S1x1x8x512 .f32) : Vec Ideal S512x512 .f32 :=
  k0_pay1 x0 x1 x2 (View.ld x3 (Rect.unit (s := S1x1x8x512) (k0_off1 i) S1x1x1x512.size (k0_off1_inb i)))

set_option backward.isDefEq.respectTransparency false in
/-- What the body leaves in its output buffer is that block. -/
theorem out_eq_tile (c : Dev nD) (i : grid0.Coords) (arg2 : Memref sig .tc .vmem S512x4096 .bf16) (harg2 : arg2.IsWhole)
    (arg3 : Memref sig .tc .vmem S4096x512 .bf16) (harg3 : arg3.IsWhole) (arg4 : Memref sig .tc .vmem S512x512 .f32) (harg4 : arg4.IsWhole)
    (arg5 : Memref sig .tc .vmem S1x1x8x512 .f32) (harg5 : arg5.IsWhole) (arg6 : Memref sig .tc .vmem S512x512 .f32) (harg6 : arg6.IsWhole)
    (x0 : Vec Ideal S512x4096 .bf16) (x1 : Vec Ideal S4096x512 .bf16) (x2 : Vec Ideal S512x512 .f32) (x3 : Vec Ideal S1x1x8x512 .f32) :
    out0_A_4 c i arg2 harg2 arg3 harg3 arg4 harg4 arg5 harg5 arg6 harg6 x0 x1 x2 x3 = tile i x0 x1 x2 x3 := by
  refine Eq.trans (b := tile i (arg2.view.read (Elt Ideal) (harg2.unread x0)) (arg3.view.read (Elt Ideal) (harg3.unread x1))
    (arg4.view.read (Elt Ideal) (harg4.unread x2)) (arg5.view.read (Elt Ideal) (harg5.unread x3))) ?_
    (by simp only [harg2.read_unread, harg3.read_unread, harg4.read_unread, harg5.read_unread])
  unfold out0_A_4
  rw [View.read_writes_eq_canon _ _ _ (cover0_A_4 c i arg2 harg2 arg3 harg3 arg4 harg4 arg5 harg5 arg6 harg6 x0 x1 x2 x3)]
  unfold kernelRun0_A
  dsimp only
  sl_unfold_words
  rw [View.canon_unit_zero (by decide)]
  unfold tile
  congr 1 <;> exact View.readAt_full _ _ _

end Cert.Proj

end
-- ==== Proof.ProjArray.lean ====
/- The projection's output array: every point's block is the gated residual, and the blocks cover the array. -/
module

public import proofs.«01_k».proof.Proof.ProjPoint

@[expose] public section

set_option maxRecDepth 16384

noncomputable section

namespace Cert.Proj

open Cert.Kernel3Ideal Cert.Kernel3Ideal.Gen
open Idealize.ShloMosaic Idealize.ShloMosaic.TcCoe Idealize.SL Idealize.SL.Sem Idealize.ShloMosaic.ValueIdx

/-- The row of gates a point reads: the context's for its first two blocks of rows, and then each sequence's. -/
theorem gate_of_point : ∀ t : Fin grid0.N, k0_off1 (grid0.coords t) 0 = 0 ∧ k0_off1 (grid0.coords t) 1 = 0 ∧ k0_off1 (grid0.coords t) 3 = 0
    ∧ k0_off1 (grid0.coords t) 2 = if (grid0.coords t 0).val < 2 then 0 else 1 + ((grid0.coords t 0).val - 2) / 8 := by
  decide +kernel

/-- The blocks of a point: its block of rows, its block of columns, and layer 1's third table of gates. -/
theorem maps : ∀ t : Fin grid0.N,
    cc0_transform_0 (grid0.coords t) 0 = (grid0.coords t 0).val ∧ cc0_transform_0 (grid0.coords t) 1 = 0
    ∧ cc0_transform_1 (grid0.coords t) 0 = 0 ∧ cc0_transform_1 (grid0.coords t) 1 = (grid0.coords t 1).val
    ∧ cc0_transform_2 (grid0.coords t) 0 = (grid0.coords t 0).val ∧ cc0_transform_2 (grid0.coords t) 1 = (grid0.coords t 1).val
    ∧ cc0_transform_3 (grid0.coords t) 0 = 1 ∧ cc0_transform_3 (grid0.coords t) 1 = 2 ∧ cc0_transform_3 (grid0.coords t) 2 = 0
    ∧ cc0_transform_3 (grid0.coords t) 3 = (grid0.coords t 1).val
    ∧ cc0_transform_4 (grid0.coords t) 0 = (grid0.coords t 0).val ∧ cc0_transform_4 (grid0.coords t) 1 = (grid0.coords t 1).val := by
  decide +kernel

/-- There is a point at every pair of coordinates. -/
theorem point_at (i : Fin 34) (j : Fin 8) : ∃ t : Fin grid0.N, (grid0.coords t 0).val = i.val ∧ (grid0.coords t 1).val = j.val := by
  have key : ∀ t : Fin grid0.N, (grid0.coords t 0).val = t.val / 8 ∧ (grid0.coords t 1).val = t.val % 8 := by decide +kernel
  refine ⟨⟨8 * i.val + j.val, by show _ < grid0.N; rw [Gen.N_0]; omega⟩, ?_⟩
  obtain ⟨h0, h1⟩ := key ⟨8 * i.val + j.val, by show _ < grid0.N; rw [Gen.N_0]; omega⟩
  rw [h0, h1]
  dsimp only
  omega

variable (m : (ℓ : Loc nD τ sig) → Buf (Elt Ideal) ℓ)

/-- The gated residual of a device's four arguments. -/
def result (c : Dev nD) : S17408x4096.Idx → EReal :=
  gated (m ((c : Thread nD τ).loc main_arg0)) (m ((c : Thread nD τ).loc main_arg1)) (m ((c : Thread nD τ).loc main_arg2))
    (m ((c : Thread nD τ).loc main_arg3))

/-- What a point computes is the gated residual at the place of its block in the array. -/
theorem tile_eq (c : Dev nD) (t : Fin cfg0.N) (y : S512x512.Idx) :
    tile (grid0.coords t) (iblk m c 0 t) (iblk m c 1 t) (iblk m c 2 t) (iblk m c 3 t) y
      = result m c (((cfg0.win 4).blk t).view.emb y) := by
  obtain ⟨a0, a1, w0, w1, x0, x1, g0, g1, g2, g3, o0, o1⟩ := maps t
  obtain ⟨r0, r1, r3, r2⟩ := gate_of_point t
  have hi : (grid0.coords t 0).val < 34 := (grid0.coords t 0).isLt
  have hy0 : (y 0).val < 512 := (y 0).isLt
  have e0 : ((((cfg0.win 4).blk t).view.emb y : S17408x4096.Idx) 0).val = (grid0.coords t 0).val * 512 + (y 0).val := by
    show cc0_transform_4 (grid0.coords t) 0 * 512 + 1 * (y 0).val = _
    rw [o0, Nat.one_mul]
  have e1 : ((((cfg0.win 4).blk t).view.emb y : S17408x4096.Idx) 1).val = (grid0.coords t 1).val * 512 + (y 1).val := by
    show cc0_transform_4 (grid0.coords t) 1 * 512 + 1 * (y 1).val = _
    rw [o1, Nat.one_mul]
  generalize (((cfg0.win 4).blk t).view.emb y : S17408x4096.Idx) = Y at e0 e1
  unfold tile
  refine (congrArg _ (eq_ix2 y)).trans ((pay_apply _ _ _ _ (y 0) (y 1)).trans ?_)
  refine gated_eq Y ?_ ?_ (fun k => ?_) (fun k => ?_)
  · show (V m c (Pipeline.arrRef spec0 2) : S17408x4096.Idx → EReal) (((cfg0.win 2).blk t).view.emb (ix2 (y 0) (y 1))) = _
    rw [show V m c (Pipeline.arrRef spec0 2) = m ((c : Thread nD τ).loc main_arg2) from V_main_arg2 m c]
    congr 1
    funext a
    apply Fin.ext
    match a with
    | ⟨0, _⟩ => show cc0_transform_2 (grid0.coords t) 0 * 512 + 1 * (y 0).val = (Y 0).val; rw [x0, e0, Nat.one_mul]
    | ⟨1, _⟩ => show cc0_transform_2 (grid0.coords t) 1 * 512 + 1 * (y 1).val = (Y 1).val; rw [x1, e1, Nat.one_mul]
  · show (V m c (Pipeline.arrRef spec0 3) : S4x6x8x4096.Idx → EReal) (((cfg0.win 3).blk t).view.emb
      ((Rect.unit (s := S1x1x8x512) (k0_off1 (grid0.coords t)) S1x1x1x512.size (k0_off1_inb (grid0.coords t))).idx
        (ix4 (0 : Fin 1) (0 : Fin 1) (0 : Fin 1) (y 1)))) = _
    rw [show V m c (Pipeline.arrRef spec0 3) = m ((c : Thread nD τ).loc main_arg3) from V_main_arg3 m c]
    congr 1
    funext a
    apply Fin.ext
    match a with
    | ⟨0, _⟩ => show cc0_transform_3 (grid0.coords t) 0 * 1 + 1 * (k0_off1 (grid0.coords t) 0 + 1 * 0) = 1; rw [g0, r0]
    | ⟨1, _⟩ => show cc0_transform_3 (grid0.coords t) 1 * 1 + 1 * (k0_off1 (grid0.coords t) 1 + 1 * 0) = 2; rw [g1, r1]
    | ⟨2, _⟩ =>
      show cc0_transform_3 (grid0.coords t) 2 * 8 + 1 * (k0_off1 (grid0.coords t) 2 + 1 * 0)
        = if (Y 0).val < 1024 then 0 else 1 + ((Y 0).val - 1024) / 4096
      rw [g2, r2, e0]
      split_ifs <;> omega
    | ⟨3, _⟩ =>
      show cc0_transform_3 (grid0.coords t) 3 * 512 + 1 * (k0_off1 (grid0.coords t) 3 + 1 * (y 1).val) = (Y 1).val
      rw [g3, r3, e1]
      omega
  · show (V m c (Pipeline.arrRef spec0 0) : S17408x4096.Idx → EReal) (((cfg0.win 0).blk t).view.emb (ix2 (y 0) k)) = _
    rw [show V m c (Pipeline.arrRef spec0 0) = m ((c : Thread nD τ).loc main_arg0) from V_main_arg0 m c]
    congr 1
    funext a
    apply Fin.ext
    match a with
    | ⟨0, _⟩ => show cc0_transform_0 (grid0.coords t) 0 * 512 + 1 * (y 0).val = (Y 0).val; rw [a0, e0, Nat.one_mul]
    | ⟨1, _⟩ => show cc0_transform_0 (grid0.coords t) 1 * 4096 + 1 * k.val = k.val; rw [a1]; omega
  · show (V m c (Pipeline.arrRef spec0 1) : S4096x4096.Idx → EReal) (((cfg0.win 1).blk t).view.emb (ix2 k (y 1))) = _
    rw [show V m c (Pipeline.arrRef spec0 1) = m ((c : Thread nD τ).loc main_arg1) from V_main_arg1 m c]
    congr 1
    funext a
    apply Fin.ext
    match a with
    | ⟨0, _⟩ => show cc0_transform_1 (grid0.coords t) 0 * 4096 + 1 * k.val = k.val; rw [w0]; omega
    | ⟨1, _⟩ => show cc0_transform_1 (grid0.coords t) 1 * 512 + 1 * (y 1).val = (Y 1).val; rw [w1, e1, Nat.one_mul]

/-- A point's block of results: 512 rows and 512 columns. -/
theorem mem_blk (t : Fin cfg0.N) (y : S17408x4096.Idx) : y ∈ ((cfg0.win 4).blk t).view.set ↔
    ∀ a, cc0_transform_4 (grid0.coords t) a * S512x512.size a ≤ (y a).val
      ∧ (y a).val < cc0_transform_4 (grid0.coords t) a * S512x512.size a + S512x512.size a := by
  show y ∈ ((View.whole main_v0).slice (win0_4.rect t)).set ↔ _
  rw [View.set_slice_whole, Rect.mem_set_unit]
  rfl

/-- Every entry of the result array is in some point's block. -/
theorem covered (y : S17408x4096.Idx) : ∃ t : Fin cfg0.N, (cfg0.win 4).flush t = true ∧ y ∈ ((cfg0.win 4).blk t).view.set := by
  have h0 : (y 0).val < 17408 := (y 0).isLt
  have h1 : (y 1).val < 4096 := (y 1).isLt
  obtain ⟨t, hi, hj⟩ := point_at ⟨(y 0).val / 512, by omega⟩ ⟨(y 1).val / 512, by omega⟩
  obtain ⟨_, _, _, _, _, _, _, _, _, _, o0, o1⟩ := maps t
  refine ⟨t, flush0_4 t, (mem_blk t y).2 fun a => ?_⟩
  dsimp only at hi hj
  match a with
  | ⟨0, _⟩ =>
    show cc0_transform_4 (grid0.coords t) 0 * 512 ≤ (y 0).val ∧ (y 0).val < cc0_transform_4 (grid0.coords t) 0 * 512 + 512
    rw [o0, hi]
    omega
  | ⟨1, _⟩ =>
    show cc0_transform_4 (grid0.coords t) 1 * 512 ≤ (y 1).val ∧ (y 1).val < cc0_transform_4 (grid0.coords t) 1 * 512 + 512
    rw [o1, hj]
    omega

/-- After the run the output array is the gated residual of the arguments. -/
theorem array_is (c : Dev nD) : (dats m 0 c).arrAt 4 cfg0.N = result m c := by
  refine (dats m 0 c).arrAt_eq_of_cover 4 (result m c) ?_ covered
  intro t _
  rw [Value.flushed4_A, out_eq_tile]
  have hX := tile_eq m c t
  generalize tile (grid0.coords t) (iblk m c 0 t) (iblk m c 1 t) (iblk m c 2 t) (iblk m c 3 t) = X at hX ⊢
  funext y
  rw [View.read_apply]
  exact (hX y).trans (cast_eq _ _).symm

end Cert.Proj

end
-- ==== Proof.ProjRef.lean ====
/- The projection's reference computes the gated residual. -/
module

public import proofs.«01_k».proof.Proof.Gen.Reference3Ideal.Read
public import proofs.«01_k».proof.Proof.ProjSpec
public import Idealize.ShloMosaic.Lib.Pipeline.Value

@[expose] public section

set_option maxRecDepth 16384

noncomputable section

namespace Cert.ProjRef

open Cert.Reference3Ideal Cert.Reference3Ideal.Gen Cert.Reference3Ideal.Read Cert.Proj
open Idealize.ShloMosaic Idealize.ShloMosaic.ValueIdx

variable (a : FVec Ideal S17408x4096 .bf16) (w : FVec Ideal S4096x4096 .bf16) (x : FVec Ideal S17408x4096 .f32)
  (g : FVec Ideal S4x6x8x4096 .f32)

/-- The context rows. -/
theorem context_apply (i : S1024x4096.Idx) (y : S17408x4096.Idx) (h0 : (y 0).val = (i 0).val) (h1 : (y 1).val = (i 1).val) :
    val_main_v12 (F := Ideal) a w x g i = gated a w x g y := by
  have hi : (i 0).val < 1024 := (i 0).isLt
  have hd : (i 1).val < 4096 := (i 1).isLt
  rw [val_main_v12_apply, val_main_v11_apply, val_main_v10_apply, val_main_v9_apply, val_main_v7_apply, val_main_v6_apply,
    val_main_v4_apply, val_main_v3_apply, val_main_v5_apply, val_main_v8_apply, val_main_v2_apply]
  refine gated_eq y (congrArg x ?_) (congrArg g ?_) (fun k => congrArg a ?_) (fun k => congrArg w ?_) <;> (funext b; apply Fin.ext)
  · match b with
    | ⟨0, _⟩ => exact h0.symm
    | ⟨1, _⟩ => exact h1.symm
  · match b with
    | ⟨0, _⟩ => rfl
    | ⟨1, _⟩ => rfl
    | ⟨2, _⟩ =>
      show (0 * 4096 + (i 1).val % 4096) / 4096 % 8 = if (y 0).val < 1024 then 0 else 1 + ((y 0).val - 1024) / 4096
      rw [if_pos (by omega)]
      omega
    | ⟨3, _⟩ => show (0 * 4096 + (i 1).val % 4096) % 4096 = (y 1).val; omega
  · match b with
    | ⟨0, _⟩ => exact h0.symm
    | ⟨1, _⟩ => rfl
  · match b with
    | ⟨0, _⟩ => rfl
    | ⟨1, _⟩ => exact h1.symm

/-- The latent rows. -/
theorem latent_apply (i : S16384x4096.Idx) (y : S17408x4096.Idx) (h0 : (y 0).val = 1024 + (i 0).val) (h1 : (y 1).val = (i 1).val) :
    val_main_v22 (F := Ideal) a w x g i = gated a w x g y := by
  have hi : (i 0).val < 16384 := (i 0).isLt
  have hd : (i 1).val < 4096 := (i 1).isLt
  have e : idx_main_v22 i = ix3 (⟨(i 0).val / 4096, by omega⟩ : Fin 4) (⟨(i 0).val % 4096, by omega⟩ : Fin 4096)
      (⟨(i 1).val, hd⟩ : Fin 4096) := by
    funext b
    apply Fin.ext
    match b with
    | ⟨0, _⟩ => show ((i 0).val * 4096 + (i 1).val) / 16777216 = (i 0).val / 4096; omega
    | ⟨1, _⟩ => show ((i 0).val * 4096 + (i 1).val) / 4096 % 4096 = (i 0).val % 4096; omega
    | ⟨2, _⟩ => show ((i 0).val * 4096 + (i 1).val) % 4096 = (i 1).val; omega
  rw [val_main_v22_apply, e, val_main_v21_apply, val_main_v20_apply, val_main_v19_apply, val_main_v16_apply, val_main_v15_apply,
    val_main_v4_apply, val_main_v3_apply, val_main_v14_apply, val_main_v13_apply, val_main_v18_apply, val_main_v17_apply, val_main_v2_apply]
  have hrow : 1024 + (((i 0).val / 4096 * 4096 + (i 0).val % 4096) * 4096 + (i 1).val) / 4096 = (y 0).val := by omega
  have hcol : (((i 0).val / 4096 * 4096 + (i 0).val % 4096) * 4096 + (i 1).val) % 4096 = (y 1).val := by omega
  refine gated_eq y (congrArg x ?_) (congrArg g ?_) (fun k => congrArg a ?_) (fun k => congrArg w ?_) <;> (funext b; apply Fin.ext)
  · match b with
    | ⟨0, _⟩ => exact hrow
    | ⟨1, _⟩ => exact hcol
  · match b with
    | ⟨0, _⟩ => rfl
    | ⟨1, _⟩ => rfl
    | ⟨2, _⟩ =>
      show ((1 + (i 0).val / 4096) * 4096 + (i 1).val) / 4096 % 8 = if (y 0).val < 1024 then 0 else 1 + ((y 0).val - 1024) / 4096
      rw [if_neg (by omega)]
      omega
    | ⟨3, _⟩ => show ((1 + (i 0).val / 4096) * 4096 + (i 1).val) % 4096 = (y 1).val; omega
  · match b with
    | ⟨0, _⟩ => exact hrow
    | ⟨1, _⟩ => rfl
  · match b with
    | ⟨0, _⟩ => rfl
    | ⟨1, _⟩ => exact hcol

/-- The reference's array is the gated residual of its arguments. -/
theorem reference_eq : val_main_v23 (F := Ideal) a w x g = gated a w x g := by
  funext y
  have h0 : (y 0).val < 17408 := (y 0).isLt
  unfold val_main_v23
  by_cases h : (y 0).val < 1024
  · rw [← context_apply a w x g (ix2 ⟨(y 0).val, h⟩ (y 1)) y rfl rfl]
    generalize val_main_v12 (F := Ideal) a w x g = u
    exact concatenate_pair_apply_left (t := S17408x4096) (s₁ := S1024x4096) (s₂ := S16384x4096) 0 u _ _ y rfl
      (ix2 ⟨(y 0).val, h⟩ (y 1)) (fun b => match b with
      | ⟨0, _⟩ => rfl
      | ⟨1, _⟩ => rfl)
  · rw [← latent_apply a w x g (ix2 ⟨(y 0).val - 1024, by omega⟩ (y 1)) y (by show (y 0).val = 1024 + ((y 0).val - 1024); omega) rfl]
    generalize val_main_v22 (F := Ideal) a w x g = u
    exact concatenate_pair_apply_right (t := S17408x4096) (s₁ := S1024x4096) (s₂ := S16384x4096) 0 _ u _ y rfl rfl
      (ix2 ⟨(y 0).val - 1024, by omega⟩ (y 1)) (fun b => match b with
      | ⟨0, _⟩ => fun hb => absurd rfl hb
      | ⟨1, _⟩ => fun _ => rfl) (by show (y 0).val - 1024 + 1024 = (y 0).val; omega)

end Cert.ProjRef

end
-- ==== Proof.ProjClaims.lean ====
/- The claims about the projection: its frames, and that the kernel and the reference compute the same array. -/
module

public import proofs.«01_k».proof.Defs
public import proofs.«01_k».proof.Proof.Gen.Kernel3.Frame
public import proofs.«01_k».proof.Proof.Gen.Reference3Ideal.Run
public import proofs.«01_k».proof.Proof.Gen.Reference3Ideal
public import proofs.«01_k».proof.Proof.ProjArray
public import proofs.«01_k».proof.Proof.ProjRef
public import Idealize.ShloMosaic.Adequacy
public import Idealize.ShloMosaic.Init

@[expose] public section

noncomputable section

namespace Cert.Proj

open Idealize.ShloMosaic Idealize.SL.Sem

/-- The reference's frame: no operation writes an argument, and it declares no semaphore. -/
theorem frame_projection_reference : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference compute the same array, the gated residual, whatever the arguments. -/
theorem projection_algebraic : Cert.algebraic_Kernel3Ideal_Reference3Ideal (hKernel3Ideal := Cert.Kernel3Ideal.Gen.facts)
    (hReference3Ideal := Cert.Reference3Ideal.Gen.facts) := fun m ρ m' ρ' _ hag =>
  ⟨fun c => result m c,
    (θ_run Cert.Kernel3Ideal.defs _ _).mono (fun _ h c => ⟨(h c).1.trans (array_is m c), (h c).2⟩)
      (Cert.Kernel3Ideal.Value.run_blocks (F := Ideal) m ρ),
    (θ_run Cert.Reference3Ideal.defs _ _).mono (fun _ h c => ⟨(h c).1.trans (by
        obtain ⟨e0, e1, e2, e3⟩ := hag c
        rw [Cert.Reference3Ideal.Read.val_main_v23_eq, e0, e1, e2, e3]
        exact Cert.ProjRef.reference_eq _ _ _ _), (h c).2⟩)
      (Cert.Reference3Ideal.Value.run (F := Ideal) m' ρ')⟩

end Cert.Proj

end
-- ==== Proof.NormSpec.lean ====
/- The normed projection: every row normed by its root mean square, scaled, modulated, and multiplied with a matrix. -/
module

public import proofs.«01_k».proof.Proof.ProjSpec

@[expose] public section

noncomputable section

namespace Cert.Norm

open Idealize.ShloMosaic Idealize.ShloMosaic.ValueIdx

/-- The reciprocal of a row's root mean square: of the mean of the squares of its 4096 entries plus a millionth, each constant
    as the program's single-precision word gives it. -/
def scale (x : Fin 4096 → EReal) : EReal :=
  Ideal.rsqrt (Ideal.div (∑ k : Fin 4096, x k * x k) (Ideal.ofBits .f32 0x45800000#32) + Ideal.ofBits .f32 0x358637BD#32)

/-- An entry of a row normed, scaled by `g`, stretched by one plus `sc` and shifted by `sh`. -/
def modulated (x g sh sc : Fin 4096 → EReal) (d : Fin 4096) : EReal :=
  x d * scale x * g d * (Ideal.ofBits .f32 0x3F800000#32 + sc d) + sh d

/-- An entry of the normed and modulated array: layer 0's first two tables, each at the row that belongs to the row of tokens. -/
def normed (x : (⟨2, ![17408, 4096]⟩ : Shape).Idx → EReal) (g : (⟨1, ![4096]⟩ : Shape).Idx → EReal)
    (t : (⟨4, ![4, 6, 8, 4096]⟩ : Shape).Idx → EReal) (R : Fin 17408) (d : Fin 4096) : EReal :=
  modulated (fun k => x (ix2 R k)) (fun k => g (ix1 k)) (fun k => t (ix4 (0 : Fin 4) (0 : Fin 6) (Cert.Proj.gateRow R) k))
    (fun k => t (ix4 (0 : Fin 4) (1 : Fin 6) (Cert.Proj.gateRow R) k)) d

/-- The normed rows' products with the matrix. -/
def projected (x : (⟨2, ![17408, 4096]⟩ : Shape).Idx → EReal) (g : (⟨1, ![4096]⟩ : Shape).Idx → EReal)
    (t : (⟨4, ![4, 6, 8, 4096]⟩ : Shape).Idx → EReal) (w : (⟨2, ![4096, 6144]⟩ : Shape).Idx → EReal) :
    (⟨2, ![17408, 6144]⟩ : Shape).Idx → EReal := fun y => ∑ k : Fin 4096, normed x g t (y 0) k * w (ix2 k (y 1))

/-- An entry of the normed array from the entries it is made of. -/
theorem normed_eq {x : (⟨2, ![17408, 4096]⟩ : Shape).Idx → EReal} {g : (⟨1, ![4096]⟩ : Shape).Idx → EReal}
    {t : (⟨4, ![4, 6, 8, 4096]⟩ : Shape).Idx → EReal} {R : Fin 17408} {x' g' sh sc : Fin 4096 → EReal} (d : Fin 4096)
    (hx : ∀ k, x' k = x (ix2 R k)) (hg : ∀ k, g' k = g (ix1 k))
    (hsh : ∀ k, sh k = t (ix4 (0 : Fin 4) (0 : Fin 6) (Cert.Proj.gateRow R) k))
    (hsc : ∀ k, sc k = t (ix4 (0 : Fin 4) (1 : Fin 6) (Cert.Proj.gateRow R) k)) :
    modulated x' g' sh sc d = normed x g t R d := by
  rw [funext hx, funext hg, funext hsh, funext hsc]
  rfl

end Cert.Norm

end
-- ==== Proof.NormPoint.lean ====
/- What one point of the normed projection's grid leaves in its scratch and its block, entry by entry. -/
module

public import proofs.«01_k».proof.Proof.Gen.Kernel4Ideal.Frame
public import proofs.«01_k».proof.Proof.Gen.Kernel4Ideal.Value
public import proofs.«01_k».proof.Proof.NormSpec
public import proofs.«01_k».proof.Proof.ProjPoint
public import Idealize.ShloMosaic.Lib.Pipeline.Value
public import Idealize.ShloMosaic.Lib.VecWindow

@[expose] public section

set_option maxRecDepth 16384

noncomputable section

namespace Cert.Norm

open Cert.Kernel4Ideal Cert.Kernel4Ideal.Gen
open Idealize.ShloMosaic Idealize.ShloMosaic.TcCoe Idealize.SL Idealize.SL.Sem Idealize.ShloMosaic.ValueIdx

/-- The product a point stores, at an entry. -/
theorem product_apply (h : FVec Ideal S512x4096 .bf16) (w : FVec Ideal S4096x512 .bf16) (r : Fin 512) (d : Fin 512) :
    k0_pay2 (F := Ideal) h w (ix2 r d) = ∑ k : Fin 4096, (h (ix2 r k) : EReal) * w (ix2 k d) :=
  Cert.Proj.rows_apply h w r d

/-- A single row spread over the block's 512 rows. -/
theorem across_apply (x : FVec Ideal S1x4096 .f32) (r : Fin 512) (d : Fin 4096) :
    broadcastTo S512x4096 x broadcasts_S1x4096_S512x4096 (ix2 r d) = x (ix2 (0 : Fin 1) d) :=
  broadcastTo_apply x _ _ _ (fun a => match a with | ⟨0, _⟩ => rfl | ⟨1, _⟩ => rfl)

/-- A sum along a row of 4096. -/
theorem sum_apply (s : FVec Ideal S512x4096 .f32) (h) (h1) (h2) (r : Fin 512) :
    multiReduction .add [1] S512 s 0x00000000#32 h h1 h2 (ix1 r) = ∑ k : Fin 4096, (s (ix2 r k) : EReal) := by
  rw [Ideal.multiReduction_add_single]
  refine Finset.sum_congr rfl fun k _ => ?_
  congr 1
  funext a; apply Fin.ext
  match a with
  | ⟨0, _⟩ => rfl
  | ⟨1, _⟩ => rfl

/-- The mean of the squares of a row of the block. -/
theorem mean_apply (x : FVec Ideal S512x4096 .f32) (r : Fin 512) :
    k0_pay6 (F := Ideal) x (ix2 r (0 : Fin 1))
      = Ideal.div (∑ k : Fin 4096, (x (ix2 r k) : EReal) * x (ix2 r k)) (Ideal.ofBits .f32 0x45800000#32) := by
  unfold k0_pay6
  rw [divf_apply, shapeCast_apply _ shapeCasts_S512_S512x1 (ix2 r (0 : Fin 1)) (ix1 r) (by
    rw [Shape.rowMajor_val_one, Shape.rowMajor_val_two]; show r.val = r.val * 1 + 0; omega)]
  exact congrArg₂ Ideal.div (sum_apply (mulf x x) _ _ _ r) rfl

/-- The body's norming and modulation at an entry. -/
theorem pay_apply (x : FVec Ideal S512x4096 .f32) (g : FVec Ideal S1x4096 .f32) (sh sc : FVec Ideal S1x1x1x4096 .f32)
    (r : Fin 512) (d : Fin 4096) :
    k0_pay1 (F := Ideal) x (k0_pay3 g) (k0_pay4 sh) (k0_pay5 sc) (k0_pay6 x) k0_pay7 (ix2 r d)
      = modulated (fun k => x (ix2 r k)) (fun k => g (ix2 (0 : Fin 1) k)) (fun k => sh (ix4 (0 : Fin 1) (0 : Fin 1) (0 : Fin 1) k))
          (fun k => sc (ix4 (0 : Fin 1) (0 : Fin 1) (0 : Fin 1) k)) d := by
  have row : ∀ u : FVec Ideal S1x1x1x4096 .f32,
      shapeCast S1x4096 u shapeCasts_S1x1x1x4096_S1x4096 (ix2 (0 : Fin 1) d) = u (ix4 (0 : Fin 1) (0 : Fin 1) (0 : Fin 1) d) := fun u =>
    shapeCast_apply u _ _ _ (by rw [Shape.rowMajor_val_two, Shape.rowMajor_val_four]; rfl)
  unfold k0_pay1 k0_pay3 k0_pay4 k0_pay5
  rw [shapeCast_self, shapeCast_self, truncf_apply, addf_apply, mulf_apply, mulf_apply, mulf_apply, across_apply, across_apply, across_apply,
    addf_apply, row, row, broadcastTo_apply _ broadcasts_S512x1_S512x4096 (ix2 r d) (ix2 r (0 : Fin 1))
      (fun a => match a with | ⟨0, _⟩ => rfl | ⟨1, _⟩ => rfl)]
  unfold modulated scale
  rw [← mean_apply x r]
  rfl

/-- The rows a point norms, from its blocks: the tables' row chosen by the point. -/
def rows (i : grid0.Coords) (h : cond0_0 i) (x0 : Vec Ideal S512x4096 .f32) (x1 : Vec Ideal S1x4096 .f32)
    (x2 x3 : Vec Ideal S1x1x8x4096 .f32) : Vec Ideal S512x4096 .bf16 :=
  k0_pay1 x0 (k0_pay3 x1) (k0_pay4 (View.ld x2 (Rect.unit (s := S1x1x8x4096) (k0_off1 i) S1x1x1x4096.size (k0_off1_inb i h))))
    (k0_pay5 (View.ld x3 (Rect.unit (s := S1x1x8x4096) (k0_off1 i) S1x1x1x4096.size (k0_off1_inb i h)))) (k0_pay6 x0) k0_pay7

set_option backward.isDefEq.respectTransparency false in
/-- A point that norms leaves those rows in the scratch. -/
theorem scratch_eq_rows (c : Dev nD) (i : grid0.Coords) (arg2 : Memref sig .tc .vmem S512x4096 .f32) (harg2 : arg2.IsWhole)
    (arg3 : Memref sig .tc .vmem S1x4096 .f32) (harg3 : arg3.IsWhole) (arg4 : Memref sig .tc .vmem S1x1x8x4096 .f32) (harg4 : arg4.IsWhole)
    (arg5 : Memref sig .tc .vmem S1x1x8x4096 .f32) (harg5 : arg5.IsWhole) (arg6 : Memref sig .tc .vmem S4096x512 .bf16) (harg6 : arg6.IsWhole)
    (arg7 : Memref sig .tc .vmem S512x512 .f32) (harg7 : arg7.IsWhole) (arg8 : Memref sig .tc .vmem S512x4096 .bf16) (harg8 : arg8.IsWhole)
    (h : cond0_0 i) (x0 : Vec Ideal S512x4096 .f32) (x1 : Vec Ideal S1x4096 .f32) (x2 x3 : Vec Ideal S1x1x8x4096 .f32)
    (x4 : Vec Ideal S4096x512 .bf16) :
    sout0_A_0 c i arg2 harg2 arg3 harg3 arg4 harg4 arg5 harg5 arg6 harg6 arg7 harg7 arg8 harg8 h x0 x1 x2 x3 x4 = rows i h x0 x1 x2 x3 := by
  refine Eq.trans (b := rows i h (arg2.view.read (Elt Ideal) (harg2.unread x0)) (arg3.view.read (Elt Ideal) (harg3.unread x1))
    (arg4.view.read (Elt Ideal) (harg4.unread x2)) (arg5.view.read (Elt Ideal) (harg5.unread x3))) ?_
    (by simp only [harg2.read_unread, harg3.read_unread, harg4.read_unread, harg5.read_unread])
  unfold sout0_A_0
  rw [View.read_writes_eq_canon _ _ _ (scover0_A_0 c i arg2 harg2 arg3 harg3 arg4 harg4 arg5 harg5 arg6 harg6 arg7 harg7 arg8 harg8 h x0 x1 x2 x3 x4)]
  unfold kernelRun0_A
  dsimp only
  sl_unfold_words
  rw [View.canon_unit_zero (by decide)]
  unfold rows
  rw [View.readAt_full, View.readAt_full]
  rfl

set_option backward.isDefEq.respectTransparency false in
/-- A point that norms leaves in its output buffer the product of those rows with its columns. -/
theorem out_first (c : Dev nD) (i : grid0.Coords) (arg2 : Memref sig .tc .vmem S512x4096 .f32) (harg2 : arg2.IsWhole)
    (arg3 : Memref sig .tc .vmem S1x4096 .f32) (harg3 : arg3.IsWhole) (arg4 : Memref sig .tc .vmem S1x1x8x4096 .f32) (harg4 : arg4.IsWhole)
    (arg5 : Memref sig .tc .vmem S1x1x8x4096 .f32) (harg5 : arg5.IsWhole) (arg6 : Memref sig .tc .vmem S4096x512 .bf16) (harg6 : arg6.IsWhole)
    (arg7 : Memref sig .tc .vmem S512x512 .f32) (harg7 : arg7.IsWhole) (arg8 : Memref sig .tc .vmem S512x4096 .bf16) (harg8 : arg8.IsWhole)
    (h : cond0_0 i) (x0 : Vec Ideal S512x4096 .f32) (x1 : Vec Ideal S1x4096 .f32) (x2 x3 : Vec Ideal S1x1x8x4096 .f32)
    (x4 : Vec Ideal S4096x512 .bf16) :
    out0_A_5 c i arg2 harg2 arg3 harg3 arg4 harg4 arg5 harg5 arg6 harg6 arg7 harg7 arg8 harg8 h x0 x1 x2 x3 x4
      = k0_pay2 (F := Ideal) (rows i h x0 x1 x2 x3) x4 := by
  refine Eq.trans (b := k0_pay2 (F := Ideal) (rows i h (arg2.view.read (Elt Ideal) (harg2.unread x0)) (arg3.view.read (Elt Ideal) (harg3.unread x1))
    (arg4.view.read (Elt Ideal) (harg4.unread x2)) (arg5.view.read (Elt Ideal) (harg5.unread x3)))
    (arg6.view.read (Elt Ideal) (harg6.unread x4))) ?_
    (by simp only [harg2.read_unread, harg3.read_unread, harg4.read_unread, harg5.read_unread, harg6.read_unread])
  unfold out0_A_5
  rw [View.read_writes_eq_canon _ _ _ (cover0_A_5 c i arg2 harg2 arg3 harg3 arg4 harg4 arg5 harg5 arg6 harg6 arg7 harg7 arg8 harg8 h x0 x1 x2 x3 x4)]
  unfold kernelRun0_A
  dsimp only
  sl_unfold_words
  rw [View.canon_unit_zero (by decide)]
  unfold rows
  rw [View.readCov_full, View.readAt_full, View.readAt_full, View.readAt_full]
  rfl

set_option backward.isDefEq.respectTransparency false in
/-- Any other point leaves the product of the rows it finds in the scratch with its columns. -/
theorem out_later (c : Dev nD) (i : grid0.Coords) (arg2 : Memref sig .tc .vmem S512x4096 .f32) (harg2 : arg2.IsWhole)
    (arg3 : Memref sig .tc .vmem S1x4096 .f32) (harg3 : arg3.IsWhole) (arg4 : Memref sig .tc .vmem S1x1x8x4096 .f32) (harg4 : arg4.IsWhole)
    (arg5 : Memref sig .tc .vmem S1x1x8x4096 .f32) (harg5 : arg5.IsWhole) (arg6 : Memref sig .tc .vmem S4096x512 .bf16) (harg6 : arg6.IsWhole)
    (arg7 : Memref sig .tc .vmem S512x512 .f32) (harg7 : arg7.IsWhole) (arg8 : Memref sig .tc .vmem S512x4096 .bf16) (harg8 : arg8.IsWhole)
    (h : ¬cond0_0 i) (x0 : Vec Ideal S512x4096 .f32) (x1 : Vec Ideal S1x4096 .f32) (x2 x3 : Vec Ideal S1x1x8x4096 .f32)
    (x4 : Vec Ideal S4096x512 .bf16) (s : Vec Ideal S512x4096 .bf16) :
    out0_B_5 c i arg2 harg2 arg3 harg3 arg4 harg4 arg5 harg5 arg6 harg6 arg7 harg7 arg8 harg8 h x0 x1 x2 x3 x4 s = k0_pay2 (F := Ideal) s x4 := by
  refine Eq.trans (b := k0_pay2 (F := Ideal) (arg8.view.read (Elt Ideal) (harg8.unread s)) (arg6.view.read (Elt Ideal) (harg6.unread x4))) ?_
    (by simp only [harg6.read_unread, harg8.read_unread])
  unfold out0_B_5
  rw [View.read_writes_eq_canon _ _ _ (cover0_B_5 c i arg2 harg2 arg3 harg3 arg4 harg4 arg5 harg5 arg6 harg6 arg7 harg7 arg8 harg8 h x0 x1 x2 x3 x4 s)]
  unfold kernelRun0_B
  dsimp only
  sl_unfold_words
  rw [View.canon_unit_zero (by decide)]
  congr 1 <;> exact View.readAt_full _ _ _

end Cert.Norm

end
-- ==== Proof.NormArray.lean ====
/- The normed projection's output array: the scratch holds the normed rows of the point's block of rows, so every point's block is
   that of the products, and the blocks cover the array. -/
module

public import proofs.«01_k».proof.Proof.NormPoint

@[expose] public section

set_option maxRecDepth 16384

noncomputable section

namespace Cert.Norm

open Cert.Kernel4Ideal Cert.Kernel4Ideal.Gen
open Idealize.ShloMosaic Idealize.ShloMosaic.TcCoe Idealize.SL Idealize.SL.Sem Idealize.ShloMosaic.ValueIdx

/-- The row of the tables a point reads: the context's for its first two blocks of rows, and then each sequence's. -/
theorem table_of_point : ∀ t : Fin grid0.N, k0_off1 (grid0.coords t) 0 = 0 ∧ k0_off1 (grid0.coords t) 1 = 0 ∧ k0_off1 (grid0.coords t) 3 = 0
    ∧ k0_off1 (grid0.coords t) 2 = if t.val / 12 < 2 then 0 else 1 + (t.val / 12 - 2) / 8 := by
  decide +kernel

/-- The blocks a point reads for its rows: its block of rows, the whole scale, and layer 0's first two tables. -/
theorem row_maps : ∀ t : Fin grid0.N,
    cc0_transform_0 (grid0.coords t) 0 = t.val / 12 ∧ cc0_transform_0 (grid0.coords t) 1 = 0
    ∧ cc0_transform_1 (grid0.coords t) 0 = 0 ∧ cc0_transform_1 (grid0.coords t) 1 = 0
    ∧ cc0_transform_2 (grid0.coords t) 0 = 0 ∧ cc0_transform_2 (grid0.coords t) 1 = 0 ∧ cc0_transform_2 (grid0.coords t) 2 = 0
    ∧ cc0_transform_2 (grid0.coords t) 3 = 0
    ∧ cc0_transform_3 (grid0.coords t) 0 = 0 ∧ cc0_transform_3 (grid0.coords t) 1 = 1 ∧ cc0_transform_3 (grid0.coords t) 2 = 0
    ∧ cc0_transform_3 (grid0.coords t) 3 = 0 := by
  decide +kernel

/-- The blocks of a point's product: its columns of the matrix, and its rows and columns of the result. -/
theorem product_maps : ∀ t : Fin grid0.N,
    cc0_transform_4 (grid0.coords t) 0 = 0 ∧ cc0_transform_4 (grid0.coords t) 1 = t.val % 12
    ∧ cc0_transform_5 (grid0.coords t) 0 = t.val / 12 ∧ cc0_transform_5 (grid0.coords t) 1 = t.val % 12 := by
  decide +kernel

variable (m : (ℓ : Loc nD τ sig) → Buf (Elt Ideal) ℓ)

/-- The normed rows of a device's first three arguments. -/
def normedOf (c : Dev nD) : Fin 17408 → Fin 4096 → EReal :=
  normed (m ((c : Thread nD τ).loc main_arg0)) (m ((c : Thread nD τ).loc main_arg1)) (m ((c : Thread nD τ).loc main_arg2))

/-- The normed rows' products of a device's four arguments. -/
def result (c : Dev nD) : S17408x6144.Idx → EReal :=
  projected (m ((c : Thread nD τ).loc main_arg0)) (m ((c : Thread nD τ).loc main_arg1)) (m ((c : Thread nD τ).loc main_arg2))
    (m ((c : Thread nD τ).loc main_arg3))

/-- The region finds the scale as the argument's entries in one row. -/
theorem scale_row (c : Dev nD) :
    V m c main_v0 = shapeCast S1x4096 (m ((c : Thread nD τ).loc main_arg1)) shapeCasts_S4096_S1x4096 := by
  show StableHlo.after hostOps0 _ (Proc.devRef .tc main_v0) = _
  after_results
  rfl

/-- The rows a point norms are those of its block of rows. -/
theorem rows_eq (c : Dev nD) (t : Fin cfg0.N) (h : cond0_0 (grid0.coords t)) (r : Fin 512) (d : Fin 4096) (R : Fin 17408)
    (hR : R.val = t.val / 12 * 512 + r.val) :
    rows (grid0.coords t) h (iblk m c 0 t) (iblk m c 1 t) (iblk m c 2 t) (iblk m c 3 t) (ix2 r d) = normedOf m c R d := by
  obtain ⟨a0, a1, b0, b1, s0, s1, s2, s3, u0, u1, u2, u3⟩ := row_maps t
  obtain ⟨r0, r1, r3, r2⟩ := table_of_point t
  have hr : r.val < 512 := r.isLt
  unfold rows
  refine (pay_apply _ _ _ _ r d).trans (normed_eq d (fun k => ?_) (fun k => ?_) (fun k => ?_) (fun k => ?_))
  · show (V m c (Pipeline.arrRef spec0 0) : S17408x4096.Idx → EReal) (((cfg0.win 0).blk t).view.emb (ix2 r k)) = _
    rw [show V m c (Pipeline.arrRef spec0 0) = m ((c : Thread nD τ).loc main_arg0) from V_main_arg0 m c]
    congr 1
    funext a
    apply Fin.ext
    match a with
    | ⟨0, _⟩ => show cc0_transform_0 (grid0.coords t) 0 * 512 + 1 * r.val = R.val; rw [a0, hR, Nat.one_mul]
    | ⟨1, _⟩ => show cc0_transform_0 (grid0.coords t) 1 * 4096 + 1 * k.val = k.val; rw [a1]; omega
  · show (V m c (Pipeline.arrRef spec0 1) : S1x4096.Idx → EReal) (((cfg0.win 1).blk t).view.emb (ix2 (0 : Fin 1) k)) = _
    rw [show V m c (Pipeline.arrRef spec0 1) = shapeCast S1x4096 (m ((c : Thread nD τ).loc main_arg1)) shapeCasts_S4096_S1x4096
      from scale_row m c]
    rw [show ((cfg0.win 1).blk t).view.emb (ix2 (0 : Fin 1) k) = (ix2 (0 : Fin 1) k : S1x4096.Idx) from funext fun a => Fin.ext (by
      match a with
      | ⟨0, _⟩ => show cc0_transform_1 (grid0.coords t) 0 * 1 + 1 * 0 = 0; rw [b0]
      | ⟨1, _⟩ => show cc0_transform_1 (grid0.coords t) 1 * 4096 + 1 * k.val = k.val; rw [b1]; omega)]
    exact shapeCast_apply _ _ _ (ix1 k) (by
      rw [Shape.rowMajor_val_one, Shape.rowMajor_val_two]; show k.val = 0 * 4096 + k.val; omega)
  · show (V m c (Pipeline.arrRef spec0 2) : S4x6x8x4096.Idx → EReal) (((cfg0.win 2).blk t).view.emb
      ((Rect.unit (s := S1x1x8x4096) (k0_off1 (grid0.coords t)) S1x1x1x4096.size (k0_off1_inb (grid0.coords t) h)).idx
        (ix4 (0 : Fin 1) (0 : Fin 1) (0 : Fin 1) k))) = _
    rw [show V m c (Pipeline.arrRef spec0 2) = m ((c : Thread nD τ).loc main_arg2) from V_main_arg2 m c]
    congr 1
    funext a
    apply Fin.ext
    match a with
    | ⟨0, _⟩ => show cc0_transform_2 (grid0.coords t) 0 * 1 + 1 * (k0_off1 (grid0.coords t) 0 + 1 * 0) = 0; rw [s0, r0]
    | ⟨1, _⟩ => show cc0_transform_2 (grid0.coords t) 1 * 1 + 1 * (k0_off1 (grid0.coords t) 1 + 1 * 0) = 0; rw [s1, r1]
    | ⟨2, _⟩ =>
      show cc0_transform_2 (grid0.coords t) 2 * 8 + 1 * (k0_off1 (grid0.coords t) 2 + 1 * 0)
        = if R.val < 1024 then 0 else 1 + (R.val - 1024) / 4096
      rw [s2, r2, hR]
      split_ifs <;> omega
    | ⟨3, _⟩ =>
      show cc0_transform_2 (grid0.coords t) 3 * 4096 + 1 * (k0_off1 (grid0.coords t) 3 + 1 * k.val) = k.val
      rw [s3, r3]
      omega
  · show (V m c (Pipeline.arrRef spec0 3) : S4x6x8x4096.Idx → EReal) (((cfg0.win 3).blk t).view.emb
      ((Rect.unit (s := S1x1x8x4096) (k0_off1 (grid0.coords t)) S1x1x1x4096.size (k0_off1_inb (grid0.coords t) h)).idx
        (ix4 (0 : Fin 1) (0 : Fin 1) (0 : Fin 1) k))) = _
    rw [show V m c (Pipeline.arrRef spec0 3) = m ((c : Thread nD τ).loc main_arg2) from V_main_arg2 m c]
    congr 1
    funext a
    apply Fin.ext
    match a with
    | ⟨0, _⟩ => show cc0_transform_3 (grid0.coords t) 0 * 1 + 1 * (k0_off1 (grid0.coords t) 0 + 1 * 0) = 0; rw [u0, r0]
    | ⟨1, _⟩ => show cc0_transform_3 (grid0.coords t) 1 * 1 + 1 * (k0_off1 (grid0.coords t) 1 + 1 * 0) = 1; rw [u1, r1]
    | ⟨2, _⟩ =>
      show cc0_transform_3 (grid0.coords t) 2 * 8 + 1 * (k0_off1 (grid0.coords t) 2 + 1 * 0)
        = if R.val < 1024 then 0 else 1 + (R.val - 1024) / 4096
      rw [u2, r2, hR]
      split_ifs <;> omega
    | ⟨3, _⟩ =>
      show cc0_transform_3 (grid0.coords t) 3 * 4096 + 1 * (k0_off1 (grid0.coords t) 3 + 1 * k.val) = k.val
      rw [u3, r3]
      omega

/-- After any point the scratch holds the normed rows of the point's block of rows: the block's first point stores them, and the
    eleven after it leave them. -/
theorem scratch_is (c : Dev nD) (r : Fin 512) (d : Fin 4096) : ∀ (n : ℕ) (hn : n < cfg0.N) (R : Fin 17408),
    R.val = n / 12 * 512 + r.val → ((outsAt0 m c n hn).2 : S512x4096.Idx → EReal) (ix2 r d) = normedOf m c R d := by
  intro n
  induction n with
  | zero =>
    intro hn R hR
    have e := congrArg Prod.snd (outsAt0_A m c ⟨0, hn⟩ (Nat.zero_mod 12))
    rw [e]
    dsimp only
    rw [scratch_eq_rows]
    exact rows_eq m c ⟨0, hn⟩ _ r d R hR
  | succ n ih =>
    intro hn R hR
    by_cases h : (n + 1) % 12 = 0
    · have e := congrArg Prod.snd (outsAt0_A m c ⟨n + 1, hn⟩ h)
      rw [e]
      dsimp only
      rw [scratch_eq_rows]
      exact rows_eq m c ⟨n + 1, hn⟩ _ r d R hR
    · have e := congrArg Prod.snd (outsAt0_B m c ⟨n + 1, hn⟩ h)
      rw [e]
      exact ih _ R (by rw [hR]; omega)

/-- What a point leaves in its output buffer is the product of what it leaves in the scratch with its columns. -/
theorem block_is (c : Dev nD) (t : Fin cfg0.N) :
    (outsAt0 m c t.val t.isLt).1 = k0_pay2 (F := Ideal) (outsAt0 m c t.val t.isLt).2 (iblk m c 4 t) := by
  by_cases h : t.val % 12 = 0
  · rw [outsAt0_A m c t h]
    dsimp only
    rw [out_first, scratch_eq_rows]
  · rw [outsAt0_B m c t h]
    dsimp only
    rw [out_later]
    rfl

/-- What a point leaves in its output buffer is the result at the place of its block in the array. -/
theorem block_eq (c : Dev nD) (t : Fin cfg0.N) (y : S512x512.Idx) :
    (outsAt0 m c t.val t.isLt).1 y = result m c (((cfg0.win 5).blk t).view.emb y) := by
  obtain ⟨w0, w1, o0, o1⟩ := product_maps t
  have e0 : ((((cfg0.win 5).blk t).view.emb y : S17408x6144.Idx) 0).val = t.val / 12 * 512 + (y 0).val := by
    show cc0_transform_5 (grid0.coords t) 0 * 512 + 1 * (y 0).val = _
    rw [o0, Nat.one_mul]
  have e1 : ((((cfg0.win 5).blk t).view.emb y : S17408x6144.Idx) 1).val = t.val % 12 * 512 + (y 1).val := by
    show cc0_transform_5 (grid0.coords t) 1 * 512 + 1 * (y 1).val = _
    rw [o1, Nat.one_mul]
  generalize (((cfg0.win 5).blk t).view.emb y : S17408x6144.Idx) = Y at e0 e1
  rw [block_is]
  show _ = ∑ k : Fin 4096, normedOf m c (Y 0) k * (m ((c : Thread nD τ).loc main_arg3) : S4096x6144.Idx → EReal) (ix2 k (Y 1))
  refine (congrArg _ (eq_ix2 y)).trans ((product_apply _ _ (y 0) (y 1)).trans (Finset.sum_congr rfl fun k _ => ?_))
  refine congrArg₂ (fun u v : EReal => u * v) (scratch_is m c (y 0) k t.val t.isLt (Y 0) e0) ?_
  show (V m c (Pipeline.arrRef spec0 4) : S4096x6144.Idx → EReal) (((cfg0.win 4).blk t).view.emb (ix2 k (y 1))) = _
  rw [show V m c (Pipeline.arrRef spec0 4) = m ((c : Thread nD τ).loc main_arg3) from V_main_arg3 m c]
  congr 1
  funext a
  apply Fin.ext
  match a with
  | ⟨0, _⟩ => show cc0_transform_4 (grid0.coords t) 0 * 4096 + 1 * k.val = k.val; rw [w0]; omega
  | ⟨1, _⟩ => show cc0_transform_4 (grid0.coords t) 1 * 512 + 1 * (y 1).val = (Y 1).val; rw [w1, e1, Nat.one_mul]

/-- A point's block of results: 512 rows and 512 columns. -/
theorem mem_blk (t : Fin cfg0.N) (y : S17408x6144.Idx) : y ∈ ((cfg0.win 5).blk t).view.set ↔
    ∀ a, cc0_transform_5 (grid0.coords t) a * S512x512.size a ≤ (y a).val
      ∧ (y a).val < cc0_transform_5 (grid0.coords t) a * S512x512.size a + S512x512.size a := by
  show y ∈ ((View.whole main_v1).slice (win0_5.rect t)).set ↔ _
  rw [View.set_slice_whole, Rect.mem_set_unit]
  rfl

/-- Every entry of the result array is in some point's block. -/
theorem covered (y : S17408x6144.Idx) : ∃ t : Fin cfg0.N, (cfg0.win 5).flush t = true ∧ y ∈ ((cfg0.win 5).blk t).view.set := by
  have h0 : (y 0).val < 17408 := (y 0).isLt
  have h1 : (y 1).val < 6144 := (y 1).isLt
  have hn : 12 * ((y 0).val / 512) + (y 1).val / 512 < grid0.N := by rw [Gen.N_0]; omega
  obtain ⟨_, _, o0, o1⟩ := product_maps ⟨12 * ((y 0).val / 512) + (y 1).val / 512, hn⟩
  dsimp only at o0 o1
  refine ⟨⟨12 * ((y 0).val / 512) + (y 1).val / 512, hn⟩, flush0_5 _, (mem_blk _ y).2 fun a => ?_⟩
  match a with
  | ⟨0, _⟩ =>
    show cc0_transform_5 _ 0 * 512 ≤ (y 0).val ∧ (y 0).val < cc0_transform_5 _ 0 * 512 + 512
    rw [o0]
    omega
  | ⟨1, _⟩ =>
    show cc0_transform_5 _ 1 * 512 ≤ (y 1).val ∧ (y 1).val < cc0_transform_5 _ 1 * 512 + 512
    rw [o1]
    omega

/-- After the run the output array is the normed rows' products. -/
theorem array_is (c : Dev nD) : (dats m 0 c).arrAt 5 cfg0.N = result m c := by
  refine (dats m 0 c).arrAt_eq_of_cover 5 (result m c) ?_ covered
  intro t _
  rw [Value.flushed5]
  have hX := block_eq m c t
  generalize (outsAt0 m c t.val t.isLt).1 = X at hX ⊢
  funext y
  rw [View.read_apply]
  exact (hX y).trans (cast_eq _ _).symm

end Cert.Norm

end
-- ==== Proof.NormRef.lean ====
/- The normed projection's reference computes the normed rows' products. -/
module

public import proofs.«01_k».proof.Proof.Gen.Reference4Ideal.Read
public import proofs.«01_k».proof.Proof.NormSpec
public import Idealize.ShloMosaic.Lib.Pipeline.Value

@[expose] public section

set_option maxRecDepth 16384

noncomputable section

namespace Cert.NormRef

open Cert.Reference4Ideal Cert.Reference4Ideal.Gen Cert.Reference4Ideal.Read Cert.Norm
open Idealize.ShloMosaic Idealize.ShloMosaic.ValueIdx

variable (x : FVec Ideal S17408x4096 .f32) (g : FVec Ideal S4096 .f32) (t : FVec Ideal S4x6x8x4096 .f32) (w : FVec Ideal S4096x6144 .bf16)

/-- The first table of layer 0. -/
theorem shift_apply (i : S8x4096.Idx) : val_main_v1 (F := Ideal) t i = t (ix4 (0 : Fin 4) (0 : Fin 6) (i 0) (i 1)) := by
  have h0 : (i 0).val < 8 := (i 0).isLt
  have h1 : (i 1).val < 4096 := (i 1).isLt
  rw [val_main_v1_apply, val_main_v0_apply]
  refine congrArg t (funext fun b => Fin.ext ?_)
  match b with
  | ⟨0, _⟩ => rfl
  | ⟨1, _⟩ => rfl
  | ⟨2, _⟩ => show ((i 0).val * 4096 + (i 1).val) / 4096 % 8 = (i 0).val; omega
  | ⟨3, _⟩ => show ((i 0).val * 4096 + (i 1).val) % 4096 = (i 1).val; omega

/-- The second table of layer 0. -/
theorem scale_apply (i : S8x4096.Idx) : val_main_v3 (F := Ideal) t i = t (ix4 (0 : Fin 4) (1 : Fin 6) (i 0) (i 1)) := by
  have h0 : (i 0).val < 8 := (i 0).isLt
  have h1 : (i 1).val < 4096 := (i 1).isLt
  rw [val_main_v3_apply, val_main_v2_apply]
  refine congrArg t (funext fun b => Fin.ext ?_)
  match b with
  | ⟨0, _⟩ => rfl
  | ⟨1, _⟩ => rfl
  | ⟨2, _⟩ => show ((i 0).val * 4096 + (i 1).val) / 4096 % 8 = (i 0).val; omega
  | ⟨3, _⟩ => show ((i 0).val * 4096 + (i 1).val) % 4096 = (i 1).val; omega

/-- The context rows, normed. -/
theorem context_apply (r : Fin 1024) (d : Fin 4096) (R : Fin 17408) (hR : R.val = r.val) :
    val_main_v29 (F := Ideal) x g t (ix2 r d) = normed x g t R d := by
  have hrow : (0 : Fin 8) = Cert.Proj.gateRow R := Fin.ext (by
    show 0 = if R.val < 1024 then 0 else 1 + (R.val - 1024) / 4096
    rw [if_pos (by omega)])
  have hcol : ∀ k : Fin 4096, (⟨k.val % 4096, Nat.mod_lt _ (by decide)⟩ : Fin 4096) = k := fun k => Fin.ext (Nat.mod_eq_of_lt k.isLt)
  have hx : ∀ k : Fin 4096, val_main_v4 (F := Ideal) x (ix2 r k) = x (ix2 R k) := fun k => by
    rw [val_main_v4_apply]
    refine congrArg x (funext fun b => Fin.ext ?_)
    match b with
    | ⟨0, _⟩ => exact hR.symm
    | ⟨1, _⟩ => rfl
  rw [← normed_eq (x := x) (g := g) (t := t) d (fun k => hx k) (fun _ => rfl)
    (sh := fun k => t (ix4 (0 : Fin 4) (0 : Fin 6) (0 : Fin 8) k)) (fun k => by rw [hrow])
    (sc := fun k => t (ix4 (0 : Fin 4) (1 : Fin 6) (0 : Fin 8) k)) (fun k => by rw [hrow])]
  rw [val_main_v29_apply, val_main_v26_apply, val_main_v17_apply, val_main_v14_apply, val_main_v13_apply, val_main_v12_apply,
    val_main_v11_apply, val_main_v9_apply, val_main_v7_apply, val_main_v6_apply, val_main_v8_apply, val_main_v10_apply,
    val_main_v16_apply, val_main_v15_apply, val_main_v25_apply, val_main_v24_apply, val_main_v23_apply, val_main_v22_apply,
    val_main_v21_apply, val_main_v20_apply, scale_apply, val_main_v28_apply, val_main_v27_apply, val_main_v19_apply,
    val_main_v18_apply, shift_apply, val_main_cst_apply, val_main_cst_0_apply, val_main_cst_1_apply, val_main_cst_2_apply]
  rw [Ideal.ofBits_def, Ideal.ofBits_zero_f32, zero_add, Ideal.hostDivf_def, Ideal.hostUnary_rsqrt_def]
  unfold modulated scale
  refine congrArg₂ (fun u v : EReal => u + v) (congrArg₂ (fun u v : EReal => u * v) (congrArg₂ (fun u v : EReal => u * v)
    (congrArg₂ (fun u v : EReal => u * v) rfl (congrArg Ideal.rsqrt (congrArg₂ (fun u v : EReal => u + v)
      (congrArg₂ Ideal.div (Finset.sum_congr rfl fun k _ => ?_) rfl) rfl)))
    (congrArg g ?_)) (congrArg₂ (fun u v : EReal => u + v) rfl (congrArg t ?_))) (congrArg t ?_)
  · rw [val_main_v5_apply, show idx_main_v6 (idx_main_v7 (idx_main_v13 (ix2 r d))) k = ix2 r k from eq_ix2 _]
    rfl
  · exact eq_ix1 _
  · exact congrArg (ix4 (0 : Fin 4) (1 : Fin 6) (0 : Fin 8)) (hcol d)
  · exact congrArg (ix4 (0 : Fin 4) (0 : Fin 6) (0 : Fin 8)) (hcol d)

/-- The latent rows, normed. -/
theorem latent_apply (b : Fin 4) (r d : Fin 4096) (R : Fin 17408) (hR : R.val = 1024 + (b.val * 4096 + r.val)) :
    val_main_v54 (F := Ideal) x g t (ix3 b r d) = normed x g t R d := by
  have hrow : (⟨1 + b.val, by omega⟩ : Fin 8) = Cert.Proj.gateRow R := Fin.ext (by
    show 1 + b.val = if R.val < 1024 then 0 else 1 + (R.val - 1024) / 4096
    rw [if_neg (by omega)]
    omega)
  have hx : ∀ k : Fin 4096, val_main_v31 (F := Ideal) x (ix3 b r k) = x (ix2 R k) := fun k => by
    rw [val_main_v31_apply, val_main_v30_apply]
    refine congrArg x (funext fun a => Fin.ext ?_)
    match a with
    | ⟨0, _⟩ => show 1024 + ((b.val * 4096 + r.val) * 4096 + k.val) / 4096 = R.val; omega
    | ⟨1, _⟩ => show ((b.val * 4096 + r.val) * 4096 + k.val) % 4096 = k.val; omega
  rw [← normed_eq (x := x) (g := g) (t := t) d (fun k => hx k) (fun _ => rfl)
    (sh := fun k => t (ix4 (0 : Fin 4) (0 : Fin 6) (⟨1 + b.val, by omega⟩ : Fin 8) k)) (fun k => by rw [hrow])
    (sc := fun k => t (ix4 (0 : Fin 4) (1 : Fin 6) (⟨1 + b.val, by omega⟩ : Fin 8) k)) (fun k => by rw [hrow])]
  rw [val_main_v54_apply, val_main_v52_apply, val_main_v44_apply, val_main_v41_apply, val_main_v40_apply, val_main_v39_apply,
    val_main_v38_apply, val_main_v36_apply, val_main_v34_apply, val_main_v33_apply, val_main_v35_apply, val_main_v37_apply,
    val_main_v43_apply, val_main_v42_apply, val_main_v51_apply, val_main_v50_apply, val_main_v49_apply, val_main_v48_apply,
    val_main_v47_apply, scale_apply, val_main_v53_apply, val_main_v46_apply, val_main_v45_apply, shift_apply,
    val_main_cst_3_apply, val_main_cst_4_apply, val_main_cst_5_apply, val_main_cst_6_apply]
  rw [Ideal.ofBits_def, Ideal.ofBits_zero_f32, zero_add, Ideal.hostDivf_def, Ideal.hostUnary_rsqrt_def]
  unfold modulated scale
  refine congrArg₂ (fun u v : EReal => u + v) (congrArg₂ (fun u v : EReal => u * v) (congrArg₂ (fun u v : EReal => u * v)
    (congrArg₂ (fun u v : EReal => u * v) rfl (congrArg Ideal.rsqrt (congrArg₂ (fun u v : EReal => u + v)
      (congrArg₂ Ideal.div (Finset.sum_congr rfl fun k _ => ?_) rfl) rfl)))
    (congrArg g ?_)) rfl) rfl
  · rw [val_main_v32_apply, show idx_main_v33 (idx_main_v34 (idx_main_v40 (ix3 b r d))) k = ix3 b r k from eq_ix3 _]
    rfl
  · exact eq_ix1 _

/-- The rows the reference multiplies are the normed rows. -/
theorem rows_apply (R : Fin 17408) (d : Fin 4096) : val_main_v56 (F := Ideal) x g t (ix2 R d) = normed x g t R d := by
  unfold val_main_v56
  by_cases h : R.val < 1024
  · rw [← context_apply x g t ⟨R.val, h⟩ d R rfl]
    generalize val_main_v29 (F := Ideal) x g t = u
    exact concatenate_pair_apply_left (t := S17408x4096) (s₁ := S1024x4096) (s₂ := S16384x4096) 0 u _ _ (ix2 R d) rfl
      (ix2 ⟨R.val, h⟩ d) (fun b => match b with
      | ⟨0, _⟩ => rfl
      | ⟨1, _⟩ => rfl)
  · have e : idx_main_v55 (ix2 (⟨R.val - 1024, by omega⟩ : Fin 16384) d)
        = ix3 (⟨(R.val - 1024) / 4096, by omega⟩ : Fin 4) (⟨(R.val - 1024) % 4096, Nat.mod_lt _ (by decide)⟩ : Fin 4096) d := by
      funext b
      apply Fin.ext
      match b with
      | ⟨0, _⟩ => show ((R.val - 1024) * 4096 + d.val) / 16777216 = (R.val - 1024) / 4096; omega
      | ⟨1, _⟩ => show ((R.val - 1024) * 4096 + d.val) / 4096 % 4096 = (R.val - 1024) % 4096; omega
      | ⟨2, _⟩ => show ((R.val - 1024) * 4096 + d.val) % 4096 = d.val; omega
    rw [← latent_apply x g t ⟨(R.val - 1024) / 4096, by omega⟩ ⟨(R.val - 1024) % 4096, Nat.mod_lt _ (by decide)⟩ d R
      (by show R.val = 1024 + ((R.val - 1024) / 4096 * 4096 + (R.val - 1024) % 4096); omega), ← e, ← val_main_v55_apply]
    generalize val_main_v55 (F := Ideal) x g t = u
    exact concatenate_pair_apply_right (t := S17408x4096) (s₁ := S1024x4096) (s₂ := S16384x4096) 0 _ u _ (ix2 R d) rfl rfl
      (ix2 ⟨R.val - 1024, by omega⟩ d) (fun b => match b with
      | ⟨0, _⟩ => fun hb => absurd rfl hb
      | ⟨1, _⟩ => fun _ => rfl) (by show R.val - 1024 + 1024 = R.val; omega)

/-- The reference's array is the normed rows' products with the matrix. -/
theorem reference_eq : val_main_v58 (F := Ideal) x g t w = projected x g t w := by
  funext y
  rw [val_main_v58_apply]
  refine Finset.sum_congr rfl fun k _ => congrArg₂ (fun u v : EReal => u * v)
    ((congrArg _ (eq_ix2 (lidx_main_v58 y k))).trans (rows_apply x g t (y 0) k)) ?_
  rw [val_main_v57_apply]
  exact congrArg w (eq_ix2 _)

end Cert.NormRef

end
-- ==== Proof.NormClaims.lean ====
/- The claims about the normed projection: its frames, and that the kernel and the reference compute the same array. -/
module

public import proofs.«01_k».proof.Defs
public import proofs.«01_k».proof.Proof.Gen.Kernel4.Frame
public import proofs.«01_k».proof.Proof.Gen.Reference4Ideal.Run
public import proofs.«01_k».proof.Proof.Gen.Reference4Ideal
public import proofs.«01_k».proof.Proof.NormArray
public import proofs.«01_k».proof.Proof.NormRef
public import Idealize.ShloMosaic.Adequacy
public import Idealize.ShloMosaic.Init

@[expose] public section

noncomputable section

namespace Cert.Norm

open Idealize.ShloMosaic Idealize.SL.Sem

/-- The reference's frame: no operation writes an argument, and it declares no semaphore. -/
theorem frame_norm_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference compute the same array, the normed rows' products, whatever the arguments. -/
theorem norm_algebraic : Cert.algebraic_Kernel4Ideal_Reference4Ideal (hKernel4Ideal := Cert.Kernel4Ideal.Gen.facts)
    (hReference4Ideal := Cert.Reference4Ideal.Gen.facts) := fun m ρ m' ρ' _ hag =>
  ⟨fun c => result m c,
    (θ_run Cert.Kernel4Ideal.defs _ _).mono (fun _ h c => ⟨(h c).1.trans (array_is m c), (h c).2⟩)
      (Cert.Kernel4Ideal.Value.run_blocks (F := Ideal) m ρ),
    (θ_run Cert.Reference4Ideal.defs _ _).mono (fun _ h c => ⟨(h c).1.trans (by
        obtain ⟨e0, e1, e2, e3⟩ := hag c
        rw [Cert.Reference4Ideal.Read.val_main_v58_eq, e0, e1, e2, e3]
        exact Cert.NormRef.reference_eq _ _ _ _), (h c).2⟩)
      (Cert.Reference4Ideal.Value.run (F := Ideal) m' ρ')⟩

end Cert.Norm

end
-- ==== Proof.MixSpec.lean ====
/- The mixer's output projection: the gated residual of two branches side by side, with layer 0's gate. -/
module

public import proofs.«01_k».proof.Proof.ProjSpec

@[expose] public section

noncomputable section

namespace Cert.Mix

open Idealize.ShloMosaic Idealize.ShloMosaic.ValueIdx

/-- Two arrays of 2048 columns side by side. -/
def joined (f y : (⟨2, ![17408, 2048]⟩ : Shape).Idx → EReal) : (⟨2, ![17408, 4096]⟩ : Shape).Idx → EReal := fun i =>
  if h : (i 1).val < 2048 then f (ix2 (i 0) (⟨(i 1).val, h⟩ : Fin 2048))
  else y (ix2 (i 0) (⟨(i 1).val - 2048, by have : (i 1).val < 4096 := (i 1).isLt; omega⟩ : Fin 2048))

/-- The table of gates with layer 0's part at every layer, so that the gated residual reads layer 0's gates. -/
def layerZero (g : (⟨4, ![4, 6, 8, 4096]⟩ : Shape).Idx → EReal) : (⟨4, ![4, 6, 8, 4096]⟩ : Shape).Idx → EReal := fun i =>
  g (ix4 (0 : Fin 4) (i 1) (i 2) (i 3))

/-- Layer 0's third gate times the joined rows' products with the matrix, added to the residual. -/
def mixed (f y : (⟨2, ![17408, 2048]⟩ : Shape).Idx → EReal) (w : (⟨2, ![4096, 4096]⟩ : Shape).Idx → EReal)
    (x : (⟨2, ![17408, 4096]⟩ : Shape).Idx → EReal) (g : (⟨4, ![4, 6, 8, 4096]⟩ : Shape).Idx → EReal) :
    (⟨2, ![17408, 4096]⟩ : Shape).Idx → EReal :=
  Cert.Proj.gated (joined f y) w x (layerZero g)

/-- The first half of the joined columns. -/
theorem joined_left (f y : (⟨2, ![17408, 2048]⟩ : Shape).Idx → EReal) (R : Fin 17408) (k : Fin 2048) (K : Fin 4096) (hK : K.val = k.val) :
    joined f y (ix2 R K) = f (ix2 R k) := by
  have h : K.val < 2048 := by omega
  refine (dif_pos h).trans (congrArg (fun n => f (ix2 R n)) (Fin.ext hK))

/-- The second half of the joined columns. -/
theorem joined_right (f y : (⟨2, ![17408, 2048]⟩ : Shape).Idx → EReal) (R : Fin 17408) (k : Fin 2048) (K : Fin 4096)
    (hK : K.val = 2048 + k.val) : joined f y (ix2 R K) = y (ix2 R k) := by
  have h : ¬K.val < 2048 := by omega
  refine (dif_neg h).trans (congrArg (fun n => y (ix2 R n)) (Fin.ext ?_))
  show K.val - 2048 = k.val
  omega

/-- A sum over 4096 columns is the sum over the first half plus the sum over the second half. -/
theorem sum_halves (u : Fin 4096 → EReal) :
    ∑ k : Fin 4096, u k = ∑ k : Fin 2048, u ⟨k.val, by omega⟩ + ∑ k : Fin 2048, u ⟨2048 + k.val, by omega⟩ :=
  Fin.sum_univ_add (a := 2048) (b := 2048) u

/-- An entry of the result from its row and column, and the entries it is made of. -/
theorem mixed_eq {f y : (⟨2, ![17408, 2048]⟩ : Shape).Idx → EReal} {w : (⟨2, ![4096, 4096]⟩ : Shape).Idx → EReal}
    {x : (⟨2, ![17408, 4096]⟩ : Shape).Idx → EReal} {g : (⟨4, ![4, 6, 8, 4096]⟩ : Shape).Idx → EReal}
    (Y : (⟨2, ![17408, 4096]⟩ : Shape).Idx) {x' g' : EReal} {f' y' u v : Fin 2048 → EReal} (hx : x' = x Y)
    (hg : g' = g (ix4 (0 : Fin 4) (2 : Fin 6) (Cert.Proj.gateRow (Y 0)) (Y 1))) (hf : ∀ k, f' k = f (ix2 (Y 0) k))
    (hy : ∀ k, y' k = y (ix2 (Y 0) k)) (hu : ∀ k : Fin 2048, u k = w (ix2 (⟨k.val, by omega⟩ : Fin 4096) (Y 1)))
    (hv : ∀ k : Fin 2048, v k = w (ix2 (⟨2048 + k.val, by omega⟩ : Fin 4096) (Y 1))) :
    x' + g' * (∑ k : Fin 2048, f' k * u k + ∑ k : Fin 2048, y' k * v k) = mixed f y w x g Y := by
  show _ = x Y + layerZero g (ix4 (1 : Fin 4) (2 : Fin 6) (Cert.Proj.gateRow (Y 0)) (Y 1))
    * ∑ k : Fin 4096, joined f y (ix2 (Y 0) k) * w (ix2 k (Y 1))
  rw [hx, hg, sum_halves (fun k => joined f y (ix2 (Y 0) k) * w (ix2 k (Y 1)))]
  refine congrArg₂ (fun a b : EReal => a + b) rfl (congrArg₂ (fun a b : EReal => a * b) rfl (congrArg₂ (fun a b : EReal => a + b)
    (Finset.sum_congr rfl fun k _ => ?_) (Finset.sum_congr rfl fun k _ => ?_)))
  · rw [hf k, hu k, joined_left f y (Y 0) k _ rfl]
  · rw [hy k, hv k, joined_right f y (Y 0) k _ rfl]

end Cert.Mix

end
-- ==== Proof.MixPoint.lean ====
/- What one point of the mixer's projection leaves in its block, entry by entry. -/
module

public import proofs.«01_k».proof.Proof.Gen.Kernel5Ideal.Frame
public import proofs.«01_k».proof.Proof.Gen.Kernel5Ideal.Value
public import proofs.«01_k».proof.Proof.MixSpec
public import Idealize.ShloMosaic.Lib.Pipeline.Value
public import Idealize.ShloMosaic.Lib.VecWindow

@[expose] public section

set_option maxRecDepth 16384

noncomputable section

namespace Cert.Mix

open Cert.Kernel5Ideal Cert.Kernel5Ideal.Gen
open Idealize.ShloMosaic Idealize.ShloMosaic.TcCoe Idealize.SL Idealize.SL.Sem Idealize.ShloMosaic.ValueIdx

/-- A block of a branch's rows against a block of its half of the matrix. -/
theorem half_apply (a : FVec Ideal S512x2048 .bf16) (w : FVec Ideal S2048x512 .bf16) (r : Fin 512) (d : Fin 512) :
    matmul dot_S512x2048_S2048x512_S512x512_1_0_0_1_n_n none a w (constant S512x512 .f32 0x00000000#32) (ix2 r d)
      = ∑ k : Fin 2048, (a (ix2 r k) : EReal) * w (ix2 k d) := by
  show FloatOps.matmul _ _ _ _ _ _ = _
  rw [Ideal.matmul_constant_zero_apply,
    ← Equiv.sum_comp (contrEquiv1 dot_S512x2048_S2048x512_S512x512_1_0_0_1_n_n 2048 rfl rfl).symm]
  refine Finset.sum_congr rfl fun j _ => ?_
  have hk := contrEquiv1_symm_val dot_S512x2048_S2048x512_S512x512_1_0_0_1_n_n 2048 rfl rfl j
  generalize (contrEquiv1 dot_S512x2048_S2048x512_S512x512_1_0_0_1_n_n 2048 rfl rfl).symm j = J at hk
  congr 2 <;> (funext a; apply Fin.ext)
  · match a with
    | ⟨0, _⟩ => rfl
    | ⟨1, _⟩ => exact hk
  · match a with
    | ⟨0, _⟩ => exact hk
    | ⟨1, _⟩ => rfl

/-- The body's two products, added. -/
theorem products_apply (a b : FVec Ideal S512x2048 .bf16) (u v : FVec Ideal S2048x512 .bf16) (r : Fin 512) (d : Fin 512) :
    k0_pay2 (F := Ideal) a u b v (ix2 r d)
      = ∑ k : Fin 2048, (a (ix2 r k) : EReal) * u (ix2 k d) + ∑ k : Fin 2048, (b (ix2 r k) : EReal) * v (ix2 k d) := by
  unfold k0_pay2
  rw [shapeCast_self, shapeCast_self, addf_apply, half_apply, half_apply]

/-- The body's arithmetic at an entry: the residual plus the gate times the products. -/
theorem pay_apply (p : FVec Ideal S512x512 .f32) (x : FVec Ideal S512x512 .f32) (g : FVec Ideal S1x1x1x512 .f32) (r : Fin 512) (d : Fin 512) :
    k0_pay1 (F := Ideal) p x g (ix2 r d)
      = (x (ix2 r d) : EReal) + g (ix4 (0 : Fin 1) (0 : Fin 1) (0 : Fin 1) d) * p (ix2 r d) := by
  unfold k0_pay1
  rw [addf_apply, mulf_apply, broadcastTo_apply _ broadcasts_S1x512_S512x512 (ix2 r d) (ix2 (0 : Fin 1) d),
    shapeCast_apply g shapeCasts_S1x1x1x512_S1x512 (ix2 (0 : Fin 1) d) (ix4 (0 : Fin 1) (0 : Fin 1) (0 : Fin 1) d)]
  · rw [Shape.rowMajor_val_two, Shape.rowMajor_val_four]
    rfl
  · intro b
    match b with
    | ⟨0, _⟩ => rfl
    | ⟨1, _⟩ => rfl

/-- The whole body at an entry: the residual plus the gate times the two products' sum. -/
theorem pay_products_apply (a b : FVec Ideal S512x2048 .bf16) (u v : FVec Ideal S2048x512 .bf16) (x : FVec Ideal S512x512 .f32)
    (g : FVec Ideal S1x1x1x512 .f32) (r : Fin 512) (d : Fin 512) :
    k0_pay1 (F := Ideal) (k0_pay2 a u b v) x g (ix2 r d)
      = (x (ix2 r d) : EReal) + g (ix4 (0 : Fin 1) (0 : Fin 1) (0 : Fin 1) d)
        * (∑ k : Fin 2048, (a (ix2 r k) : EReal) * u (ix2 k d) + ∑ k : Fin 2048, (b (ix2 r k) : EReal) * v (ix2 k d)) := by
  rw [pay_apply, products_apply]

/-- A point's block from its six input blocks: the body's arithmetic, the gate's row chosen by the point. -/
def tile (i : grid0.Coords) (x0 x1 : Vec Ideal S512x2048 .bf16) (x2 x3 : Vec Ideal S2048x512 .bf16) (x4 : Vec Ideal S512x512 .f32)
    (x5 : Vec Ideal S1x1x8x512 .f32) : Vec Ideal S512x512 .f32 :=
  k0_pay1 (k0_pay2 x0 x2 x1 x3) x4 (View.ld x5 (Rect.unit (s := S1x1x8x512) (k0_off1 i) S1x1x1x512.size (k0_off1_inb i)))

set_option backward.isDefEq.respectTransparency false in
/-- What the body leaves in its output buffer is that block. -/
theorem out_eq_tile (c : Dev nD) (i : grid0.Coords) (arg2 : Memref sig .tc .vmem S512x2048 .bf16) (harg2 : arg2.IsWhole)
    (arg3 : Memref sig .tc .vmem S512x2048 .bf16) (harg3 : arg3.IsWhole) (arg4 : Memref sig .tc .vmem S2048x512 .bf16) (harg4 : arg4.IsWhole)
    (arg5 : Memref sig .tc .vmem S2048x512 .bf16) (harg5 : arg5.IsWhole) (arg6 : Memref sig .tc .vmem S512x512 .f32) (harg6 : arg6.IsWhole)
    (arg7 : Memref sig .tc .vmem S1x1x8x512 .f32) (harg7 : arg7.IsWhole) (arg8 : Memref sig .tc .vmem S512x512 .f32) (harg8 : arg8.IsWhole)
    (x0 x1 : Vec Ideal S512x2048 .bf16) (x2 x3 : Vec Ideal S2048x512 .bf16) (x4 : Vec Ideal S512x512 .f32)
    (x5 : Vec Ideal S1x1x8x512 .f32) :
    out0_A_6 c i arg2 harg2 arg3 harg3 arg4 harg4 arg5 harg5 arg6 harg6 arg7 harg7 arg8 harg8 x0 x1 x2 x3 x4 x5 = tile i x0 x1 x2 x3 x4 x5 := by
  refine Eq.trans (b := tile i (arg2.view.read (Elt Ideal) (harg2.unread x0)) (arg3.view.read (Elt Ideal) (harg3.unread x1))
    (arg4.view.read (Elt Ideal) (harg4.unread x2)) (arg5.view.read (Elt Ideal) (harg5.unread x3))
    (arg6.view.read (Elt Ideal) (harg6.unread x4)) (arg7.view.read (Elt Ideal) (harg7.unread x5))) ?_
    (by simp only [harg2.read_unread, harg3.read_unread, harg4.read_unread, harg5.read_unread, harg6.read_unread, harg7.read_unread])
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  sl_unfold_words
  rw [View.canon_unit_zero (by decide)]
  unfold tile
  rw [View.readAt_full, View.readAt_full, View.readAt_full, View.readAt_full, View.readAt_full]
  rfl

end Cert.Mix

end
-- ==== Proof.MixArray.lean ====
/- The mixer's output array: every point's block is the gated residual, and the blocks cover the array. -/
module

public import proofs.«01_k».proof.Proof.MixPoint

@[expose] public section

set_option maxRecDepth 16384

noncomputable section

namespace Cert.Mix

open Cert.Kernel5Ideal Cert.Kernel5Ideal.Gen
open Idealize.ShloMosaic Idealize.ShloMosaic.TcCoe Idealize.SL Idealize.SL.Sem Idealize.ShloMosaic.ValueIdx

/-- The row of gates a point reads: the context's for its first two blocks of rows, and then each sequence's. -/
theorem gate_of_point : ∀ t : Fin grid0.N, k0_off1 (grid0.coords t) 0 = 0 ∧ k0_off1 (grid0.coords t) 1 = 0 ∧ k0_off1 (grid0.coords t) 3 = 0
    ∧ k0_off1 (grid0.coords t) 2 = if (grid0.coords t 0).val < 2 then 0 else 1 + ((grid0.coords t 0).val - 2) / 8 := by
  decide +kernel

/-- The blocks of the branches and of the two halves of the matrix at a point. -/
theorem factor_maps : ∀ t : Fin grid0.N,
    cc0_transform_0 (grid0.coords t) 0 = (grid0.coords t 0).val ∧ cc0_transform_0 (grid0.coords t) 1 = 0
    ∧ cc0_transform_1 (grid0.coords t) 0 = (grid0.coords t 0).val ∧ cc0_transform_1 (grid0.coords t) 1 = 0
    ∧ cc0_transform_2 (grid0.coords t) 0 = 0 ∧ cc0_transform_2 (grid0.coords t) 1 = (grid0.coords t 1).val
    ∧ cc0_transform_3 (grid0.coords t) 0 = 0 ∧ cc0_transform_3 (grid0.coords t) 1 = (grid0.coords t 1).val := by
  decide +kernel

/-- The blocks of the residual, of layer 0's third table of gates, and of the result at a point. -/
theorem residual_maps : ∀ t : Fin grid0.N,
    cc0_transform_4 (grid0.coords t) 0 = (grid0.coords t 0).val ∧ cc0_transform_4 (grid0.coords t) 1 = (grid0.coords t 1).val
    ∧ cc0_transform_5 (grid0.coords t) 0 = 0 ∧ cc0_transform_5 (grid0.coords t) 1 = 2 ∧ cc0_transform_5 (grid0.coords t) 2 = 0
    ∧ cc0_transform_5 (grid0.coords t) 3 = (grid0.coords t 1).val
    ∧ cc0_transform_6 (grid0.coords t) 0 = (grid0.coords t 0).val ∧ cc0_transform_6 (grid0.coords t) 1 = (grid0.coords t 1).val := by
  decide +kernel

/-- There is a point at every pair of coordinates. -/
theorem point_at (i : Fin 34) (j : Fin 8) : ∃ t : Fin grid0.N, (grid0.coords t 0).val = i.val ∧ (grid0.coords t 1).val = j.val := by
  have key : ∀ t : Fin grid0.N, (grid0.coords t 0).val = t.val / 8 ∧ (grid0.coords t 1).val = t.val % 8 := by decide +kernel
  refine ⟨⟨8 * i.val + j.val, by show _ < grid0.N; rw [Gen.N_0]; omega⟩, ?_⟩
  obtain ⟨h0, h1⟩ := key ⟨8 * i.val + j.val, by show _ < grid0.N; rw [Gen.N_0]; omega⟩
  rw [h0, h1]
  dsimp only
  omega

variable (m : (ℓ : Loc nD τ sig) → Buf (Elt Ideal) ℓ)

/-- The gated residual of a device's five arguments. -/
def result (c : Dev nD) : S17408x4096.Idx → EReal :=
  mixed (m ((c : Thread nD τ).loc main_arg0)) (m ((c : Thread nD τ).loc main_arg1)) (m ((c : Thread nD τ).loc main_arg2))
    (m ((c : Thread nD τ).loc main_arg3)) (m ((c : Thread nD τ).loc main_arg4))

/-- The upper half of a matrix, in the kernel's format. -/
def upper (w : FVec Ideal S4096x4096 .f32) : FVec Ideal S2048x4096 .bf16 :=
  extractStridedSlice S2048x4096 ![0, 0] (truncf .bf16 w) slices_S4096x4096_S2048x4096_0_0

/-- The lower half of a matrix, in the kernel's format. -/
def lower (w : FVec Ideal S4096x4096 .f32) : FVec Ideal S2048x4096 .bf16 :=
  extractStridedSlice S2048x4096 ![2048, 0] (truncf .bf16 w) slices_S4096x4096_S2048x4096_2048_0

/-- The first branch is multiplied with the upper half of the matrix. -/
theorem upper_half (c : Dev nD) : V m c main_v1 = upper (m ((c : Thread nD τ).loc main_arg2)) := by
  show StableHlo.after hostOps0 _ (Proc.devRef .tc main_v1) = _
  after_results
  rfl

/-- The second branch is multiplied with the lower half of the matrix. -/
theorem lower_half (c : Dev nD) : V m c main_v2 = lower (m ((c : Thread nD τ).loc main_arg2)) := by
  show StableHlo.after hostOps0 _ (Proc.devRef .tc main_v2) = _
  after_results
  rfl

/-- What a point computes is the gated residual at the place of its block in the array. -/
theorem tile_eq (c : Dev nD) (t : Fin cfg0.N) (y : S512x512.Idx) :
    tile (grid0.coords t) (iblk m c 0 t) (iblk m c 1 t) (iblk m c 2 t) (iblk m c 3 t) (iblk m c 4 t) (iblk m c 5 t) y
      = result m c (((cfg0.win 6).blk t).view.emb y) := by
  obtain ⟨a0, a1, b0, b1, u0, u1, v0, v1⟩ := factor_maps t
  obtain ⟨x0, x1, g0, g1, g2, g3, o0, o1⟩ := residual_maps t
  obtain ⟨r0, r1, r3, r2⟩ := gate_of_point t
  have hi : (grid0.coords t 0).val < 34 := (grid0.coords t 0).isLt
  have hy0 : (y 0).val < 512 := (y 0).isLt
  have e0 : ((((cfg0.win 6).blk t).view.emb y : S17408x4096.Idx) 0).val = (grid0.coords t 0).val * 512 + (y 0).val := by
    show cc0_transform_6 (grid0.coords t) 0 * 512 + 1 * (y 0).val = _
    rw [o0, Nat.one_mul]
  have e1 : ((((cfg0.win 6).blk t).view.emb y : S17408x4096.Idx) 1).val = (grid0.coords t 1).val * 512 + (y 1).val := by
    show cc0_transform_6 (grid0.coords t) 1 * 512 + 1 * (y 1).val = _
    rw [o1, Nat.one_mul]
  generalize (((cfg0.win 6).blk t).view.emb y : S17408x4096.Idx) = Y at e0 e1
  unfold tile
  refine (congrArg _ (eq_ix2 y)).trans ((pay_products_apply _ _ _ _ _ _ (y 0) (y 1)).trans ?_)
  refine mixed_eq Y ?_ ?_ (fun k => ?_) (fun k => ?_) (fun k => ?_) (fun k => ?_)
  · show (V m c (Pipeline.arrRef spec0 4) : S17408x4096.Idx → EReal) (((cfg0.win 4).blk t).view.emb (ix2 (y 0) (y 1))) = _
    rw [show V m c (Pipeline.arrRef spec0 4) = m ((c : Thread nD τ).loc main_arg3) from V_main_arg3 m c]
    congr 1
    funext a
    apply Fin.ext
    match a with
    | ⟨0, _⟩ => show cc0_transform_4 (grid0.coords t) 0 * 512 + 1 * (y 0).val = (Y 0).val; rw [x0, e0, Nat.one_mul]
    | ⟨1, _⟩ => show cc0_transform_4 (grid0.coords t) 1 * 512 + 1 * (y 1).val = (Y 1).val; rw [x1, e1, Nat.one_mul]
  · show (V m c (Pipeline.arrRef spec0 5) : S4x6x8x4096.Idx → EReal) (((cfg0.win 5).blk t).view.emb
      ((Rect.unit (s := S1x1x8x512) (k0_off1 (grid0.coords t)) S1x1x1x512.size (k0_off1_inb (grid0.coords t))).idx
        (ix4 (0 : Fin 1) (0 : Fin 1) (0 : Fin 1) (y 1)))) = _
    rw [show V m c (Pipeline.arrRef spec0 5) = m ((c : Thread nD τ).loc main_arg4) from V_main_arg4 m c]
    congr 1
    funext a
    apply Fin.ext
    match a with
    | ⟨0, _⟩ => show cc0_transform_5 (grid0.coords t) 0 * 1 + 1 * (k0_off1 (grid0.coords t) 0 + 1 * 0) = 0; rw [g0, r0]
    | ⟨1, _⟩ => show cc0_transform_5 (grid0.coords t) 1 * 1 + 1 * (k0_off1 (grid0.coords t) 1 + 1 * 0) = 2; rw [g1, r1]
    | ⟨2, _⟩ =>
      show cc0_transform_5 (grid0.coords t) 2 * 8 + 1 * (k0_off1 (grid0.coords t) 2 + 1 * 0)
        = if (Y 0).val < 1024 then 0 else 1 + ((Y 0).val - 1024) / 4096
      rw [g2, r2, e0]
      split_ifs <;> omega
    | ⟨3, _⟩ =>
      show cc0_transform_5 (grid0.coords t) 3 * 512 + 1 * (k0_off1 (grid0.coords t) 3 + 1 * (y 1).val) = (Y 1).val
      rw [g3, r3, e1]
      omega
  · show (V m c (Pipeline.arrRef spec0 0) : S17408x2048.Idx → EReal) (((cfg0.win 0).blk t).view.emb (ix2 (y 0) k)) = _
    rw [show V m c (Pipeline.arrRef spec0 0) = m ((c : Thread nD τ).loc main_arg0) from V_main_arg0 m c]
    congr 1
    funext a
    apply Fin.ext
    match a with
    | ⟨0, _⟩ => show cc0_transform_0 (grid0.coords t) 0 * 512 + 1 * (y 0).val = (Y 0).val; rw [a0, e0, Nat.one_mul]
    | ⟨1, _⟩ => show cc0_transform_0 (grid0.coords t) 1 * 2048 + 1 * k.val = k.val; rw [a1]; omega
  · show (V m c (Pipeline.arrRef spec0 1) : S17408x2048.Idx → EReal) (((cfg0.win 1).blk t).view.emb (ix2 (y 0) k)) = _
    rw [show V m c (Pipeline.arrRef spec0 1) = m ((c : Thread nD τ).loc main_arg1) from V_main_arg1 m c]
    congr 1
    funext a
    apply Fin.ext
    match a with
    | ⟨0, _⟩ => show cc0_transform_1 (grid0.coords t) 0 * 512 + 1 * (y 0).val = (Y 0).val; rw [b0, e0, Nat.one_mul]
    | ⟨1, _⟩ => show cc0_transform_1 (grid0.coords t) 1 * 2048 + 1 * k.val = k.val; rw [b1]; omega
  · show (V m c (Pipeline.arrRef spec0 2) : S2048x4096.Idx → EReal) (((cfg0.win 2).blk t).view.emb (ix2 k (y 1))) = _
    rw [show V m c (Pipeline.arrRef spec0 2) = upper (m ((c : Thread nD τ).loc main_arg2)) from upper_half m c]
    refine extractStridedSlice_apply _ _ _ _ (ix2 (⟨k.val, by omega⟩ : Fin 4096) (Y 1)) fun a => ?_
    match a with
    | ⟨0, _⟩ => show k.val = 0 + (cc0_transform_2 (grid0.coords t) 0 * 2048 + 1 * k.val); rw [u0]; omega
    | ⟨1, _⟩ => show (Y 1).val = 0 + (cc0_transform_2 (grid0.coords t) 1 * 512 + 1 * (y 1).val); rw [u1, e1]; omega
  · show (V m c (Pipeline.arrRef spec0 3) : S2048x4096.Idx → EReal) (((cfg0.win 3).blk t).view.emb (ix2 k (y 1))) = _
    rw [show V m c (Pipeline.arrRef spec0 3) = lower (m ((c : Thread nD τ).loc main_arg2)) from lower_half m c]
    refine extractStridedSlice_apply _ _ _ _ (ix2 (⟨2048 + k.val, by omega⟩ : Fin 4096) (Y 1)) fun a => ?_
    match a with
    | ⟨0, _⟩ => show 2048 + k.val = 2048 + (cc0_transform_3 (grid0.coords t) 0 * 2048 + 1 * k.val); rw [v0]; omega
    | ⟨1, _⟩ => show (Y 1).val = 0 + (cc0_transform_3 (grid0.coords t) 1 * 512 + 1 * (y 1).val); rw [v1, e1]; omega

/-- A point's block of results: 512 rows and 512 columns. -/
theorem mem_blk (t : Fin cfg0.N) (y : S17408x4096.Idx) : y ∈ ((cfg0.win 6).blk t).view.set ↔
    ∀ a, cc0_transform_6 (grid0.coords t) a * S512x512.size a ≤ (y a).val
      ∧ (y a).val < cc0_transform_6 (grid0.coords t) a * S512x512.size a + S512x512.size a := by
  show y ∈ ((View.whole main_v3).slice (win0_6.rect t)).set ↔ _
  rw [View.set_slice_whole, Rect.mem_set_unit]
  rfl

/-- Every entry of the result array is in some point's block. -/
theorem covered (y : S17408x4096.Idx) : ∃ t : Fin cfg0.N, (cfg0.win 6).flush t = true ∧ y ∈ ((cfg0.win 6).blk t).view.set := by
  have h0 : (y 0).val < 17408 := (y 0).isLt
  have h1 : (y 1).val < 4096 := (y 1).isLt
  obtain ⟨t, hi, hj⟩ := point_at ⟨(y 0).val / 512, by omega⟩ ⟨(y 1).val / 512, by omega⟩
  obtain ⟨_, _, _, _, _, _, o0, o1⟩ := residual_maps t
  refine ⟨t, flush0_6 t, (mem_blk t y).2 fun a => ?_⟩
  dsimp only at hi hj
  match a with
  | ⟨0, _⟩ =>
    show cc0_transform_6 (grid0.coords t) 0 * 512 ≤ (y 0).val ∧ (y 0).val < cc0_transform_6 (grid0.coords t) 0 * 512 + 512
    rw [o0, hi]
    omega
  | ⟨1, _⟩ =>
    show cc0_transform_6 (grid0.coords t) 1 * 512 ≤ (y 1).val ∧ (y 1).val < cc0_transform_6 (grid0.coords t) 1 * 512 + 512
    rw [o1, hj]
    omega

/-- After the run the output array is the gated residual of the arguments. -/
theorem array_is (c : Dev nD) : (dats m 0 c).arrAt 6 cfg0.N = result m c := by
  refine (dats m 0 c).arrAt_eq_of_cover 6 (result m c) ?_ covered
  intro t _
  rw [Value.flushed6_A, out_eq_tile]
  have hX := tile_eq m c t
  generalize tile (grid0.coords t) (iblk m c 0 t) (iblk m c 1 t) (iblk m c 2 t) (iblk m c 3 t) (iblk m c 4 t) (iblk m c 5 t) = X at hX ⊢
  funext y
  rw [View.read_apply]
  exact (hX y).trans (cast_eq _ _).symm

end Cert.Mix

end
-- ==== Proof.MixRef.lean ====
/- The mixer's reference computes the gated residual of the joined branches. -/
module

public import proofs.«01_k».proof.Proof.Gen.Reference5Ideal.Read
public import proofs.«01_k».proof.Proof.MixSpec
public import proofs.«01_k».proof.Proof.ProjRef

@[expose] public section

set_option maxRecDepth 16384

noncomputable section

namespace Cert.MixRef

open Cert.Reference5Ideal Cert.Reference5Ideal.Gen Cert.Reference5Ideal.Read Cert.Mix
open Idealize.ShloMosaic Idealize.ShloMosaic.ValueIdx

variable (f y : FVec Ideal S17408x2048 .bf16) (w : FVec Ideal S4096x4096 .f32) (x : FVec Ideal S17408x4096 .f32)
  (g : FVec Ideal S4x6x8x4096 .f32)

/-- The reference joins the branches. -/
theorem joined_eq : val_main_v2 (F := Ideal) f y = joined f y := by
  funext i
  have h1 : (i 1).val < 4096 := (i 1).isLt
  unfold val_main_v2
  by_cases h : (i 1).val < 2048
  · refine Eq.trans ?_ ((congrArg _ (eq_ix2 i)).trans (joined_left f y (i 0) ⟨(i 1).val, h⟩ (i 1) rfl)).symm
    exact concatenate_pair_apply_left (t := S17408x4096) (s₁ := S17408x2048) (s₂ := S17408x2048) 1 _ _ _ i rfl
      (ix2 (i 0) ⟨(i 1).val, h⟩) (fun b => match b with
      | ⟨0, _⟩ => rfl
      | ⟨1, _⟩ => rfl)
  · refine Eq.trans ?_ ((congrArg _ (eq_ix2 i)).trans (joined_right f y (i 0) ⟨(i 1).val - 2048, by omega⟩ (i 1)
      (by show (i 1).val = 2048 + ((i 1).val - 2048); omega))).symm
    exact concatenate_pair_apply_right (t := S17408x4096) (s₁ := S17408x2048) (s₂ := S17408x2048) 1 _ _ _ i rfl rfl
      (ix2 (i 0) ⟨(i 1).val - 2048, by omega⟩) (fun b => match b with
      | ⟨0, _⟩ => fun _ => rfl
      | ⟨1, _⟩ => fun hb => absurd rfl hb) (by show (i 1).val - 2048 + 2048 = (i 1).val; omega)

/-- The reference's table of gates is that of the attention's projection, read with layer 0 at every layer. -/
theorem table_eq : val_main_v5 (F := Ideal) g = Cert.Reference3Ideal.Read.val_main_v4 (F := Ideal) (layerZero g) := by
  funext i
  rw [val_main_v5_apply, val_main_v4_apply, Cert.Reference3Ideal.Read.val_main_v4_apply, Cert.Reference3Ideal.Read.val_main_v3_apply]
  unfold layerZero
  refine congrArg g (funext fun b => Fin.ext ?_)
  match b with
  | ⟨0, _⟩ => rfl
  | ⟨1, _⟩ => rfl
  | ⟨2, _⟩ => rfl
  | ⟨3, _⟩ => rfl

/-- The reference does with the joined branches what the attention's does with its rows. -/
theorem same_projection : val_main_v24 (F := Ideal) f y w x g
    = Cert.Reference3Ideal.Read.val_main_v23 (F := Ideal) (joined f y) w x (layerZero g) := by
  unfold val_main_v24 val_main_v23 val_main_v22 val_main_v21 val_main_v20 val_main_v19 val_main_v18 val_main_v17 val_main_v16
    val_main_v13 val_main_v12 val_main_v11 val_main_v10 val_main_v9 val_main_v8 val_main_v7 val_main_v3
  rw [table_eq, joined_eq]
  rfl

/-- The reference's array is the gated residual of its arguments. -/
theorem reference_eq : val_main_v24 (F := Ideal) f y w x g = mixed f y w x g :=
  (same_projection f y w x g).trans (Cert.ProjRef.reference_eq _ _ _ _)

end Cert.MixRef

end
-- ==== Proof.MixClaims.lean ====
/- The claims about the mixer's output projection: its frames, and that the kernel and the reference compute the same array. -/
module

public import proofs.«01_k».proof.Defs
public import proofs.«01_k».proof.Proof.Gen.Kernel5.Frame
public import proofs.«01_k».proof.Proof.Gen.Reference5Ideal.Run
public import proofs.«01_k».proof.Proof.Gen.Reference5Ideal
public import proofs.«01_k».proof.Proof.MixArray
public import proofs.«01_k».proof.Proof.MixRef
public import Idealize.ShloMosaic.Adequacy
public import Idealize.ShloMosaic.Init

@[expose] public section

noncomputable section

namespace Cert.Mix

open Idealize.ShloMosaic Idealize.SL.Sem

/-- The reference's frame: no operation writes an argument, and it declares no semaphore. -/
theorem frame_mix_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel and the reference compute the same array, the gated residual of the joined branches, whatever the arguments. -/
theorem mix_algebraic : Cert.algebraic_Kernel5Ideal_Reference5Ideal (hKernel5Ideal := Cert.Kernel5Ideal.Gen.facts)
    (hReference5Ideal := Cert.Reference5Ideal.Gen.facts) := fun m ρ m' ρ' _ hag =>
  ⟨fun c => result m c,
    (θ_run Cert.Kernel5Ideal.defs _ _).mono (fun _ h c => ⟨(h c).1.trans (array_is m c), (h c).2⟩)
      (Cert.Kernel5Ideal.Value.run_blocks (F := Ideal) m ρ),
    (θ_run Cert.Reference5Ideal.defs _ _).mono (fun _ h c => ⟨(h c).1.trans (by
        obtain ⟨e0, e1, e2, e3, e4⟩ := hag c
        rw [Cert.Reference5Ideal.Read.val_main_v24_eq, e0, e1, e2, e3, e4]
        exact Cert.MixRef.reference_eq _ _ _ _ _), (h c).2⟩)
      (Cert.Reference5Ideal.Value.run (F := Ideal) m' ρ')⟩

end Cert.Mix

end
-- ==== Proof.FinalSpec.lean ====
/- The final norm: every latent row normed by its root mean square and scaled. -/
module

public import proofs.«01_k».proof.Proof.NormSpec

@[expose] public section

noncomputable section

namespace Cert.Final

open Idealize.ShloMosaic Idealize.ShloMosaic.ValueIdx

/-- The place of a latent row among all rows: after the 1024 rows of the context. -/
def latentRow (r : Fin 16384) : Fin 17408 := ⟨1024 + r.val, by omega⟩

/-- The latent rows, each normed by its root mean square and scaled by `g`. -/
def normed (x : (⟨2, ![17408, 4096]⟩ : Shape).Idx → EReal) (g : (⟨1, ![4096]⟩ : Shape).Idx → EReal) :
    (⟨2, ![16384, 4096]⟩ : Shape).Idx → EReal := fun y =>
  x (ix2 (latentRow (y 0)) (y 1)) * Cert.Norm.scale (fun k => x (ix2 (latentRow (y 0)) k)) * g (ix1 (y 1))

/-- An entry of the result from the entries it is made of. -/
theorem normed_eq {x : (⟨2, ![17408, 4096]⟩ : Shape).Idx → EReal} {g : (⟨1, ![4096]⟩ : Shape).Idx → EReal}
    (y : (⟨2, ![16384, 4096]⟩ : Shape).Idx) {x' : Fin 4096 → EReal} {d : Fin 4096} {g' : EReal}
    (hx : ∀ k, x' k = x (ix2 (latentRow (y 0)) k)) (hd : d = y 1) (hg : g' = g (ix1 (y 1))) :
    x' d * Cert.Norm.scale x' * g' = normed x g y := by
  rw [funext hx, hd, hg]
  rfl

end Cert.Final

end
-- ==== Proof.FinalArray.lean ====
/- The final norm's output array: every point's block is its rows normed, and the blocks cover the array. -/
module

public import proofs.«01_k».proof.Proof.Gen.Kernel6Ideal.Frame
public import proofs.«01_k».proof.Proof.Gen.Kernel6Ideal.Value
public import proofs.«01_k».proof.Proof.FinalSpec
public import proofs.«01_k».proof.Proof.NormPoint

@[expose] public section

set_option maxRecDepth 16384

noncomputable section

namespace Cert.Final

open Cert.Kernel6Ideal Cert.Kernel6Ideal.Gen
open Idealize.ShloMosaic Idealize.ShloMosaic.TcCoe Idealize.SL Idealize.SL.Sem Idealize.ShloMosaic.ValueIdx

/-- The mean of the squares of a row of the block. -/
theorem mean_apply (x : FVec Ideal S512x4096 .f32) (r : Fin 512) :
    divf (shapeCast S512x1 (multiReduction .add [1] S512 (mulf x x) 0x00000000#32 reduces_S512x4096_S512 (.inl rfl) rfl) shapeCasts_S512_S512x1)
      (broadcast S512x1 (Scalar.ofBits (F := Ideal) .f32 0x45800000#32)) (ix2 r (0 : Fin 1))
      = Ideal.div (∑ k : Fin 4096, (x (ix2 r k) : EReal) * x (ix2 r k)) (Ideal.ofBits .f32 0x45800000#32) :=
  Cert.Norm.mean_apply x r

/-- The body's arithmetic at an entry: the row's entry, scaled by the reciprocal of the row's root mean square and by `g`. -/
theorem pay_apply (x : FVec Ideal S512x4096 .f32) (g : FVec Ideal S1x4096 .f32) (r : Fin 512) (d : Fin 4096) :
    k0_pay1 (F := Ideal) x g (ix2 r d)
      = (x (ix2 r d) : EReal) * Cert.Norm.scale (fun k => x (ix2 r k)) * g (ix2 (0 : Fin 1) d) := by
  unfold k0_pay1
  rw [shapeCast_self, mulf_apply, mulf_apply, broadcastTo_apply _ broadcasts_S1x4096_S512x4096 (ix2 r d) (ix2 (0 : Fin 1) d)
      (fun a => match a with | ⟨0, _⟩ => rfl | ⟨1, _⟩ => rfl),
    broadcastTo_apply _ broadcasts_S512x1_S512x4096 (ix2 r d) (ix2 r (0 : Fin 1)) (fun a => match a with | ⟨0, _⟩ => rfl | ⟨1, _⟩ => rfl)]
  unfold Cert.Norm.scale
  rw [← mean_apply x r]
  rfl

/-- The blocks of a point: its block of latent rows, after the context's two blocks, and the whole row of factors. -/
theorem maps : ∀ t : Fin grid0.N,
    cc0_transform_0 (grid0.coords t) 0 = t.val + 2 ∧ cc0_transform_0 (grid0.coords t) 1 = 0
    ∧ cc0_transform_1 (grid0.coords t) 0 = 0 ∧ cc0_transform_1 (grid0.coords t) 1 = 0
    ∧ cc0_transform_2 (grid0.coords t) 0 = t.val ∧ cc0_transform_2 (grid0.coords t) 1 = 0 := by
  decide +kernel

variable (m : (ℓ : Loc nD τ sig) → Buf (Elt Ideal) ℓ)

/-- The normed latent rows of a device's two arguments. -/
def result (c : Dev nD) : S16384x4096.Idx → EReal :=
  normed (m ((c : Thread nD τ).loc main_arg0)) (m ((c : Thread nD τ).loc main_arg1))

/-- The factors are staged as one row. -/
theorem factor_row (c : Dev nD) :
    V m c main_v0 = shapeCast S1x4096 (m ((c : Thread nD τ).loc main_arg1)) shapeCasts_S4096_S1x4096 := by
  show StableHlo.after hostOps0 _ (Proc.devRef .tc main_v0) = _
  after_results
  rfl

/-- What a point computes is the normed rows at the place of its block in the array. -/
theorem tile_eq (c : Dev nD) (t : Fin cfg0.N) (y : S512x4096.Idx) :
    k0_pay1 (F := Ideal) (iblk m c 0 t) (iblk m c 1 t) y = result m c (((cfg0.win 2).blk t).view.emb y) := by
  obtain ⟨a0, a1, b0, b1, o0, o1⟩ := maps t
  have e0 : ((((cfg0.win 2).blk t).view.emb y : S16384x4096.Idx) 0).val = t.val * 512 + (y 0).val := by
    show cc0_transform_2 (grid0.coords t) 0 * 512 + 1 * (y 0).val = _
    rw [o0, Nat.one_mul]
  have e1 : ((((cfg0.win 2).blk t).view.emb y : S16384x4096.Idx) 1).val = (y 1).val := by
    show cc0_transform_2 (grid0.coords t) 1 * 4096 + 1 * (y 1).val = _
    rw [o1]
    omega
  generalize (((cfg0.win 2).blk t).view.emb y : S16384x4096.Idx) = Y at e0 e1
  refine (congrArg _ (eq_ix2 y)).trans ((pay_apply _ _ (y 0) (y 1)).trans ?_)
  refine normed_eq Y (x' := fun k => iblk m c 0 t (ix2 (y 0) k)) (fun k => ?_) (Fin.ext e1.symm) ?_
  · show (V m c (Pipeline.arrRef spec0 0) : S17408x4096.Idx → EReal) (((cfg0.win 0).blk t).view.emb (ix2 (y 0) k)) = _
    rw [show V m c (Pipeline.arrRef spec0 0) = m ((c : Thread nD τ).loc main_arg0) from V_main_arg0 m c]
    congr 1
    funext a
    apply Fin.ext
    match a with
    | ⟨0, _⟩ => show cc0_transform_0 (grid0.coords t) 0 * 512 + 1 * (y 0).val = 1024 + (Y 0).val; rw [a0, e0]; omega
    | ⟨1, _⟩ => show cc0_transform_0 (grid0.coords t) 1 * 4096 + 1 * k.val = k.val; rw [a1]; omega
  · show (V m c (Pipeline.arrRef spec0 1) : S1x4096.Idx → EReal) (((cfg0.win 1).blk t).view.emb (ix2 (0 : Fin 1) (y 1))) = _
    rw [show V m c (Pipeline.arrRef spec0 1) = shapeCast S1x4096 (m ((c : Thread nD τ).loc main_arg1)) shapeCasts_S4096_S1x4096
      from factor_row m c]
    rw [show ((cfg0.win 1).blk t).view.emb (ix2 (0 : Fin 1) (y 1)) = (ix2 (0 : Fin 1) (Y 1) : S1x4096.Idx) from funext fun a => Fin.ext (by
      match a with
      | ⟨0, _⟩ => show cc0_transform_1 (grid0.coords t) 0 * 1 + 1 * 0 = 0; rw [b0]
      | ⟨1, _⟩ => show cc0_transform_1 (grid0.coords t) 1 * 4096 + 1 * (y 1).val = (Y 1).val; rw [b1, e1]; omega)]
    exact shapeCast_apply _ _ _ (ix1 (Y 1)) (by
      rw [Shape.rowMajor_val_one, Shape.rowMajor_val_two]; show (Y 1).val = 0 * 4096 + (Y 1).val; omega)

/-- A point's block of results: 512 whole rows. -/
theorem mem_blk (t : Fin cfg0.N) (y : S16384x4096.Idx) : y ∈ ((cfg0.win 2).blk t).view.set ↔
    ∀ a, cc0_transform_2 (grid0.coords t) a * S512x4096.size a ≤ (y a).val
      ∧ (y a).val < cc0_transform_2 (grid0.coords t) a * S512x4096.size a + S512x4096.size a := by
  show y ∈ ((View.whole main_v1).slice (win0_2.rect t)).set ↔ _
  rw [View.set_slice_whole, Rect.mem_set_unit]
  rfl

/-- Every entry of the result array is in some point's block. -/
theorem covered (y : S16384x4096.Idx) : ∃ t : Fin cfg0.N, (cfg0.win 2).flush t = true ∧ y ∈ ((cfg0.win 2).blk t).view.set := by
  have h0 : (y 0).val < 16384 := (y 0).isLt
  have h1 : (y 1).val < 4096 := (y 1).isLt
  have ht : (y 0).val / 512 < grid0.N := by rw [Gen.N_0]; omega
  obtain ⟨_, _, _, _, o0, o1⟩ := maps ⟨(y 0).val / 512, ht⟩
  refine ⟨⟨(y 0).val / 512, ht⟩, flush0_2 _, (mem_blk _ y).2 fun a => ?_⟩
  match a with
  | ⟨0, _⟩ =>
    show cc0_transform_2 (grid0.coords ⟨(y 0).val / 512, ht⟩) 0 * 512 ≤ (y 0).val
      ∧ (y 0).val < cc0_transform_2 (grid0.coords ⟨(y 0).val / 512, ht⟩) 0 * 512 + 512
    rw [o0]
    dsimp only
    omega
  | ⟨1, _⟩ =>
    show cc0_transform_2 (grid0.coords ⟨(y 0).val / 512, ht⟩) 1 * 4096 ≤ (y 1).val
      ∧ (y 1).val < cc0_transform_2 (grid0.coords ⟨(y 0).val / 512, ht⟩) 1 * 4096 + 4096
    rw [o1]
    omega

/-- What the body leaves in its output buffer is its arithmetic on its two blocks. -/
theorem out_eq (x : Vec Ideal S512x4096 .f32) (g : Vec Ideal S1x4096 .f32) : out0_2 (F := Ideal) x g = k0_pay1 x g := by
  unfold out0_2
  rw [View.canon_unit_zero (by decide), View.ld_unit_zero (by decide), View.ld_unit_zero (by decide)]

/-- After the run the output array is the normed latent rows of the arguments. -/
theorem array_is (c : Dev nD) : (dats m 0 c).arrAt 2 cfg0.N = result m c := by
  refine (dats m 0 c).arrAt_eq_of_cover 2 (result m c) ?_ covered
  intro t _
  rw [Value.flushed2, out_eq]
  have hX := tile_eq m c t
  generalize k0_pay1 (F := Ideal) (iblk m c 0 t) (iblk m c 1 t) = X at hX ⊢
  funext y
  rw [View.read_apply]
  exact (hX y).trans (cast_eq _ _).symm

end Cert.Final

end
-- ==== Proof.FinalRef.lean ====
/- The final norm's reference computes the normed latent rows. -/
module

public import proofs.«01_k».proof.Proof.Gen.Reference6Ideal.Read
public import proofs.«01_k».proof.Proof.FinalSpec

@[expose] public section

set_option maxRecDepth 16384

noncomputable section

namespace Cert.FinalRef

open Cert.Reference6Ideal Cert.Reference6Ideal.Gen Cert.Reference6Ideal.Read Cert.Final
open Idealize.ShloMosaic Idealize.ShloMosaic.ValueIdx

variable (x : FVec Ideal S17408x4096 .f32) (g : FVec Ideal S4096 .f32)

/-- An entry of the reference's norm, batch element by batch element. -/
theorem latent_apply (b : Fin 4) (r d : Fin 4096) (y : S16384x4096.Idx) (h0 : (y 0).val = b.val * 4096 + r.val) (h1 : (y 1).val = d.val) :
    val_main_v14 (F := Ideal) x g (ix3 b r d) = normed x g y := by
  have hx : ∀ k : Fin 4096, val_main_v1 (F := Ideal) x (ix3 b r k) = x (ix2 (latentRow (y 0)) k) := fun k => by
    rw [val_main_v1_apply, val_main_v0_apply]
    refine congrArg x (funext fun a => Fin.ext ?_)
    match a with
    | ⟨0, _⟩ => show 1024 + ((b.val * 4096 + r.val) * 4096 + k.val) / 4096 = 1024 + (y 0).val; omega
    | ⟨1, _⟩ => show ((b.val * 4096 + r.val) * 4096 + k.val) % 4096 = k.val; omega
  rw [← normed_eq (x := x) (g := g) y hx (d := d) (Fin.ext h1.symm) rfl]
  rw [val_main_v14_apply, val_main_v11_apply, val_main_v10_apply, val_main_v9_apply, val_main_v8_apply, val_main_v6_apply,
    val_main_v4_apply, val_main_v3_apply, val_main_v5_apply, val_main_v7_apply, val_main_v13_apply, val_main_v12_apply,
    val_main_cst_apply, val_main_cst_0_apply, val_main_cst_1_apply]
  rw [Ideal.ofBits_def, Ideal.ofBits_zero_f32, zero_add, Ideal.hostDivf_def, Ideal.hostUnary_rsqrt_def]
  unfold Cert.Norm.scale
  refine congrArg₂ (fun u v : EReal => u * v) (congrArg₂ (fun u v : EReal => u * v) rfl (congrArg Ideal.rsqrt
    (congrArg₂ (fun u v : EReal => u + v) (congrArg₂ Ideal.div (Finset.sum_congr rfl fun k _ => ?_) rfl) rfl))) (congrArg g ?_)
  · rw [val_main_v2_apply, show idx_main_v3 (idx_main_v4 (idx_main_v10 (ix3 b r d))) k = ix3 b r k from eq_ix3 _]
    rfl
  · exact (eq_ix1 _).trans (congrArg (fun n : Fin 4096 => ix1 n) (Fin.ext h1.symm))

/-- The reference's array is the normed latent rows. -/
theorem reference_eq : val_main_v15 (F := Ideal) x g = normed x g := by
  funext y
  have h0 : (y 0).val < 16384 := (y 0).isLt
  have h1 : (y 1).val < 4096 := (y 1).isLt
  rw [val_main_v15_apply, ← latent_apply x g ⟨(y 0).val / 4096, by omega⟩ ⟨(y 0).val % 4096, Nat.mod_lt _ (by decide)⟩ ⟨(y 1).val, h1⟩ y
    (by show (y 0).val = (y 0).val / 4096 * 4096 + (y 0).val % 4096; omega) rfl]
  refine congrArg _ (funext fun a => Fin.ext ?_)
  match a with
  | ⟨0, _⟩ => show ((y 0).val * 4096 + (y 1).val) / 16777216 = (y 0).val / 4096; omega
  | ⟨1, _⟩ => show ((y 0).val * 4096 + (y 1).val) / 4096 % 4096 = (y 0).val % 4096; omega
  | ⟨2, _⟩ => show ((y 0).val * 4096 + (y 1).val) % 4096 = (y 1).val; omega

end Cert.FinalRef

end
-- ==== Proof.FinalClaims.lean ====
/- The claims about the final norm: its frames, and that the kernel and the reference compute the same array. -/
module

public import proofs.«01_k».proof.Defs
public import proofs.«01_k».proof.Proof.Gen.Kernel6.Frame
public import proofs.«01_k».proof.Proof.Gen.Reference6Ideal.Run
public import proofs.«01_k».proof.Proof.Gen.Reference6Ideal
public import proofs.«01_k».proof.Proof.FinalArray
public import proofs.«01_k».proof.Proof.FinalRef
public import Idealize.ShloMosaic.Adequacy
public import Idealize.ShloMosaic.Init

@[expose] public section

noncomputable section

namespace Cert.Final

open Idealize.ShloMosaic Idealize.SL.Sem

/-- The reference's frame: no operation writes an argument, and it declares no semaphore. -/
theorem frame_final_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel and the reference compute the same array, the normed latent rows, whatever the arguments. -/
theorem final_algebraic : Cert.algebraic_Kernel6Ideal_Reference6Ideal (hKernel6Ideal := Cert.Kernel6Ideal.Gen.facts)
    (hReference6Ideal := Cert.Reference6Ideal.Gen.facts) := fun m ρ m' ρ' _ hag =>
  ⟨fun c => result m c,
    (θ_run Cert.Kernel6Ideal.defs _ _).mono (fun _ h c => ⟨(h c).1.trans (array_is m c), (h c).2⟩)
      (Cert.Kernel6Ideal.Value.run_blocks (F := Ideal) m ρ),
    (θ_run Cert.Reference6Ideal.defs _ _).mono (fun _ h c => ⟨(h c).1.trans (by
        obtain ⟨e0, e1⟩ := hag c
        rw [Cert.Reference6Ideal.Read.val_main_v15_eq, e0, e1]
        exact Cert.FinalRef.reference_eq _ _), (h c).2⟩)
      (Cert.Reference6Ideal.Value.run (F := Ideal) m' ρ')⟩

end Cert.Final

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Array
public import proofs.«01_k».proof.Proof.RefValue
public import proofs.«01_k».proof.Proof.Finite
public import proofs.«01_k».proof.Proof.ExpClaims
public import proofs.«01_k».proof.Proof.ProjClaims
public import proofs.«01_k».proof.Proof.NormClaims
public import proofs.«01_k».proof.Proof.MixClaims
public import proofs.«01_k».proof.Proof.FinalClaims
public import Idealize.ShloMosaic.Adequacy
public import Idealize.ShloMosaic.Init

@[expose] public section

noncomputable section

namespace Cert.Proof

open Idealize.ShloMosaic Idealize.SL.Sem Cert.Kernel

/-- The reference's frame: its run at the arguments, which no operation writes, and it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- The kernel and the reference compute the same array, the attention, from finite queries, keys and sink logits. -/
theorem attention_algebraic : Cert.algebraic_KernelIdeal_ReferenceIdeal_pre_finite (hKernelIdeal := Cert.KernelIdeal.Gen.facts)
    (hReferenceIdeal := Cert.ReferenceIdeal.Gen.facts) (hPre_finite := Cert.Att.finite_facts) := fun m ρ m' ρ' hpre hag =>
  ⟨fun c => Cert.Att.attention (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono (fun _ h c => ⟨(h c).1.trans (Cert.Att.array_eq m c), (h c).2⟩)
      (Cert.KernelIdeal.Value.run_blocks (F := Ideal) m ρ),
    (θ_run Cert.ReferenceIdeal.defs _ _).mono (fun _ h c => ⟨(h c).1.trans (by
        rw [Cert.ReferenceIdeal.Read.val_main_v81_eq, (hag c).1, (hag c).2]
        refine Cert.Att.reference_eq _ _ (fun R k n hn => Cert.Att.logit_ne_top _ (Cert.Att.cell_real _ _ (hpre c).1) R k n hn)
          (fun n => ?_)
        obtain ⟨r, hr⟩ := Cert.Att.sink_real _ _ (hpre c).2 n
        rw [hr]
        exact ⟨EReal.coe_ne_top r, EReal.coe_ne_bot r⟩), (h c).2⟩)
      (Cert.ReferenceIdeal.Value.run (F := Ideal) m' ρ')⟩

/-- All the claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Att.finite_facts, Cert.Exp.in_range_facts,
  fun m ρ _ => Cert.Kernel.Gen.frame m ρ, fun m ρ _ => Cert.KernelIdeal.Gen.frame m ρ,
  fun m ρ _ => Cert.KernelIdeal.Gen.frame m ρ, fun m ρ _ => frame_reference m ρ, fun m ρ _ => frame_reference m ρ,
  Cert.Exp.frame_printed, Cert.Exp.frame_experts, Cert.Exp.frame_experts_reference, fun m ρ _ => Cert.Exp.frame_experts_reference m ρ trivial,
  fun m ρ _ => Cert.Kernel3.Gen.frame m ρ, fun m ρ _ => Cert.Kernel3Ideal.Gen.frame m ρ, Cert.Proj.frame_projection_reference,
  fun m ρ _ => Cert.Kernel4.Gen.frame m ρ, fun m ρ _ => Cert.Kernel4Ideal.Gen.frame m ρ, Cert.Norm.frame_norm_reference,
  fun m ρ _ => Cert.Kernel5.Gen.frame m ρ, fun m ρ _ => Cert.Kernel5Ideal.Gen.frame m ρ, Cert.Mix.frame_mix_reference,
  fun m ρ _ => Cert.Kernel6.Gen.frame m ρ, fun m ρ _ => Cert.Kernel6Ideal.Gen.frame m ρ, Cert.Final.frame_final_reference,
  trivial, attention_algebraic, trivial, Cert.Exp.experts_algebraic, trivial, Cert.Proj.projection_algebraic, trivial, Cert.Norm.norm_algebraic,
  trivial, Cert.Mix.mix_algebraic, trivial, Cert.Final.final_algebraic⟩

end Cert.Proof

end
